-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "slope0" .f32 0x3EB8AA3B#32 (((Real.log 2)⁻¹ * (1 / 4) : ℝ) : EReal)
  ∧ IdealRules.named_const.Statement Cert.KernelIdeal.κ "slope1" .f32 0x3DB8AA3B#32 (((Real.log 2)⁻¹ * (1 / 16) : ℝ) : EReal)
  ∧ IdealRules.named_const.Statement Cert.KernelIdeal.κ "slope2" .f32 0x3CB8AA3B#32 (((Real.log 2)⁻¹ * (1 / 64) : ℝ) : EReal)
  ∧ IdealRules.named_const.Statement Cert.KernelIdeal.κ "slope3" .f32 0x3BB8AA3B#32 (((Real.log 2)⁻¹ * (1 / 256) : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)) →
    ∃ (v0 : (c : Dev Cert.TailIdeal.nD) → Buf (Elt Ideal) ((c.tc : Thread Cert.TailIdeal.nD Cert.TailIdeal.τ).loc Cert.TailIdeal.main_v0)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v46) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v63_0)) (v1 : (c : Dev Cert.ProjIdeal.nD) → Buf (Elt Ideal) ((c.tc : Thread Cert.ProjIdeal.nD Cert.ProjIdeal.τ).loc Cert.ProjIdeal.main_v63_1)) (v2 : (c : Dev Cert.ProjIdeal.nD) → Buf (Elt Ideal) ((c.tc : Thread Cert.ProjIdeal.nD Cert.ProjIdeal.τ).loc Cert.ProjIdeal.main_v63_3)) (v3 : (c : Dev Cert.ProjIdeal.nD) → Buf (Elt Ideal) ((c.tc : Thread Cert.ProjIdeal.nD Cert.ProjIdeal.τ).loc Cert.ProjIdeal.main_v63_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v63_0) = v0 c
          ∧ r.2.mem ((c.tc : Thread Cert.ProjIdeal.nD Cert.ProjIdeal.τ).loc Cert.ProjIdeal.main_v63_1) = v1 c
          ∧ r.2.mem ((c.tc : Thread Cert.ProjIdeal.nD Cert.ProjIdeal.τ).loc Cert.ProjIdeal.main_v63_3) = v2 c
          ∧ r.2.mem ((c.tc : Thread Cert.ProjIdeal.nD Cert.ProjIdeal.τ).loc Cert.ProjIdeal.main_v63_6) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v23) = v0 c
          ∧ r.2.mem ((c.tc : Thread Cert.ProjReferenceIdeal.nD Cert.ProjReferenceIdeal.τ).loc Cert.ProjReferenceIdeal.main_v24) = v1 c
          ∧ r.2.mem ((c.tc : Thread Cert.ProjReferenceIdeal.nD Cert.ProjReferenceIdeal.τ).loc Cert.ProjReferenceIdeal.main_v25) = v2 c
          ∧ r.2.mem ((c.tc : Thread Cert.ProjReferenceIdeal.nD Cert.ProjReferenceIdeal.τ).loc Cert.ProjReferenceIdeal.main_v39) = v3 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7))

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hTailReferenceIdeal : Cert.TailReferenceIdeal.Facts) (hProj : Cert.Proj.Facts) (hProjIdeal : Cert.ProjIdeal.Facts) (hProjReferenceIdeal : Cert.ProjReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Tail (hTail := hTail)
    ∧ quiescent_TailIdeal (hTailIdeal := hTailIdeal)
    ∧ quiescent_TailReferenceIdeal (hTailReferenceIdeal := hTailReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Tail_TailIdeal
    ∧ algebraic_TailIdeal_TailReferenceIdeal (hTailIdeal := hTailIdeal) (hTailReferenceIdeal := hTailReferenceIdeal)
    ∧ preserves_Proj_ProjIdeal
    ∧ algebraic_ProjIdeal_ProjReferenceIdeal (hProjIdeal := hProjIdeal) (hProjReferenceIdeal := hProjReferenceIdeal)
-- ==== Pre_finite_scores.lean ====
abbrev S65536x512 : Shape := ⟨2, ![65536, 512]⟩
abbrev S32x4x512x512 : Shape := ⟨4, ![32, 4, 512, 512]⟩
abbrev S65536x1024 : Shape := ⟨2, ![65536, 1024]⟩
abbrev S1x64 : Shape := ⟨2, ![1, 64]⟩
abbrev S1x128 : Shape := ⟨2, ![1, 128]⟩
abbrev S_ : Shape := ⟨0, ![]⟩
abbrev S65536x3072 : Shape := ⟨2, ![65536, 3072]⟩

class Facts : Prop where
  bitsLt_bf16_f32 : FTy.bits .bf16 < FTy.bits .f32
  bcast_S_S65536x512 : S_.BroadcastsInDim S65536x512 (![] : Fin 0 → Fin S65536x512.rank)
  bcast_S_S32x4x512x512 : S_.BroadcastsInDim S32x4x512x512 (![] : Fin 0 → Fin S32x4x512x512.rank)
  shapeCasts_S32x4x512x512_S65536x512 : S32x4x512x512.ShapeCasts S65536x512
  bcast_S_S65536x1024 : S_.BroadcastsInDim S65536x1024 (![] : Fin 0 → Fin S65536x1024.rank)
  concatenates_S65536x512_S65536x512_S65536x1024_S65536x1024_S65536x3072_d1 : Shape.Concatenates [S65536x512, S65536x512, S65536x1024, S65536x1024] S65536x3072 1

variable [Facts]

def fn {F : FTy → Type} [FloatOps F] (main_arg0 : FVec F S65536x512 .bf16) (main_arg1 : FVec F S32x4x512x512 .bf16) (main_arg2 : FVec F S65536x512 .bf16) (main_arg3 : FVec F S65536x1024 .bf16) (main_arg4 : FVec F S65536x1024 .bf16) (main_arg5 : FVec F S65536x512 .bf16) (main_arg6 : FVec F S1x64 .f32) (main_arg7 : FVec F S1x64 .f32) (main_arg8 : FVec F S1x64 .f32) (main_arg9 : FVec F S1x64 .f32) (main_arg10 : FVec F S1x128 .f32) : IVec S65536x3072 1 :=
  let main_v0 : FVec F S65536x512 .f32 := (extf .f32 · bitsLt_bf16_f32) main_arg0
  let main_v1 : FVec F S65536x512 .f32 := Host.absf main_v0
  let main_cst : FVec F S_ .f32 := constant S_ .f32 0x7F800000#32
  let main_v2 : FVec F S65536x512 .f32 := broadcastInDim S65536x512 ![] bcast_S_S65536x512 main_cst
  let main_v3 : IVec S65536x512 1 := cmpf .olt main_v1 main_v2
  let main_v4 : FVec F S32x4x512x512 .f32 := (extf .f32 · bitsLt_bf16_f32) main_arg1
  let main_v5 : FVec F S32x4x512x512 .f32 := Host.absf main_v4
  let main_cst_0 : FVec F S_ .f32 := constant S_ .f32 0x7F800000#32
  let main_v6 : FVec F S32x4x512x512 .f32 := broadcastInDim S32x4x512x512 ![] bcast_S_S32x4x512x512 main_cst_0
  let main_v7 : IVec S32x4x512x512 1 := cmpf .olt main_v5 main_v6
  let main_v8 : IVec S65536x512 1 := shapeCast S65536x512 main_v7 shapeCasts_S32x4x512x512_S65536x512
  let main_v9 : FVec F S65536x1024 .f32 := (extf .f32 · bitsLt_bf16_f32) main_arg3
  let main_v10 : FVec F S65536x1024 .f32 := Host.absf main_v9
  let main_cst_1 : FVec F S_ .f32 := constant S_ .f32 0x7F800000#32
  let main_v11 : FVec F S65536x1024 .f32 := broadcastInDim S65536x1024 ![] bcast_S_S65536x1024 main_cst_1
  let main_v12 : IVec S65536x1024 1 := cmpf .olt main_v10 main_v11
  let main_v13 : FVec F S65536x1024 .f32 := (extf .f32 · bitsLt_bf16_f32) main_arg4
  let main_v14 : FVec F S65536x1024 .f32 := Host.absf main_v13
  let main_cst_2 : FVec F S_ .f32 := constant S_ .f32 0x7F800000#32
  let main_v15 : FVec F S65536x1024 .f32 := broadcastInDim S65536x1024 ![] bcast_S_S65536x1024 main_cst_2
  let main_v16 : IVec S65536x1024 1 := cmpf .olt main_v14 main_v15
  let main_v17 : IVec S65536x3072 1 := concatenate S65536x3072 1 [⟨S65536x512, main_v3⟩, ⟨S65536x512, main_v8⟩, ⟨S65536x1024, main_v12⟩, ⟨S65536x1024, main_v16⟩] concatenates_S65536x512_S65536x512_S65536x1024_S65536x1024_S65536x3072_d1
  main_v17
-- ==== Kernel.lean ====
abbrev S65536x512 : Shape := ⟨2, ![65536, 512]⟩
abbrev S32x4x512x512 : Shape := ⟨4, ![32, 4, 512, 512]⟩
abbrev S65536x1024 : Shape := ⟨2, ![65536, 1024]⟩
abbrev S1x64 : Shape := ⟨2, ![1, 64]⟩
abbrev S1x128 : Shape := ⟨2, ![1, 128]⟩
abbrev S512x512 : Shape := ⟨2, ![512, 512]⟩
abbrev S1x4x512x512 : Shape := ⟨4, ![1, 4, 512, 512]⟩
abbrev S2048x512 : Shape := ⟨2, ![2048, 512]⟩
abbrev S512x1024 : Shape := ⟨2, ![512, 1024]⟩
abbrev S2048x1024 : Shape := ⟨2, ![2048, 1024]⟩
abbrev S4x1024x128 : Shape := ⟨3, ![4, 1024, 128]⟩
abbrev S4x1024x256 : Shape := ⟨3, ![4, 1024, 256]⟩
abbrev S1024x512 : Shape := ⟨2, ![1024, 512]⟩
abbrev S512x128 : Shape := ⟨2, ![512, 128]⟩
abbrev S1x512x128 : Shape := ⟨3, ![1, 512, 128]⟩
abbrev S512x256 : Shape := ⟨2, ![512, 256]⟩
abbrev S1x512x256 : Shape := ⟨3, ![1, 512, 256]⟩
abbrev S1x512 : Shape := ⟨2, ![1, 512]⟩
abbrev S1 : Shape := ⟨1, ![1]⟩
abbrev S1x1 : Shape := ⟨2, ![1, 1]⟩
abbrev S1024x1 : Shape := ⟨2, ![1024, 1]⟩
abbrev S1024x128 : Shape := ⟨2, ![1024, 128]⟩
abbrev S1x1024x128 : Shape := ⟨3, ![1, 1024, 128]⟩
abbrev S1x1x128x512 : Shape := ⟨4, ![1, 1, 128, 512]⟩
abbrev S128x512 : Shape := ⟨2, ![128, 512]⟩
abbrev S1024 : Shape := ⟨1, ![1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩

abbrev nBuf : Space → Nat
  | .hbm => 12
  | .vmem => 22
  | .smem => 0
  | _ => 0

abbrev bufTy : (tb : Table) → Fin (tcTables nBuf tb) → BufTy
  | .hbm, ⟨0, _⟩ => ⟨S65536x512, .bf16⟩
  | .hbm, ⟨1, _⟩ => ⟨S32x4x512x512, .bf16⟩
  | .hbm, ⟨2, _⟩ => ⟨S65536x512, .bf16⟩
  | .hbm, ⟨3, _⟩ => ⟨S65536x1024, .bf16⟩
  | .hbm, ⟨4, _⟩ => ⟨S65536x1024, .bf16⟩
  | .hbm, ⟨5, _⟩ => ⟨S65536x512, .bf16⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x128, .f32⟩
  | .hbm, ⟨11, _⟩ => ⟨S65536x1024, .bf16⟩
  | .local _ .vmem, ⟨0, _⟩ => ⟨S512x512, .bf16⟩
  | .local _ .vmem, ⟨1, _⟩ => ⟨S512x512, .bf16⟩
  | .local _ .vmem, ⟨2, _⟩ => ⟨S1x4x512x512, .bf16⟩
  | .local _ .vmem, ⟨3, _⟩ => ⟨S1x4x512x512, .bf16⟩
  | .local _ .vmem, ⟨4, _⟩ => ⟨S2048x512, .bf16⟩
  | .local _ .vmem, ⟨5, _⟩ => ⟨S2048x512, .bf16⟩
  | .local _ .vmem, ⟨6, _⟩ => ⟨S512x1024, .bf16⟩
  | .local _ .vmem, ⟨7, _⟩ => ⟨S512x1024, .bf16⟩
  | .local _ .vmem, ⟨8, _⟩ => ⟨S2048x1024, .bf16⟩
  | .local _ .vmem, ⟨9, _⟩ => ⟨S2048x1024, .bf16⟩
  | .local _ .vmem, ⟨10, _⟩ => ⟨S2048x512, .bf16⟩
  | .local _ .vmem, ⟨11, _⟩ => ⟨S2048x512, .bf16⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x128, .f32⟩
  | .local _ .vmem, ⟨17, _⟩ => ⟨S512x1024, .bf16⟩
  | .local _ .vmem, ⟨18, _⟩ => ⟨S512x1024, .bf16⟩
  | .local _ .vmem, ⟨19, _⟩ => ⟨S4x1024x128, .bf16⟩
  | .local _ .vmem, ⟨20, _⟩ => ⟨S4x1024x256, .bf16⟩
  | .local _ .vmem, ⟨21, _⟩ => ⟨S1024x512, .f32⟩
  | _, _ => ⟨S65536x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![32, 4], ![false, false]⟩

@[reducible] def k0_t1_loop (i : grid0.Coords) : Scf.Loop 32 :=
  let c0_i32_106 : BitVec 32 := 0#32
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let v163 : BitVec 32 := Scalar.subi v131 c0_i32_106
  let c1_i32_107 : BitVec 32 := 1#32
  let v165 : BitVec 32 := Scalar.divsi v163 c1_i32_107
  let v166 : BitVec 32 := Scalar.muli v165 c1_i32_107
  let v167 : BitVec 32 := Scalar.addi c0_i32_106 v166
  let c1_i32_108 : BitVec 32 := 1#32
  ⟨c0_i32_106, v167, c1_i32_108⟩
def k0_mult1 (i : grid0.Coords) (k0_t1 : Fin (k0_t1_loop i).trips) : BitVec 32 :=
  let c0_i32_106 : BitVec 32 := 0#32
  let c1_i32_108 : BitVec 32 := 1#32
  let arg17 : BitVec 32 := Scf.iv c0_i32_106 c1_i32_108 k0_t1
  let c512_i32_282 : BitVec 32 := 512#32
  let v589 : BitVec 32 := Scalar.muli arg17 c512_i32_282
  v589
def k0_off1 (i : grid0.Coords) (k0_t1 : Fin (k0_t1_loop i).trips) : Fin 4 → Nat :=
  let c0_286 : Index := 0#32
  let c0_i32_106 : BitVec 32 := 0#32
  let c1_i32_108 : BitVec 32 := 1#32
  let arg17 : BitVec 32 := Scf.iv c0_i32_106 c1_i32_108 k0_t1
  let v593 : Index := Scalar.indexCast arg17
  let c0_287 : Index := 0#32
  let c0_288 : Index := 0#32
  ![0, v593.toNat, 0, 0]
def k0_off2 (i : grid0.Coords) (k0_t1 : Fin (k0_t1_loop i).trips) : Fin 2 → Nat :=
  let c0_i32_106 : BitVec 32 := 0#32
  let c1_i32_108 : BitVec 32 := 1#32
  let arg17 : BitVec 32 := Scf.iv c0_i32_106 c1_i32_108 k0_t1
  let c512_i32_282 : BitVec 32 := 512#32
  let v589 : BitVec 32 := Scalar.muli arg17 c512_i32_282
  let v590 : BitVec 32 := v589
  let v606 : Index := Scalar.indexCast v590
  let c0_292 : Index := 0#32
  ![v606.toNat, 0]
def k0_off3 (i : grid0.Coords) (k0_t1 : Fin (k0_t1_loop i).trips) : Fin 4 → Nat :=
  let c0_299 : Index := 0#32
  let c0_i32_106 : BitVec 32 := 0#32
  let c1_i32_108 : BitVec 32 := 1#32
  let arg17 : BitVec 32 := Scf.iv c0_i32_106 c1_i32_108 k0_t1
  let v627 : Index := Scalar.indexCast arg17
  let c128_300 : Index := 128#32
  let c0_301 : Index := 0#32
  ![0, v627.toNat, 128, 0]
def k0_off4 (i : grid0.Coords) (k0_t1 : Fin (k0_t1_loop i).trips) : Fin 2 → Nat :=
  let c0_i32_106 : BitVec 32 := 0#32
  let c1_i32_108 : BitVec 32 := 1#32
  let arg17 : BitVec 32 := Scf.iv c0_i32_106 c1_i32_108 k0_t1
  let c512_i32_282 : BitVec 32 := 512#32
  let v589 : BitVec 32 := Scalar.muli arg17 c512_i32_282
  let v590 : BitVec 32 := v589
  let v640 : Index := Scalar.indexCast v590
  let c128_305 : Index := 128#32
  ![v640.toNat, 128]
def k0_off5 (i : grid0.Coords) (k0_t1 : Fin (k0_t1_loop i).trips) : Fin 4 → Nat :=
  let c0_312 : Index := 0#32
  let c0_i32_106 : BitVec 32 := 0#32
  let c1_i32_108 : BitVec 32 := 1#32
  let arg17 : BitVec 32 := Scf.iv c0_i32_106 c1_i32_108 k0_t1
  let v661 : Index := Scalar.indexCast arg17
  let c256_313 : Index := 256#32
  let c0_314 : Index := 0#32
  ![0, v661.toNat, 256, 0]
def k0_off6 (i : grid0.Coords) (k0_t1 : Fin (k0_t1_loop i).trips) : Fin 2 → Nat :=
  let c0_i32_106 : BitVec 32 := 0#32
  let c1_i32_108 : BitVec 32 := 1#32
  let arg17 : BitVec 32 := Scf.iv c0_i32_106 c1_i32_108 k0_t1
  let c512_i32_282 : BitVec 32 := 512#32
  let v589 : BitVec 32 := Scalar.muli arg17 c512_i32_282
  let v590 : BitVec 32 := v589
  let v674 : Index := Scalar.indexCast v590
  let c256_318 : Index := 256#32
  ![v674.toNat, 256]
def k0_off7 (i : grid0.Coords) (k0_t1 : Fin (k0_t1_loop i).trips) : Fin 4 → Nat :=
  let c0_325 : Index := 0#32
  let c0_i32_106 : BitVec 32 := 0#32
  let c1_i32_108 : BitVec 32 := 1#32
  let arg17 : BitVec 32 := Scf.iv c0_i32_106 c1_i32_108 k0_t1
  let v695 : Index := Scalar.indexCast arg17
  let c384_326 : Index := 384#32
  let c0_327 : Index := 0#32
  ![0, v695.toNat, 384, 0]
def k0_off8 (i : grid0.Coords) (k0_t1 : Fin (k0_t1_loop i).trips) : Fin 2 → Nat :=
  let c0_i32_106 : BitVec 32 := 0#32
  let c1_i32_108 : BitVec 32 := 1#32
  let arg17 : BitVec 32 := Scf.iv c0_i32_106 c1_i32_108 k0_t1
  let c512_i32_282 : BitVec 32 := 512#32
  let v589 : BitVec 32 := Scalar.muli arg17 c512_i32_282
  let v590 : BitVec 32 := v589
  let v708 : Index := Scalar.indexCast v590
  let c384_331 : Index := 384#32
  ![v708.toNat, 384]
@[reducible] def k0_t2_loop (i : grid0.Coords) : Scf.Loop 32 :=
  let c0_i32_106 : BitVec 32 := 0#32
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let v163 : BitVec 32 := Scalar.subi v131 c0_i32_106
  let c1_i32_107 : BitVec 32 := 1#32
  let v165 : BitVec 32 := Scalar.divsi v163 c1_i32_107
  let v166 : BitVec 32 := Scalar.muli v165 c1_i32_107
  let v167 : BitVec 32 := Scalar.addi c0_i32_106 v166
  let v164 : BitVec 32 := Scalar.addi c0_i32_106 v163
  let c1_i32_109 : BitVec 32 := 1#32
  ⟨v167, v164, c1_i32_109⟩
def k0_mult2 (i : grid0.Coords) (k0_t2 : Fin (k0_t2_loop i).trips) : BitVec 32 :=
  let c0_i32_106 : BitVec 32 := 0#32
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let v163 : BitVec 32 := Scalar.subi v131 c0_i32_106
  let c1_i32_107 : BitVec 32 := 1#32
  let v165 : BitVec 32 := Scalar.divsi v163 c1_i32_107
  let v166 : BitVec 32 := Scalar.muli v165 c1_i32_107
  let v167 : BitVec 32 := Scalar.addi c0_i32_106 v166
  let c1_i32_109 : BitVec 32 := 1#32
  let arg17 : BitVec 32 := Scf.iv v167 c1_i32_109 k0_t2
  let c512_i32_282 : BitVec 32 := 512#32
  let v589 : BitVec 32 := Scalar.muli arg17 c512_i32_282
  v589
def k0_off9 (i : grid0.Coords) (k0_t2 : Fin (k0_t2_loop i).trips) : Fin 4 → Nat :=
  let c0_286 : Index := 0#32
  let c0_i32_106 : BitVec 32 := 0#32
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let v163 : BitVec 32 := Scalar.subi v131 c0_i32_106
  let c1_i32_107 : BitVec 32 := 1#32
  let v165 : BitVec 32 := Scalar.divsi v163 c1_i32_107
  let v166 : BitVec 32 := Scalar.muli v165 c1_i32_107
  let v167 : BitVec 32 := Scalar.addi c0_i32_106 v166
  let c1_i32_109 : BitVec 32 := 1#32
  let arg17 : BitVec 32 := Scf.iv v167 c1_i32_109 k0_t2
  let v593 : Index := Scalar.indexCast arg17
  let c0_287 : Index := 0#32
  let c0_288 : Index := 0#32
  ![0, v593.toNat, 0, 0]
def k0_off10 (i : grid0.Coords) (k0_t2 : Fin (k0_t2_loop i).trips) : Fin 2 → Nat :=
  let c0_i32_106 : BitVec 32 := 0#32
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let v163 : BitVec 32 := Scalar.subi v131 c0_i32_106
  let c1_i32_107 : BitVec 32 := 1#32
  let v165 : BitVec 32 := Scalar.divsi v163 c1_i32_107
  let v166 : BitVec 32 := Scalar.muli v165 c1_i32_107
  let v167 : BitVec 32 := Scalar.addi c0_i32_106 v166
  let c1_i32_109 : BitVec 32 := 1#32
  let arg17 : BitVec 32 := Scf.iv v167 c1_i32_109 k0_t2
  let c512_i32_282 : BitVec 32 := 512#32
  let v589 : BitVec 32 := Scalar.muli arg17 c512_i32_282
  let v590 : BitVec 32 := v589
  let v606 : Index := Scalar.indexCast v590
  let c0_292 : Index := 0#32
  ![v606.toNat, 0]
def k0_off11 (i : grid0.Coords) (k0_t2 : Fin (k0_t2_loop i).trips) : Fin 4 → Nat :=
  let c0_299 : Index := 0#32
  let c0_i32_106 : BitVec 32 := 0#32
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let v163 : BitVec 32 := Scalar.subi v131 c0_i32_106
  let c1_i32_107 : BitVec 32 := 1#32
  let v165 : BitVec 32 := Scalar.divsi v163 c1_i32_107
  let v166 : BitVec 32 := Scalar.muli v165 c1_i32_107
  let v167 : BitVec 32 := Scalar.addi c0_i32_106 v166
  let c1_i32_109 : BitVec 32 := 1#32
  let arg17 : BitVec 32 := Scf.iv v167 c1_i32_109 k0_t2
  let v627 : Index := Scalar.indexCast arg17
  let c128_300 : Index := 128#32
  let c0_301 : Index := 0#32
  ![0, v627.toNat, 128, 0]
def k0_off12 (i : grid0.Coords) (k0_t2 : Fin (k0_t2_loop i).trips) : Fin 2 → Nat :=
  let c0_i32_106 : BitVec 32 := 0#32
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let v163 : BitVec 32 := Scalar.subi v131 c0_i32_106
  let c1_i32_107 : BitVec 32 := 1#32
  let v165 : BitVec 32 := Scalar.divsi v163 c1_i32_107
  let v166 : BitVec 32 := Scalar.muli v165 c1_i32_107
  let v167 : BitVec 32 := Scalar.addi c0_i32_106 v166
  let c1_i32_109 : BitVec 32 := 1#32
  let arg17 : BitVec 32 := Scf.iv v167 c1_i32_109 k0_t2
  let c512_i32_282 : BitVec 32 := 512#32
  let v589 : BitVec 32 := Scalar.muli arg17 c512_i32_282
  let v590 : BitVec 32 := v589
  let v640 : Index := Scalar.indexCast v590
  let c128_305 : Index := 128#32
  ![v640.toNat, 128]
def k0_off13 (i : grid0.Coords) (k0_t2 : Fin (k0_t2_loop i).trips) : Fin 4 → Nat :=
  let c0_312 : Index := 0#32
  let c0_i32_106 : BitVec 32 := 0#32
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let v163 : BitVec 32 := Scalar.subi v131 c0_i32_106
  let c1_i32_107 : BitVec 32 := 1#32
  let v165 : BitVec 32 := Scalar.divsi v163 c1_i32_107
  let v166 : BitVec 32 := Scalar.muli v165 c1_i32_107
  let v167 : BitVec 32 := Scalar.addi c0_i32_106 v166
  let c1_i32_109 : BitVec 32 := 1#32
  let arg17 : BitVec 32 := Scf.iv v167 c1_i32_109 k0_t2
  let v661 : Index := Scalar.indexCast arg17
  let c256_313 : Index := 256#32
  let c0_314 : Index := 0#32
  ![0, v661.toNat, 256, 0]
def k0_off14 (i : grid0.Coords) (k0_t2 : Fin (k0_t2_loop i).trips) : Fin 2 → Nat :=
  let c0_i32_106 : BitVec 32 := 0#32
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let v163 : BitVec 32 := Scalar.subi v131 c0_i32_106
  let c1_i32_107 : BitVec 32 := 1#32
  let v165 : BitVec 32 := Scalar.divsi v163 c1_i32_107
  let v166 : BitVec 32 := Scalar.muli v165 c1_i32_107
  let v167 : BitVec 32 := Scalar.addi c0_i32_106 v166
  let c1_i32_109 : BitVec 32 := 1#32
  let arg17 : BitVec 32 := Scf.iv v167 c1_i32_109 k0_t2
  let c512_i32_282 : BitVec 32 := 512#32
  let v589 : BitVec 32 := Scalar.muli arg17 c512_i32_282
  let v590 : BitVec 32 := v589
  let v674 : Index := Scalar.indexCast v590
  let c256_318 : Index := 256#32
  ![v674.toNat, 256]
def k0_off15 (i : grid0.Coords) (k0_t2 : Fin (k0_t2_loop i).trips) : Fin 4 → Nat :=
  let c0_325 : Index := 0#32
  let c0_i32_106 : BitVec 32 := 0#32
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let v163 : BitVec 32 := Scalar.subi v131 c0_i32_106
  let c1_i32_107 : BitVec 32 := 1#32
  let v165 : BitVec 32 := Scalar.divsi v163 c1_i32_107
  let v166 : BitVec 32 := Scalar.muli v165 c1_i32_107
  let v167 : BitVec 32 := Scalar.addi c0_i32_106 v166
  let c1_i32_109 : BitVec 32 := 1#32
  let arg17 : BitVec 32 := Scf.iv v167 c1_i32_109 k0_t2
  let v695 : Index := Scalar.indexCast arg17
  let c384_326 : Index := 384#32
  let c0_327 : Index := 0#32
  ![0, v695.toNat, 384, 0]
def k0_off16 (i : grid0.Coords) (k0_t2 : Fin (k0_t2_loop i).trips) : Fin 2 → Nat :=
  let c0_i32_106 : BitVec 32 := 0#32
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let v163 : BitVec 32 := Scalar.subi v131 c0_i32_106
  let c1_i32_107 : BitVec 32 := 1#32
  let v165 : BitVec 32 := Scalar.divsi v163 c1_i32_107
  let v166 : BitVec 32 := Scalar.muli v165 c1_i32_107
  let v167 : BitVec 32 := Scalar.addi c0_i32_106 v166
  let c1_i32_109 : BitVec 32 := 1#32
  let arg17 : BitVec 32 := Scf.iv v167 c1_i32_109 k0_t2
  let c512_i32_282 : BitVec 32 := 512#32
  let v589 : BitVec 32 := Scalar.muli arg17 c512_i32_282
  let v590 : BitVec 32 := v589
  let v708 : Index := Scalar.indexCast v590
  let c384_331 : Index := 384#32
  ![v708.toNat, 384]
def k0_mult3 (i : grid0.Coords) : BitVec 32 :=
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let c512_i32_110 : BitVec 32 := 512#32
  let v170 : BitVec 32 := Scalar.muli v131 c512_i32_110
  v170
def k0_off17 (i : grid0.Coords) : Fin 4 → Nat :=
  let c0_114 : Index := 0#32
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let v174 : Index := Scalar.indexCast v131
  let c0_115 : Index := 0#32
  let c0_116 : Index := 0#32
  ![0, v174.toNat, 0, 0]
def k0_off18 (i : grid0.Coords) : Fin 2 → Nat :=
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let c512_i32_110 : BitVec 32 := 512#32
  let v170 : BitVec 32 := Scalar.muli v131 c512_i32_110
  let v171 : BitVec 32 := v170
  let v187 : Index := Scalar.indexCast v171
  let c0_120 : Index := 0#32
  ![v187.toNat, 0]
def k0_off19 (i : grid0.Coords) : Fin 4 → Nat :=
  let c0_129 : Index := 0#32
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let v210 : Index := Scalar.indexCast v131
  let c128_130 : Index := 128#32
  let c0_131 : Index := 0#32
  ![0, v210.toNat, 128, 0]
def k0_off20 (i : grid0.Coords) : Fin 2 → Nat :=
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let c512_i32_110 : BitVec 32 := 512#32
  let v170 : BitVec 32 := Scalar.muli v131 c512_i32_110
  let v171 : BitVec 32 := v170
  let v223 : Index := Scalar.indexCast v171
  let c128_135 : Index := 128#32
  ![v223.toNat, 128]
def k0_off21 (i : grid0.Coords) : Fin 4 → Nat :=
  let c0_144 : Index := 0#32
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let v246 : Index := Scalar.indexCast v131
  let c256_145 : Index := 256#32
  let c0_146 : Index := 0#32
  ![0, v246.toNat, 256, 0]
def k0_off22 (i : grid0.Coords) : Fin 2 → Nat :=
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let c512_i32_110 : BitVec 32 := 512#32
  let v170 : BitVec 32 := Scalar.muli v131 c512_i32_110
  let v171 : BitVec 32 := v170
  let v259 : Index := Scalar.indexCast v171
  let c256_150 : Index := 256#32
  ![v259.toNat, 256]
def k0_off23 (i : grid0.Coords) : Fin 4 → Nat :=
  let c0_159 : Index := 0#32
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let v282 : Index := Scalar.indexCast v131
  let c384_160 : Index := 384#32
  let c0_161 : Index := 0#32
  ![0, v282.toNat, 384, 0]
def k0_off24 (i : grid0.Coords) : Fin 2 → Nat :=
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let c512_i32_110 : BitVec 32 := 512#32
  let v170 : BitVec 32 := Scalar.muli v131 c512_i32_110
  let v171 : BitVec 32 := v170
  let v295 : Index := Scalar.indexCast v171
  let c384_165 : Index := 384#32
  ![v295.toNat, 384]
@[reducible] def k0_t3_loop (i : grid0.Coords) : Scf.Loop 32 :=
  let c0_i32_219 : BitVec 32 := 0#32
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let v432 : BitVec 32 := Scalar.subi v131 c0_i32_219
  let c1_i32_220 : BitVec 32 := 1#32
  let v434 : BitVec 32 := Scalar.divsi v432 c1_i32_220
  let v435 : BitVec 32 := Scalar.muli v434 c1_i32_220
  let v436 : BitVec 32 := Scalar.addi c0_i32_219 v435
  let c1_i32_221 : BitVec 32 := 1#32
  ⟨c0_i32_219, v436, c1_i32_221⟩
def k0_mult4 (i : grid0.Coords) (k0_t3 : Fin (k0_t3_loop i).trips) : BitVec 32 :=
  let c0_i32_219 : BitVec 32 := 0#32
  let c1_i32_221 : BitVec 32 := 1#32
  let arg17 : BitVec 32 := Scf.iv c0_i32_219 c1_i32_221 k0_t3
  let c512_i32_282 : BitVec 32 := 512#32
  let v589 : BitVec 32 := Scalar.muli arg17 c512_i32_282
  v589
def k0_off25 (i : grid0.Coords) (k0_t3 : Fin (k0_t3_loop i).trips) : Fin 2 → Nat :=
  let c0_i32_219 : BitVec 32 := 0#32
  let c1_i32_221 : BitVec 32 := 1#32
  let arg17 : BitVec 32 := Scf.iv c0_i32_219 c1_i32_221 k0_t3
  let c512_i32_282 : BitVec 32 := 512#32
  let v589 : BitVec 32 := Scalar.muli arg17 c512_i32_282
  let v590 : BitVec 32 := v589
  let v593 : Index := Scalar.indexCast v590
  let c0_286 : Index := 0#32
  ![v593.toNat, 0]
def k0_off26 (i : grid0.Coords) (k0_t3 : Fin (k0_t3_loop i).trips) : Fin 2 → Nat :=
  let c0_i32_219 : BitVec 32 := 0#32
  let c1_i32_221 : BitVec 32 := 1#32
  let arg17 : BitVec 32 := Scf.iv c0_i32_219 c1_i32_221 k0_t3
  let c512_i32_282 : BitVec 32 := 512#32
  let v589 : BitVec 32 := Scalar.muli arg17 c512_i32_282
  let v590 : BitVec 32 := v589
  let v596 : Index := Scalar.indexCast v590
  let c0_288 : Index := 0#32
  ![v596.toNat, 0]
def k0_off27 (i : grid0.Coords) (k0_t3 : Fin (k0_t3_loop i).trips) : Fin 2 → Nat :=
  let c0_i32_219 : BitVec 32 := 0#32
  let c1_i32_221 : BitVec 32 := 1#32
  let arg17 : BitVec 32 := Scf.iv c0_i32_219 c1_i32_221 k0_t3
  let c512_i32_282 : BitVec 32 := 512#32
  let v589 : BitVec 32 := Scalar.muli arg17 c512_i32_282
  let v590 : BitVec 32 := v589
  let v617 : Index := Scalar.indexCast v590
  let c256_295 : Index := 256#32
  ![v617.toNat, 256]
def k0_off28 (i : grid0.Coords) (k0_t3 : Fin (k0_t3_loop i).trips) : Fin 2 → Nat :=
  let c0_i32_219 : BitVec 32 := 0#32
  let c1_i32_221 : BitVec 32 := 1#32
  let arg17 : BitVec 32 := Scf.iv c0_i32_219 c1_i32_221 k0_t3
  let c512_i32_282 : BitVec 32 := 512#32
  let v589 : BitVec 32 := Scalar.muli arg17 c512_i32_282
  let v590 : BitVec 32 := v589
  let v620 : Index := Scalar.indexCast v590
  let c128_297 : Index := 128#32
  ![v620.toNat, 128]
def k0_off29 (i : grid0.Coords) (k0_t3 : Fin (k0_t3_loop i).trips) : Fin 2 → Nat :=
  let c0_i32_219 : BitVec 32 := 0#32
  let c1_i32_221 : BitVec 32 := 1#32
  let arg17 : BitVec 32 := Scf.iv c0_i32_219 c1_i32_221 k0_t3
  let c512_i32_282 : BitVec 32 := 512#32
  let v589 : BitVec 32 := Scalar.muli arg17 c512_i32_282
  let v590 : BitVec 32 := v589
  let v641 : Index := Scalar.indexCast v590
  let c512_304 : Index := 512#32
  ![v641.toNat, 512]
def k0_off30 (i : grid0.Coords) (k0_t3 : Fin (k0_t3_loop i).trips) : Fin 2 → Nat :=
  let c0_i32_219 : BitVec 32 := 0#32
  let c1_i32_221 : BitVec 32 := 1#32
  let arg17 : BitVec 32 := Scf.iv c0_i32_219 c1_i32_221 k0_t3
  let c512_i32_282 : BitVec 32 := 512#32
  let v589 : BitVec 32 := Scalar.muli arg17 c512_i32_282
  let v590 : BitVec 32 := v589
  let v644 : Index := Scalar.indexCast v590
  let c256_306 : Index := 256#32
  ![v644.toNat, 256]
def k0_off31 (i : grid0.Coords) (k0_t3 : Fin (k0_t3_loop i).trips) : Fin 2 → Nat :=
  let c0_i32_219 : BitVec 32 := 0#32
  let c1_i32_221 : BitVec 32 := 1#32
  let arg17 : BitVec 32 := Scf.iv c0_i32_219 c1_i32_221 k0_t3
  let c512_i32_282 : BitVec 32 := 512#32
  let v589 : BitVec 32 := Scalar.muli arg17 c512_i32_282
  let v590 : BitVec 32 := v589
  let v665 : Index := Scalar.indexCast v590
  let c768_313 : Index := 768#32
  ![v665.toNat, 768]
def k0_off32 (i : grid0.Coords) (k0_t3 : Fin (k0_t3_loop i).trips) : Fin 2 → Nat :=
  let c0_i32_219 : BitVec 32 := 0#32
  let c1_i32_221 : BitVec 32 := 1#32
  let arg17 : BitVec 32 := Scf.iv c0_i32_219 c1_i32_221 k0_t3
  let c512_i32_282 : BitVec 32 := 512#32
  let v589 : BitVec 32 := Scalar.muli arg17 c512_i32_282
  let v590 : BitVec 32 := v589
  let v668 : Index := Scalar.indexCast v590
  let c384_315 : Index := 384#32
  ![v668.toNat, 384]
@[reducible] def k0_t4_loop (i : grid0.Coords) : Scf.Loop 32 :=
  let c0_i32_219 : BitVec 32 := 0#32
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let v432 : BitVec 32 := Scalar.subi v131 c0_i32_219
  let c1_i32_220 : BitVec 32 := 1#32
  let v434 : BitVec 32 := Scalar.divsi v432 c1_i32_220
  let v435 : BitVec 32 := Scalar.muli v434 c1_i32_220
  let v436 : BitVec 32 := Scalar.addi c0_i32_219 v435
  let v433 : BitVec 32 := Scalar.addi c0_i32_219 v432
  let c1_i32_222 : BitVec 32 := 1#32
  ⟨v436, v433, c1_i32_222⟩
def k0_mult5 (i : grid0.Coords) (k0_t4 : Fin (k0_t4_loop i).trips) : BitVec 32 :=
  let c0_i32_219 : BitVec 32 := 0#32
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let v432 : BitVec 32 := Scalar.subi v131 c0_i32_219
  let c1_i32_220 : BitVec 32 := 1#32
  let v434 : BitVec 32 := Scalar.divsi v432 c1_i32_220
  let v435 : BitVec 32 := Scalar.muli v434 c1_i32_220
  let v436 : BitVec 32 := Scalar.addi c0_i32_219 v435
  let c1_i32_222 : BitVec 32 := 1#32
  let arg17 : BitVec 32 := Scf.iv v436 c1_i32_222 k0_t4
  let c512_i32_282 : BitVec 32 := 512#32
  let v589 : BitVec 32 := Scalar.muli arg17 c512_i32_282
  v589
def k0_off33 (i : grid0.Coords) (k0_t4 : Fin (k0_t4_loop i).trips) : Fin 2 → Nat :=
  let c0_i32_219 : BitVec 32 := 0#32
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let v432 : BitVec 32 := Scalar.subi v131 c0_i32_219
  let c1_i32_220 : BitVec 32 := 1#32
  let v434 : BitVec 32 := Scalar.divsi v432 c1_i32_220
  let v435 : BitVec 32 := Scalar.muli v434 c1_i32_220
  let v436 : BitVec 32 := Scalar.addi c0_i32_219 v435
  let c1_i32_222 : BitVec 32 := 1#32
  let arg17 : BitVec 32 := Scf.iv v436 c1_i32_222 k0_t4
  let c512_i32_282 : BitVec 32 := 512#32
  let v589 : BitVec 32 := Scalar.muli arg17 c512_i32_282
  let v590 : BitVec 32 := v589
  let v593 : Index := Scalar.indexCast v590
  let c0_286 : Index := 0#32
  ![v593.toNat, 0]
def k0_off34 (i : grid0.Coords) (k0_t4 : Fin (k0_t4_loop i).trips) : Fin 2 → Nat :=
  let c0_i32_219 : BitVec 32 := 0#32
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let v432 : BitVec 32 := Scalar.subi v131 c0_i32_219
  let c1_i32_220 : BitVec 32 := 1#32
  let v434 : BitVec 32 := Scalar.divsi v432 c1_i32_220
  let v435 : BitVec 32 := Scalar.muli v434 c1_i32_220
  let v436 : BitVec 32 := Scalar.addi c0_i32_219 v435
  let c1_i32_222 : BitVec 32 := 1#32
  let arg17 : BitVec 32 := Scf.iv v436 c1_i32_222 k0_t4
  let c512_i32_282 : BitVec 32 := 512#32
  let v589 : BitVec 32 := Scalar.muli arg17 c512_i32_282
  let v590 : BitVec 32 := v589
  let v596 : Index := Scalar.indexCast v590
  let c0_288 : Index := 0#32
  ![v596.toNat, 0]
def k0_off35 (i : grid0.Coords) (k0_t4 : Fin (k0_t4_loop i).trips) : Fin 2 → Nat :=
  let c0_i32_219 : BitVec 32 := 0#32
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let v432 : BitVec 32 := Scalar.subi v131 c0_i32_219
  let c1_i32_220 : BitVec 32 := 1#32
  let v434 : BitVec 32 := Scalar.divsi v432 c1_i32_220
  let v435 : BitVec 32 := Scalar.muli v434 c1_i32_220
  let v436 : BitVec 32 := Scalar.addi c0_i32_219 v435
  let c1_i32_222 : BitVec 32 := 1#32
  let arg17 : BitVec 32 := Scf.iv v436 c1_i32_222 k0_t4
  let c512_i32_282 : BitVec 32 := 512#32
  let v589 : BitVec 32 := Scalar.muli arg17 c512_i32_282
  let v590 : BitVec 32 := v589
  let v617 : Index := Scalar.indexCast v590
  let c256_295 : Index := 256#32
  ![v617.toNat, 256]
def k0_off36 (i : grid0.Coords) (k0_t4 : Fin (k0_t4_loop i).trips) : Fin 2 → Nat :=
  let c0_i32_219 : BitVec 32 := 0#32
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let v432 : BitVec 32 := Scalar.subi v131 c0_i32_219
  let c1_i32_220 : BitVec 32 := 1#32
  let v434 : BitVec 32 := Scalar.divsi v432 c1_i32_220
  let v435 : BitVec 32 := Scalar.muli v434 c1_i32_220
  let v436 : BitVec 32 := Scalar.addi c0_i32_219 v435
  let c1_i32_222 : BitVec 32 := 1#32
  let arg17 : BitVec 32 := Scf.iv v436 c1_i32_222 k0_t4
  let c512_i32_282 : BitVec 32 := 512#32
  let v589 : BitVec 32 := Scalar.muli arg17 c512_i32_282
  let v590 : BitVec 32 := v589
  let v620 : Index := Scalar.indexCast v590
  let c128_297 : Index := 128#32
  ![v620.toNat, 128]
def k0_off37 (i : grid0.Coords) (k0_t4 : Fin (k0_t4_loop i).trips) : Fin 2 → Nat :=
  let c0_i32_219 : BitVec 32 := 0#32
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let v432 : BitVec 32 := Scalar.subi v131 c0_i32_219
  let c1_i32_220 : BitVec 32 := 1#32
  let v434 : BitVec 32 := Scalar.divsi v432 c1_i32_220
  let v435 : BitVec 32 := Scalar.muli v434 c1_i32_220
  let v436 : BitVec 32 := Scalar.addi c0_i32_219 v435
  let c1_i32_222 : BitVec 32 := 1#32
  let arg17 : BitVec 32 := Scf.iv v436 c1_i32_222 k0_t4
  let c512_i32_282 : BitVec 32 := 512#32
  let v589 : BitVec 32 := Scalar.muli arg17 c512_i32_282
  let v590 : BitVec 32 := v589
  let v641 : Index := Scalar.indexCast v590
  let c512_304 : Index := 512#32
  ![v641.toNat, 512]
def k0_off38 (i : grid0.Coords) (k0_t4 : Fin (k0_t4_loop i).trips) : Fin 2 → Nat :=
  let c0_i32_219 : BitVec 32 := 0#32
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let v432 : BitVec 32 := Scalar.subi v131 c0_i32_219
  let c1_i32_220 : BitVec 32 := 1#32
  let v434 : BitVec 32 := Scalar.divsi v432 c1_i32_220
  let v435 : BitVec 32 := Scalar.muli v434 c1_i32_220
  let v436 : BitVec 32 := Scalar.addi c0_i32_219 v435
  let c1_i32_222 : BitVec 32 := 1#32
  let arg17 : BitVec 32 := Scf.iv v436 c1_i32_222 k0_t4
  let c512_i32_282 : BitVec 32 := 512#32
  let v589 : BitVec 32 := Scalar.muli arg17 c512_i32_282
  let v590 : BitVec 32 := v589
  let v644 : Index := Scalar.indexCast v590
  let c256_306 : Index := 256#32
  ![v644.toNat, 256]
def k0_off39 (i : grid0.Coords) (k0_t4 : Fin (k0_t4_loop i).trips) : Fin 2 → Nat :=
  let c0_i32_219 : BitVec 32 := 0#32
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let v432 : BitVec 32 := Scalar.subi v131 c0_i32_219
  let c1_i32_220 : BitVec 32 := 1#32
  let v434 : BitVec 32 := Scalar.divsi v432 c1_i32_220
  let v435 : BitVec 32 := Scalar.muli v434 c1_i32_220
  let v436 : BitVec 32 := Scalar.addi c0_i32_219 v435
  let c1_i32_222 : BitVec 32 := 1#32
  let arg17 : BitVec 32 := Scf.iv v436 c1_i32_222 k0_t4
  let c512_i32_282 : BitVec 32 := 512#32
  let v589 : BitVec 32 := Scalar.muli arg17 c512_i32_282
  let v590 : BitVec 32 := v589
  let v665 : Index := Scalar.indexCast v590
  let c768_313 : Index := 768#32
  ![v665.toNat, 768]
def k0_off40 (i : grid0.Coords) (k0_t4 : Fin (k0_t4_loop i).trips) : Fin 2 → Nat :=
  let c0_i32_219 : BitVec 32 := 0#32
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let v432 : BitVec 32 := Scalar.subi v131 c0_i32_219
  let c1_i32_220 : BitVec 32 := 1#32
  let v434 : BitVec 32 := Scalar.divsi v432 c1_i32_220
  let v435 : BitVec 32 := Scalar.muli v434 c1_i32_220
  let v436 : BitVec 32 := Scalar.addi c0_i32_219 v435
  let c1_i32_222 : BitVec 32 := 1#32
  let arg17 : BitVec 32 := Scf.iv v436 c1_i32_222 k0_t4
  let c512_i32_282 : BitVec 32 := 512#32
  let v589 : BitVec 32 := Scalar.muli arg17 c512_i32_282
  let v590 : BitVec 32 := v589
  let v668 : Index := Scalar.indexCast v590
  let c384_315 : Index := 384#32
  ![v668.toNat, 384]
def k0_mult6 (i : grid0.Coords) : BitVec 32 :=
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let c512_i32_223 : BitVec 32 := 512#32
  let v439 : BitVec 32 := Scalar.muli v131 c512_i32_223
  v439
def k0_off41 (i : grid0.Coords) : Fin 2 → Nat :=
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let c512_i32_223 : BitVec 32 := 512#32
  let v439 : BitVec 32 := Scalar.muli v131 c512_i32_223
  let v440 : BitVec 32 := v439
  let v443 : Index := Scalar.indexCast v440
  let c0_227 : Index := 0#32
  ![v443.toNat, 0]
def k0_off42 (i : grid0.Coords) : Fin 2 → Nat :=
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let c512_i32_223 : BitVec 32 := 512#32
  let v439 : BitVec 32 := Scalar.muli v131 c512_i32_223
  let v440 : BitVec 32 := v439
  let v469 : Index := Scalar.indexCast v440
  let c256_238 : Index := 256#32
  ![v469.toNat, 256]
def k0_off43 (i : grid0.Coords) : Fin 2 → Nat :=
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let c512_i32_223 : BitVec 32 := 512#32
  let v439 : BitVec 32 := Scalar.muli v131 c512_i32_223
  let v440 : BitVec 32 := v439
  let v495 : Index := Scalar.indexCast v440
  let c512_249 : Index := 512#32
  ![v495.toNat, 512]
def k0_off44 (i : grid0.Coords) : Fin 2 → Nat :=
  let arg1 : BitVec 32 := BitVec.ofNat 32 (i 1).val
  let c512_i32 : BitVec 32 := 512#32
  let v114 : BitVec 32 := Scalar.muli arg1 c512_i32
  let c0_i32 : BitVec 32 := 0#32
  let v116 : BitVec 1 := Scalar.cmpi .sgt v114 c0_i32
  let v117 : BitVec 32 := Scalar.extui v116
  let c0_i32_77 : BitVec 32 := 0#32
  let v118 : BitVec 1 := Scalar.cmpi .slt v114 c0_i32_77
  let v119 : BitVec 32 := Scalar.extui v118
  let v120 : BitVec 32 := Scalar.subi v117 v119
  let c512_i32_76 : BitVec 32 := 512#32
  let c0_i32_78 : BitVec 32 := 0#32
  let v121 : BitVec 1 := Scalar.cmpi .sgt c512_i32_76 c0_i32_78
  let v122 : BitVec 32 := Scalar.extui v121
  let c0_i32_79 : BitVec 32 := 0#32
  let v123 : BitVec 1 := Scalar.cmpi .slt c512_i32_76 c0_i32_79
  let v124 : BitVec 32 := Scalar.extui v123
  let v125 : BitVec 32 := Scalar.subi v122 v124
  let v126 : BitVec 1 := Scalar.cmpi .ne v120 v125
  let v127 : BitVec 32 := Scalar.remsi v114 c512_i32_76
  let c0_i32_80 : BitVec 32 := 0#32
  let v128 : BitVec 1 := Scalar.cmpi .ne v127 c0_i32_80
  let v129 : BitVec 1 := Scalar.andi v126 v128
  let v115 : BitVec 32 := Scalar.divsi v114 c512_i32_76
  let c1_i32 : BitVec 32 := 1#32
  let v130 : BitVec 32 := Scalar.subi v115 c1_i32
  let v131 : BitVec 32 := Scalar.select v129 v130 v115
  let c512_i32_223 : BitVec 32 := 512#32
  let v439 : BitVec 32 := Scalar.muli v131 c512_i32_223
  let v440 : BitVec 32 := v439
  let v521 : Index := Scalar.indexCast v440
  let c768_260 : Index := 768#32
  ![v521.toNat, 768]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "mask" => some ⊥
  | "slope0" => some (((Real.log 2)⁻¹ * (1 / 4) : ℝ) : EReal)
  | "slope1" => some (((Real.log 2)⁻¹ * (1 / 16) : ℝ) : EReal)
  | "slope2" => some (((Real.log 2)⁻¹ * (1 / 64) : ℝ) : EReal)
  | "slope3" => some (((Real.log 2)⁻¹ * (1 / 256) : ℝ) : EReal)
  | _ => none
-- ==== ReferenceIdeal.lean ====
abbrev S65536x512 : Shape := ⟨2, ![65536, 512]⟩
abbrev S32x4x512x512 : Shape := ⟨4, ![32, 4, 512, 512]⟩
abbrev S65536x1024 : Shape := ⟨2, ![65536, 1024]⟩
abbrev S1x64 : Shape := ⟨2, ![1, 64]⟩
abbrev S1x128 : Shape := ⟨2, ![1, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S32x2048x4x2x64 : Shape := ⟨5, ![32, 2048, 4, 2, 64]⟩
abbrev S32x2048x4x128 : Shape := ⟨4, ![32, 2048, 4, 128]⟩
abbrev S4 : Shape := ⟨1, ![4]⟩
abbrev S4x1x1 : Shape := ⟨3, ![4, 1, 1]⟩
abbrev S1x2048x2048 : Shape := ⟨3, ![1, 2048, 2048]⟩
abbrev S4x2048x2048 : Shape := ⟨3, ![4, 2048, 2048]⟩
abbrev S32x2048x4x1x64 : Shape := ⟨5, ![32, 2048, 4, 1, 64]⟩
abbrev S32x2048x4x64 : Shape := ⟨4, ![32, 2048, 4, 64]⟩
abbrev S32x4x2048x2048 : Shape := ⟨4, ![32, 4, 2048, 2048]⟩
abbrev S1x4x2048x2048 : Shape := ⟨4, ![1, 4, 2048, 2048]⟩
abbrev S32x4x2048 : Shape := ⟨3, ![32, 4, 2048]⟩
abbrev S32x4x2048x1 : Shape := ⟨4, ![32, 4, 2048, 1]⟩
abbrev S32x4x2048x128 : Shape := ⟨4, ![32, 4, 2048, 128]⟩
abbrev S128 : Shape := ⟨1, ![128]⟩
abbrev S1x1x1x128 : Shape := ⟨4, ![1, 1, 1, 128]⟩
abbrev S32x2048x8x128 : Shape := ⟨4, ![32, 2048, 8, 128]⟩
abbrev S32x2048x8x64 : Shape := ⟨4, ![32, 2048, 8, 64]⟩
abbrev S32x8x2048x2048 : Shape := ⟨4, ![32, 8, 2048, 2048]⟩
abbrev S32x8x2048 : Shape := ⟨3, ![32, 8, 2048]⟩
abbrev S32x8x2048x1 : Shape := ⟨4, ![32, 8, 2048, 1]⟩
abbrev S32x8x2048x64 : Shape := ⟨4, ![32, 8, 2048, 64]⟩

abbrev nBuf : Space → Nat
  | .hbm => 189
  | .vmem => 0
  | .smem => 0
  | _ => 0

abbrev hbmTy0_0 (i : Nat) : BufTy := match i % 128 with
  | 0 => ⟨S65536x512, .bf16⟩
  | 1 => ⟨S32x4x512x512, .bf16⟩
  | 2 => ⟨S65536x512, .bf16⟩
  | 3 => ⟨S65536x1024, .bf16⟩
  | 4 => ⟨S65536x1024, .bf16⟩
  | 5 => ⟨S65536x512, .bf16⟩
  | 6 => ⟨S1x64, .f32⟩
  | 7 => ⟨S1x64, .f32⟩
  | 8 => ⟨S1x64, .f32⟩
  | 9 => ⟨S1x64, .f32⟩
  | 10 => ⟨S1x128, .f32⟩
  | 11 => ⟨S2048, .i32⟩
  | 12 => ⟨S2048x1, .i32⟩
  | 13 => ⟨S1x2048, .i32⟩
  | 14 => ⟨S2048x2048, .i32⟩
  | 15 => ⟨S2048x2048, .i32⟩
  | 16 => ⟨S2048x2048, .i32⟩
  | 17 => ⟨S2048x2048, .f32⟩
  | 18 => ⟨S2048x1, .i32⟩
  | 19 => ⟨S1x2048, .i32⟩
  | 20 => ⟨S2048x2048, .i32⟩
  | 21 => ⟨S2048x2048, .i32⟩
  | 22 => ⟨S2048x2048, .i1⟩
  | 23 => ⟨S_, .f32⟩
  | 24 => ⟨S_, .f32⟩
  | 25 => ⟨S65536x512, .f32⟩
  | 26 => ⟨S32x2048x4x2x64, .f32⟩
  | 27 => ⟨S32x4x512x512, .f32⟩
  | 28 => ⟨S32x4x512x512, .f32⟩
  | 29 => ⟨S32x2048x4x2x64, .f32⟩
  | 30 => ⟨S65536x512, .f32⟩
  | 31 => ⟨S32x2048x4x128, .f32⟩
  | 32 => ⟨S4, .i32⟩
  | 33 => ⟨S_, .i32⟩
  | 34 => ⟨S4, .i32⟩
  | 35 => ⟨S4, .i32⟩
  | 36 => ⟨S4, .f32⟩
  | 37 => ⟨S_, .f32⟩
  | 38 => ⟨S4, .f32⟩
  | 39 => ⟨S4, .f32⟩
  | 40 => ⟨S_, .f32⟩
  | 41 => ⟨S4, .f32⟩
  | 42 => ⟨S4, .f32⟩
  | 43 => ⟨S4x1x1, .f32⟩
  | 44 => ⟨S1x2048x2048, .f32⟩
  | 45 => ⟨S4x2048x2048, .f32⟩
  | 46 => ⟨S4x2048x2048, .f32⟩
  | 47 => ⟨S4x2048x2048, .f32⟩
  | 48 => ⟨S32x2048x4x1x64, .f32⟩
  | 49 => ⟨S32x2048x4x64, .f32⟩
  | 50 => ⟨S32x2048x4x1x64, .f32⟩
  | 51 => ⟨S32x2048x4x64, .f32⟩
  | 52 => ⟨S32x4x2048x2048, .f32⟩
  | 53 => ⟨S32x4x2048x2048, .f32⟩
  | 54 => ⟨S32x4x2048x2048, .f32⟩
  | 55 => ⟨S1x4x2048x2048, .f32⟩
  | 56 => ⟨S32x4x2048x2048, .f32⟩
  | 57 => ⟨S32x4x2048x2048, .f32⟩
  | 58 => ⟨S_, .f32⟩
  | 59 => ⟨S_, .f32⟩
  | 60 => ⟨S32x4x2048x2048, .i1⟩
  | 61 => ⟨S32x4x2048x2048, .f32⟩
  | 62 => ⟨S32x4x2048x2048, .f32⟩
  | 63 => ⟨S_, .f32⟩
  | 64 => ⟨S32x4x2048, .f32⟩
  | 65 => ⟨S32x4x2048x1, .f32⟩
  | 66 => ⟨S32x4x2048x2048, .f32⟩
  | 67 => ⟨S32x4x2048x2048, .f32⟩
  | 68 => ⟨S32x4x2048x2048, .f32⟩
  | 69 => ⟨S_, .f32⟩
  | 70 => ⟨S_, .f32⟩
  | 71 => ⟨S32x4x2048x2048, .i1⟩
  | 72 => ⟨S32x4x2048x2048, .f32⟩
  | 73 => ⟨S32x4x2048x2048, .f32⟩
  | 74 => ⟨S32x4x2048x2048, .bf16⟩
  | 75 => ⟨S32x4x2048x2048, .f32⟩
  | 76 => ⟨S32x4x2048x128, .f32⟩
  | 77 => ⟨S_, .f32⟩
  | 78 => ⟨S32x4x2048, .f32⟩
  | 79 => ⟨S32x4x2048x1, .f32⟩
  | 80 => ⟨S32x4x2048x128, .f32⟩
  | 81 => ⟨S32x4x2048x128, .f32⟩
  | 82 => ⟨S32x2048x4x1x64, .f32⟩
  | 83 => ⟨S32x2048x4x64, .f32⟩
  | 84 => ⟨S32x2048x4x1x64, .f32⟩
  | 85 => ⟨S32x2048x4x64, .f32⟩
  | 86 => ⟨S32x4x2048x2048, .f32⟩
  | 87 => ⟨S32x4x2048x2048, .f32⟩
  | 88 => ⟨S32x4x2048x2048, .f32⟩
  | 89 => ⟨S1x4x2048x2048, .f32⟩
  | 90 => ⟨S32x4x2048x2048, .f32⟩
  | 91 => ⟨S32x4x2048x2048, .f32⟩
  | 92 => ⟨S_, .f32⟩
  | 93 => ⟨S_, .f32⟩
  | 94 => ⟨S32x4x2048x2048, .i1⟩
  | 95 => ⟨S32x4x2048x2048, .f32⟩
  | 96 => ⟨S32x4x2048x2048, .f32⟩
  | 97 => ⟨S_, .f32⟩
  | 98 => ⟨S32x4x2048, .f32⟩
  | 99 => ⟨S32x4x2048x1, .f32⟩
  | 100 => ⟨S32x4x2048x2048, .f32⟩
  | 101 => ⟨S32x4x2048x2048, .f32⟩
  | 102 => ⟨S32x4x2048x2048, .f32⟩
  | 103 => ⟨S_, .f32⟩
  | 104 => ⟨S_, .f32⟩
  | 105 => ⟨S32x4x2048x2048, .i1⟩
  | 106 => ⟨S32x4x2048x2048, .f32⟩
  | 107 => ⟨S32x4x2048x2048, .f32⟩
  | 108 => ⟨S32x4x2048x2048, .bf16⟩
  | 109 => ⟨S32x4x2048x2048, .f32⟩
  | 110 => ⟨S32x4x2048x128, .f32⟩
  | 111 => ⟨S_, .f32⟩
  | 112 => ⟨S32x4x2048, .f32⟩
  | 113 => ⟨S32x4x2048x1, .f32⟩
  | 114 => ⟨S32x4x2048x128, .f32⟩
  | 115 => ⟨S32x4x2048x128, .f32⟩
  | 116 => ⟨S1x64, .f32⟩
  | 117 => ⟨S_, .f32⟩
  | 118 => ⟨S_, .f32⟩
  | 119 => ⟨S_, .f32⟩
  | 120 => ⟨S1x64, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S32x4x2048x128, .f32⟩
  | _ => ⟨S65536x512, .bf16⟩

abbrev hbmTy0_1 (i : Nat) : BufTy := match i % 128 with
  | 0 => ⟨S32x4x2048x128, .f32⟩
  | 1 => ⟨S32x4x2048x128, .f32⟩
  | 2 => ⟨S32x4x2048x128, .f32⟩
  | 3 => ⟨S_, .f32⟩
  | 4 => ⟨S32x4x2048, .f32⟩
  | 5 => ⟨S32x4x2048x1, .f32⟩
  | 6 => ⟨S_, .f32⟩
  | 7 => ⟨S32x4x2048x1, .f32⟩
  | 8 => ⟨S32x4x2048x1, .f32⟩
  | 9 => ⟨S_, .f32⟩
  | 10 => ⟨S32x4x2048x1, .f32⟩
  | 11 => ⟨S32x4x2048x1, .f32⟩
  | 12 => ⟨S32x4x2048x1, .f32⟩
  | 13 => ⟨S32x4x2048x128, .f32⟩
  | 14 => ⟨S32x4x2048x128, .f32⟩
  | 15 => ⟨S128, .f32⟩
  | 16 => ⟨S1x1x1x128, .f32⟩
  | 17 => ⟨S32x4x2048x128, .f32⟩
  | 18 => ⟨S32x4x2048x128, .f32⟩
  | 19 => ⟨S_, .f32⟩
  | 20 => ⟨S32x4x2048x128, .f32⟩
  | 21 => ⟨S32x4x2048x128, .f32⟩
  | 22 => ⟨S32x2048x4x128, .f32⟩
  | 23 => ⟨S65536x512, .f32⟩
  | 24 => ⟨S65536x1024, .f32⟩
  | 25 => ⟨S32x2048x8x128, .f32⟩
  | 26 => ⟨S65536x1024, .f32⟩
  | 27 => ⟨S32x2048x8x128, .f32⟩
  | 28 => ⟨S65536x512, .f32⟩
  | 29 => ⟨S32x2048x8x64, .f32⟩
  | 30 => ⟨S32x8x2048x2048, .f32⟩
  | 31 => ⟨S32x8x2048x2048, .f32⟩
  | 32 => ⟨S32x8x2048x2048, .f32⟩
  | 33 => ⟨S_, .f32⟩
  | 34 => ⟨S_, .f32⟩
  | 35 => ⟨S32x8x2048x2048, .i1⟩
  | 36 => ⟨S32x8x2048x2048, .f32⟩
  | 37 => ⟨S32x8x2048x2048, .f32⟩
  | 38 => ⟨S_, .f32⟩
  | 39 => ⟨S32x8x2048, .f32⟩
  | 40 => ⟨S32x8x2048x1, .f32⟩
  | 41 => ⟨S32x8x2048x2048, .f32⟩
  | 42 => ⟨S32x8x2048x2048, .f32⟩
  | 43 => ⟨S32x8x2048x2048, .f32⟩
  | 44 => ⟨S_, .f32⟩
  | 45 => ⟨S_, .f32⟩
  | 46 => ⟨S32x8x2048x2048, .i1⟩
  | 47 => ⟨S32x8x2048x2048, .f32⟩
  | 48 => ⟨S32x8x2048x2048, .f32⟩
  | 49 => ⟨S32x8x2048x2048, .bf16⟩
  | 50 => ⟨S32x8x2048x2048, .f32⟩
  | 51 => ⟨S32x8x2048x64, .f32⟩
  | 52 => ⟨S_, .f32⟩
  | 53 => ⟨S32x8x2048, .f32⟩
  | 54 => ⟨S32x8x2048x1, .f32⟩
  | 55 => ⟨S32x8x2048x64, .f32⟩
  | 56 => ⟨S32x8x2048x64, .f32⟩
  | 57 => ⟨S32x2048x8x64, .f32⟩
  | 58 => ⟨S65536x512, .f32⟩
  | 59 => ⟨S65536x1024, .f32⟩
  | 60 => ⟨S65536x1024, .bf16⟩
  | _ => ⟨S65536x512, .bf16⟩

abbrev hbmTy (i : Nat) : BufTy := match i / 128 with
  | 0 => hbmTy0_0 i
  | 1 => hbmTy0_1 i
  | _ => ⟨S65536x512, .bf16⟩

abbrev bufTy : (tb : Table) → Fin (tcTables nBuf tb) → BufTy
  | .hbm, ⟨i, _⟩ => hbmTy i
  | _, _ => ⟨S65536x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_0 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_2 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v43 : Ref sig .tc := ⟨.hbm, 62, rfl⟩
abbrev main_cst_3 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_4 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_5 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_6 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_v67 : Ref sig .tc := ⟨.hbm, 96, rfl⟩
abbrev main_cst_7 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_8 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_9 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_10 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_11 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_12 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_13 : Ref sig .tc := ⟨.hbm, 131, rfl⟩
abbrev main_v93 : Ref sig .tc := ⟨.hbm, 132, rfl⟩
abbrev main_v94 : Ref sig .tc := ⟨.hbm, 133, rfl⟩
abbrev main_cst_14 : Ref sig .tc := ⟨.hbm, 134, rfl⟩
abbrev main_v95 : Ref sig .tc := ⟨.hbm, 135, rfl⟩
abbrev main_v96 : Ref sig .tc := ⟨.hbm, 136, rfl⟩
abbrev main_cst_15 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_16 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_cst_17 : Ref sig .tc := ⟨.hbm, 161, rfl⟩
abbrev main_call4_v0 : Ref sig .tc := ⟨.hbm, 162, rfl⟩
abbrev main_call4_v1 : Ref sig .tc := ⟨.hbm, 163, rfl⟩
abbrev main_call4_v2 : Ref sig .tc := ⟨.hbm, 164, rfl⟩
abbrev main_v119 : Ref sig .tc := ⟨.hbm, 165, rfl⟩
abbrev main_cst_18 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_19 : Ref sig .tc := ⟨.hbm, 172, rfl⟩
abbrev main_call5_v0 : Ref sig .tc := ⟨.hbm, 173, rfl⟩
abbrev main_call5_v1 : Ref sig .tc := ⟨.hbm, 174, rfl⟩
abbrev main_call5_v2 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_cst_20 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩

abbrev nD : Nat := 1
abbrev τ : Topo := Topo.v7x

variable {F : FTy → Type} [FloatOps F]
-- ==== Tail.lean ====
abbrev S65536x1024 : Shape := ⟨2, ![65536, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x1024, .bf16⟩
  | .hbm, ⟨3, _⟩ => ⟨S1x1024, .f32⟩
  | .hbm, ⟨4, _⟩ => ⟨S1x1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== TailReferenceIdeal.lean ====
abbrev S65536x1024 : Shape := ⟨2, ![65536, 1024]⟩
abbrev S1024x1024 : Shape := ⟨2, ![1024, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S65536 : Shape := ⟨1, ![65536]⟩
abbrev S65536x1 : Shape := ⟨2, ![65536, 1]⟩
abbrev S65536x4096 : Shape := ⟨2, ![65536, 4096]⟩

abbrev nBuf : Space → Nat
  | .hbm => 66
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x1024, .bf16⟩
  | .hbm, ⟨3, _⟩ => ⟨S1x1024, .f32⟩
  | .hbm, ⟨4, _⟩ => ⟨S1x1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S65536x1024, .f32⟩
  | .hbm, ⟨9, _⟩ => ⟨S1024x1024, .f32⟩
  | .hbm, ⟨10, _⟩ => ⟨S65536x1024, .f32⟩
  | .hbm, ⟨11, _⟩ => ⟨S65536x1024, .f32⟩
  | .hbm, ⟨12, _⟩ => ⟨S_, .f32⟩
  | .hbm, ⟨13, _⟩ => ⟨S65536, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S65536x1, .f32⟩
  | .hbm, ⟨22, _⟩ => ⟨S65536x1024, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S_, .f32⟩
  | .hbm, ⟨29, _⟩ => ⟨S65536, .f32⟩
  | .hbm, ⟨30, _⟩ => ⟨S65536x1, .f32⟩
  | .hbm, ⟨31, _⟩ => ⟨S_, .f32⟩
  | .hbm, ⟨32, _⟩ => ⟨S65536x1, .f32⟩
  | .hbm, ⟨33, _⟩ => ⟨S65536x1, .f32⟩
  | .hbm, ⟨34, _⟩ => ⟨S_, .f32⟩
  | .hbm, ⟨35, _⟩ => ⟨S65536x1, .f32⟩
  | .hbm, ⟨36, _⟩ => ⟨S65536x1, .f32⟩
  | .hbm, ⟨37, _⟩ => ⟨S65536x1, .f32⟩
  | .hbm, ⟨38, _⟩ => ⟨S65536x1024, .f32⟩
  | .hbm, ⟨39, _⟩ => ⟨S65536x1024, .f32⟩
  | .hbm, ⟨40, _⟩ => ⟨S65536x1024, .f32⟩
  | .hbm, ⟨41, _⟩ => ⟨S65536x1024, .f32⟩
  | .hbm, ⟨42, _⟩ => ⟨S1024x4096, .f32⟩
  | .hbm, ⟨43, _⟩ => ⟨S65536x4096, .f32⟩
  | .hbm, ⟨44, _⟩ => ⟨S_, .f32⟩
  | .hbm, ⟨45, _⟩ => ⟨S65536x4096, .f32⟩
  | .hbm, ⟨46, _⟩ => ⟨S65536x4096, .f32⟩
  | .hbm, ⟨47, _⟩ => ⟨S65536x4096, .f32⟩
  | .hbm, ⟨48, _⟩ => ⟨S4096x1024, .f32⟩
  | .hbm, ⟨49, _⟩ => ⟨S65536x1024, .f32⟩
  | .hbm, ⟨50, _⟩ => ⟨S65536x1024, .f32⟩
  | .hbm, ⟨51, _⟩ => ⟨S_, .f32⟩
  | .hbm, ⟨52, _⟩ => ⟨S65536, .f32⟩
  | .hbm, ⟨53, _⟩ => ⟨S65536x1, .f32⟩
  | .hbm, ⟨54, _⟩ => ⟨S_, .f32⟩
  | .hbm, ⟨55, _⟩ => ⟨S65536x1, .f32⟩
  | .hbm, ⟨56, _⟩ => ⟨S65536x1, .f32⟩
  | .hbm, ⟨57, _⟩ => ⟨S_, .f32⟩
  | .hbm, ⟨58, _⟩ => ⟨S65536x1, .f32⟩
  | .hbm, ⟨59, _⟩ => ⟨S65536x1, .f32⟩
  | .hbm, ⟨60, _⟩ => ⟨S65536x1, .f32⟩
  | .hbm, ⟨61, _⟩ => ⟨S65536x1024, .f32⟩
  | .hbm, ⟨62, _⟩ => ⟨S65536x1024, .f32⟩
  | .hbm, ⟨63, _⟩ => ⟨S65536x1024, .f32⟩
  | .hbm, ⟨64, _⟩ => ⟨S65536x1024, .f32⟩
  | .hbm, ⟨65, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]
-- ==== Proj.lean ====
abbrev S32x2048x1024 : Shape := ⟨3, ![32, 2048, 1024]⟩
abbrev S1024 : Shape := ⟨1, ![1024]⟩
abbrev S1024x2208 : Shape := ⟨2, ![1024, 2208]⟩
abbrev S384 : Shape := ⟨1, ![384]⟩
abbrev S384x768 : Shape := ⟨2, ![384, 768]⟩
abbrev S256 : Shape := ⟨1, ![256]⟩
abbrev S256x8x64 : Shape := ⟨3, ![256, 8, 64]⟩
abbrev S1024x512 : Shape := ⟨2, ![1024, 512]⟩
abbrev S1024x384 : Shape := ⟨2, ![1024, 384]⟩
abbrev S1024x256 : Shape := ⟨2, ![1024, 256]⟩
abbrev S1024x32 : Shape := ⟨2, ![1024, 32]⟩
abbrev S_ : Shape := ⟨0, ![]⟩
abbrev S1024x128 : Shape := ⟨2, ![1024, 128]⟩
abbrev S1024x16 : Shape := ⟨2, ![1024, 16]⟩
abbrev S1024x1920 : Shape := ⟨2, ![1024, 1920]⟩
abbrev S512x1024 : Shape := ⟨2, ![512, 1024]⟩
abbrev S384x8x96 : Shape := ⟨3, ![384, 8, 96]⟩
abbrev S384x8x128 : Shape := ⟨3, ![384, 8, 128]⟩
abbrev S384x1024 : Shape := ⟨2, ![384, 1024]⟩
abbrev S384x8x32 : Shape := ⟨3, ![384, 8, 32]⟩
abbrev S384x8x16 : Shape := ⟨3, ![384, 8, 16]⟩
abbrev S256x8x128 : Shape := ⟨3, ![256, 8, 128]⟩
abbrev S256x1024 : Shape := ⟨2, ![256, 1024]⟩
abbrev S256x512 : Shape := ⟨2, ![256, 512]⟩
abbrev S1x1024 : Shape := ⟨2, ![1, 1024]⟩
abbrev S1x384 : Shape := ⟨2, ![1, 384]⟩
abbrev S1x256 : Shape := ⟨2, ![1, 256]⟩
abbrev S65536x1024 : Shape := ⟨2, ![65536, 1024]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x32 : Shape := ⟨2, ![2048, 32]⟩
abbrev S2048x128 : Shape := ⟨2, ![2048, 128]⟩
abbrev S2048x512 : Shape := ⟨2, ![2048, 512]⟩
abbrev S65536x512 : Shape := ⟨2, ![65536, 512]⟩
abbrev S32x512x2048 : Shape := ⟨3, ![32, 512, 2048]⟩
abbrev S32x4x512x512 : Shape := ⟨4, ![32, 4, 512, 512]⟩
abbrev S65536x4x128 : Shape := ⟨3, ![65536, 4, 128]⟩
abbrev S65536x256 : Shape := ⟨2, ![65536, 256]⟩
abbrev S65536x128 : Shape := ⟨2, ![65536, 128]⟩
abbrev S512x512 : Shape := ⟨2, ![512, 512]⟩
abbrev S1x512x512 : Shape := ⟨3, ![1, 512, 512]⟩
abbrev S1x1x512x512 : Shape := ⟨4, ![1, 1, 512, 512]⟩
abbrev S512x4x128 : Shape := ⟨3, ![512, 4, 128]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S512x1x128 : Shape := ⟨3, ![512, 1, 128]⟩
abbrev S512x384 : Shape := ⟨2, ![512, 384]⟩

abbrev nBuf : Space → Nat
  | .hbm => 98
  | .vmem => 33
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x2208, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x8x64, .f32⟩
  | .hbm, ⟨7, _⟩ => ⟨S256x8x64, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x384, .f32⟩
  | .hbm, ⟨12, _⟩ => ⟨S1024x256, .f32⟩
  | .hbm, ⟨13, _⟩ => ⟨S1024x32, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x16, .f32⟩
  | .hbm, ⟨18, _⟩ => ⟨S1024x16, .f32⟩
  | .hbm, ⟨19, _⟩ => ⟨S1024x16, .f32⟩
  | .hbm, ⟨20, _⟩ => ⟨S1024x32, .f32⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S1024x1920, .f32⟩
  | .hbm, ⟨25, _⟩ => ⟨S1024x1920, .bf16⟩
  | .hbm, ⟨26, _⟩ => ⟨S512x1024, .f32⟩
  | .hbm, ⟨27, _⟩ => ⟨S512x1024, .bf16⟩
  | .hbm, ⟨28, _⟩ => ⟨S384x8x96, .f32⟩
  | .hbm, ⟨29, _⟩ => ⟨S_, .i32⟩
  | .hbm, ⟨30, _⟩ => ⟨S_, .f32⟩
  | .hbm, ⟨31, _⟩ => ⟨S384x8x128, .f32⟩
  | .hbm, ⟨32, _⟩ => ⟨S384x1024, .f32⟩
  | .hbm, ⟨33, _⟩ => ⟨S384x1024, .bf16⟩
  | .hbm, ⟨34, _⟩ => ⟨S384x8x32, .f32⟩
  | .hbm, ⟨35, _⟩ => ⟨S384x8x16, .f32⟩
  | .hbm, ⟨36, _⟩ => ⟨S384x8x16, .f32⟩
  | .hbm, ⟨37, _⟩ => ⟨S384x8x16, .f32⟩
  | .hbm, ⟨38, _⟩ => ⟨S384x8x32, .f32⟩
  | .hbm, ⟨39, _⟩ => ⟨S_, .i32⟩
  | .hbm, ⟨40, _⟩ => ⟨S_, .f32⟩
  | .hbm, ⟨41, _⟩ => ⟨S384x8x128, .f32⟩
  | .hbm, ⟨42, _⟩ => ⟨S384x1024, .f32⟩
  | .hbm, ⟨43, _⟩ => ⟨S384x1024, .bf16⟩
  | .hbm, ⟨44, _⟩ => ⟨S_, .i32⟩
  | .hbm, ⟨45, _⟩ => ⟨S_, .f32⟩
  | .hbm, ⟨46, _⟩ => ⟨S256x8x128, .f32⟩
  | .hbm, ⟨47, _⟩ => ⟨S256x1024, .f32⟩
  | .hbm, ⟨48, _⟩ => ⟨S256x1024, .bf16⟩
  | .hbm, ⟨49, _⟩ => ⟨S256x512, .f32⟩
  | .hbm, ⟨50, _⟩ => ⟨S256x512, .bf16⟩
  | .hbm, ⟨51, _⟩ => ⟨S1x1024, .f32⟩
  | .hbm, ⟨52, _⟩ => ⟨S1x384, .f32⟩
  | .hbm, ⟨53, _⟩ => ⟨S1x256, .f32⟩
  | .hbm, ⟨54, _⟩ => ⟨S65536x1024, .f32⟩
  | .hbm, ⟨55, _⟩ => ⟨S2048, .i32⟩
  | .hbm, ⟨56, _⟩ => ⟨S16, .f32⟩
  | .hbm, ⟨57, _⟩ => ⟨S16, .f32⟩
  | .hbm, ⟨58, _⟩ => ⟨S_, .f32⟩
  | .hbm, ⟨59, _⟩ => ⟨S16, .f32⟩
  | .hbm, ⟨60, _⟩ => ⟨S16, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S2048, .f32⟩
  | .hbm, ⟨65, _⟩ => ⟨S2048x1, .f32⟩
  | .hbm, ⟨66, _⟩ => ⟨S1x16, .f32⟩
  | .hbm, ⟨67, _⟩ => ⟨S2048x16, .f32⟩
  | .hbm, ⟨68, _⟩ => ⟨S2048x16, .f32⟩
  | .hbm, ⟨69, _⟩ => ⟨S2048x16, .f32⟩
  | .hbm, ⟨70, _⟩ => ⟨S2048x16, .f32⟩
  | .hbm, ⟨71, _⟩ => ⟨S2048x16, .f32⟩
  | .hbm, ⟨72, _⟩ => ⟨S_, .f32⟩
  | .hbm, ⟨73, _⟩ => ⟨S2048x64, .f32⟩
  | .hbm, ⟨74, _⟩ => ⟨S_, .f32⟩
  | .hbm, ⟨75, _⟩ => ⟨S2048x32, .f32⟩
  | .hbm, ⟨76, _⟩ => ⟨S2048x128, .f32⟩
  | .hbm, ⟨77, _⟩ => ⟨S2048x128, .f32⟩
  | .hbm, ⟨78, _⟩ => ⟨S_, .f32⟩
  | .hbm, ⟨79, _⟩ => ⟨S2048x64, .f32⟩
  | .hbm, ⟨80, _⟩ => ⟨S2048x128, .f32⟩
  | .hbm, ⟨81, _⟩ => ⟨S_, .f32⟩
  | .hbm, ⟨82, _⟩ => ⟨S2048x128, .f32⟩
  | .hbm, ⟨83, _⟩ => ⟨S2048x128, .f32⟩
  | .hbm, ⟨84, _⟩ => ⟨S_, .f32⟩
  | .hbm, ⟨85, _⟩ => ⟨S2048x128, .f32⟩
  | .hbm, ⟨86, _⟩ => ⟨S2048x128, .f32⟩
  | .hbm, ⟨87, _⟩ => ⟨S2048x512, .f32⟩
  | .hbm, ⟨88, _⟩ => ⟨S65536x512, .bf16⟩
  | .hbm, ⟨89, _⟩ => ⟨S32x512x2048, .f32⟩
  | .hbm, ⟨90, _⟩ => ⟨S32x4x512x512, .bf16⟩
  | .hbm, ⟨91, _⟩ => ⟨S65536x4x128, .f32⟩
  | .hbm, ⟨92, _⟩ => ⟨S65536x512, .bf16⟩
  | .hbm, ⟨93, _⟩ => ⟨S65536x1024, .bf16⟩
  | .hbm, ⟨94, _⟩ => ⟨S65536x256, .f32⟩
  | .hbm, ⟨95, _⟩ => ⟨S65536x128, .f32⟩
  | .hbm, ⟨96, _⟩ => ⟨S65536x1024, .bf16⟩
  | .hbm, ⟨97, _⟩ => ⟨S65536x512, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S1x1024, .f32⟩
  | .local _ .vmem, ⟨5, _⟩ => ⟨S1024x1920, .bf16⟩
  | .local _ .vmem, ⟨6, _⟩ => ⟨S512x1024, .bf16⟩
  | .local _ .vmem, ⟨7, _⟩ => ⟨S1x384, .f32⟩
  | .local _ .vmem, ⟨8, _⟩ => ⟨S384x1024, .bf16⟩
  | .local _ .vmem, ⟨9, _⟩ => ⟨S384x1024, .bf16⟩
  | .local _ .vmem, ⟨10, _⟩ => ⟨S1x256, .f32⟩
  | .local _ .vmem, ⟨11, _⟩ => ⟨S256x1024, .bf16⟩
  | .local _ .vmem, ⟨12, _⟩ => ⟨S256x512, .bf16⟩
  | .local _ .vmem, ⟨13, _⟩ => ⟨S512x512, .bf16⟩
  | .local _ .vmem, ⟨14, _⟩ => ⟨S512x512, .bf16⟩
  | .local _ .vmem, ⟨15, _⟩ => ⟨S1x512x512, .f32⟩
  | .local _ .vmem, ⟨16, _⟩ => ⟨S1x512x512, .f32⟩
  | .local _ .vmem, ⟨17, _⟩ => ⟨S1x1x512x512, .bf16⟩
  | .local _ .vmem, ⟨18, _⟩ => ⟨S1x1x512x512, .bf16⟩
  | .local _ .vmem, ⟨19, _⟩ => ⟨S512x4x128, .f32⟩
  | .local _ .vmem, ⟨20, _⟩ => ⟨S512x4x128, .f32⟩
  | .local _ .vmem, ⟨21, _⟩ => ⟨S512x512, .bf16⟩
  | .local _ .vmem, ⟨22, _⟩ => ⟨S512x512, .bf16⟩
  | .local _ .vmem, ⟨23, _⟩ => ⟨S512x1024, .bf16⟩
  | .local _ .vmem, ⟨24, _⟩ => ⟨S512x1024, .bf16⟩
  | .local _ .vmem, ⟨25, _⟩ => ⟨S512x256, .f32⟩
  | .local _ .vmem, ⟨26, _⟩ => ⟨S512x256, .f32⟩
  | .local _ .vmem, ⟨27, _⟩ => ⟨S512x128, .f32⟩
  | .local _ .vmem, ⟨28, _⟩ => ⟨S512x128, .f32⟩
  | .local _ .vmem, ⟨29, _⟩ => ⟨S512x1024, .bf16⟩
  | .local _ .vmem, ⟨30, _⟩ => ⟨S512x1024, .bf16⟩
  | .local _ .vmem, ⟨31, _⟩ => ⟨S512x512, .bf16⟩
  | .local _ .vmem, ⟨32, _⟩ => ⟨S512x512, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_call2_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_call3_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_3 : Ref sig .tc := ⟨.hbm, 44, rfl⟩
abbrev main_call4_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst : Ref sig .tc := ⟨.hbm, 58, rfl⟩
abbrev main_v40 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_5 : Ref sig .tc := ⟨.hbm, 72, rfl⟩
abbrev main_v52 : Ref sig .tc := ⟨.hbm, 73, rfl⟩
abbrev main_cst_6 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_7 : Ref sig .tc := ⟨.hbm, 78, rfl⟩
abbrev main_v56 : Ref sig .tc := ⟨.hbm, 79, rfl⟩
abbrev main_v57 : Ref sig .tc := ⟨.hbm, 80, rfl⟩
abbrev main_cst_8 : Ref sig .tc := ⟨.hbm, 81, rfl⟩
abbrev main_v58 : Ref sig .tc := ⟨.hbm, 82, rfl⟩
abbrev main_v59 : Ref sig .tc := ⟨.hbm, 83, rfl⟩
abbrev main_cst_9 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63_0 : Ref sig .tc := ⟨.hbm, 88, rfl⟩
abbrev main_v63_1 : Ref sig .tc := ⟨.hbm, 89, rfl⟩
abbrev main_v63_2 : Ref sig .tc := ⟨.hbm, 90, rfl⟩
abbrev main_v63_3 : Ref sig .tc := ⟨.hbm, 91, rfl⟩
abbrev main_v63_4 : Ref sig .tc := ⟨.hbm, 92, rfl⟩
abbrev main_v63_5 : Ref sig .tc := ⟨.hbm, 93, rfl⟩
abbrev main_v63_6 : Ref sig .tc := ⟨.hbm, 94, rfl⟩
abbrev main_v63_7 : Ref sig .tc := ⟨.hbm, 95, rfl⟩
abbrev main_v63_8 : Ref sig .tc := ⟨.hbm, 96, rfl⟩
abbrev main_v63_9 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1920 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x4x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ProjReferenceIdeal.lean ====
abbrev S32x2048x1024 : Shape := ⟨3, ![32, 2048, 1024]⟩
abbrev S1024 : Shape := ⟨1, ![1024]⟩
abbrev S1024x2208 : Shape := ⟨2, ![1024, 2208]⟩
abbrev S384 : Shape := ⟨1, ![384]⟩
abbrev S384x768 : Shape := ⟨2, ![384, 768]⟩
abbrev S256 : Shape := ⟨1, ![256]⟩
abbrev S256x8x64 : Shape := ⟨3, ![256, 8, 64]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2208 : Shape := ⟨3, ![32, 2048, 2208]⟩
abbrev S32x2048x512 : Shape := ⟨3, ![32, 2048, 512]⟩
abbrev S32x2048x384 : Shape := ⟨3, ![32, 2048, 384]⟩
abbrev S32x2048x256 : Shape := ⟨3, ![32, 2048, 256]⟩
abbrev S32x2048x32 : Shape := ⟨3, ![32, 2048, 32]⟩
abbrev S65536x512 : Shape := ⟨2, ![65536, 512]⟩
abbrev S32x512x2048 : Shape := ⟨3, ![32, 512, 2048]⟩
abbrev S65536x4x128 : Shape := ⟨3, ![65536, 4, 128]⟩
abbrev S1x1x256 : Shape := ⟨3, ![1, 1, 256]⟩
abbrev S65536x256 : Shape := ⟨2, ![65536, 256]⟩

abbrev nBuf : Space → Nat
  | .hbm => 55
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x2208, .f32⟩
  | .hbm, ⟨3, _⟩ => ⟨S384, .f32⟩
  | .hbm, ⟨4, _⟩ => ⟨S384x768, .f32⟩
  | .hbm, ⟨5, _⟩ => ⟨S256, .f32⟩
  | .hbm, ⟨6, _⟩ => ⟨S256x8x64, .f32⟩
  | .hbm, ⟨7, _⟩ => ⟨S256x8x64, .f32⟩
  | .hbm, ⟨8, _⟩ => ⟨S32x2048x1024, .f32⟩
  | .hbm, ⟨9, _⟩ => ⟨S_, .f32⟩
  | .hbm, ⟨10, _⟩ => ⟨S32x2048, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S_, .f32⟩
  | .hbm, ⟨16, _⟩ => ⟨S32x2048x1, .f32⟩
  | .hbm, ⟨17, _⟩ => ⟨S32x2048x1, .f32⟩
  | .hbm, ⟨18, _⟩ => ⟨S32x2048x1, .f32⟩
  | .hbm, ⟨19, _⟩ => ⟨S32x2048x1024, .f32⟩
  | .hbm, ⟨20, _⟩ => ⟨S32x2048x1024, .f32⟩
  | .hbm, ⟨21, _⟩ => ⟨S1x1x1024, .f32⟩
  | .hbm, ⟨22, _⟩ => ⟨S32x2048x1024, .f32⟩
  | .hbm, ⟨23, _⟩ => ⟨S32x2048x1024, .f32⟩
  | .hbm, ⟨24, _⟩ => ⟨S32x2048x2208, .f32⟩
  | .hbm, ⟨25, _⟩ => ⟨S32x2048x512, .f32⟩
  | .hbm, ⟨26, _⟩ => ⟨S32x2048x512, .f32⟩
  | .hbm, ⟨27, _⟩ => ⟨S32x2048x512, .f32⟩
  | .hbm, ⟨28, _⟩ => ⟨S32x2048x384, .f32⟩
  | .hbm, ⟨29, _⟩ => ⟨S32x2048x256, .f32⟩
  | .hbm, ⟨30, _⟩ => ⟨S32x2048x32, .f32⟩
  | .hbm, ⟨31, _⟩ => ⟨S_, .f32⟩
  | .hbm, ⟨32, _⟩ => ⟨S32x2048x512, .f32⟩
  | .hbm, ⟨33, _⟩ => ⟨S32x2048x512, .f32⟩
  | .hbm, ⟨34, _⟩ => ⟨S32x2048x512, .bf16⟩
  | .hbm, ⟨35, _⟩ => ⟨S65536x512, .bf16⟩
  | .hbm, ⟨36, _⟩ => ⟨S32x512x2048, .f32⟩
  | .hbm, ⟨37, _⟩ => ⟨S65536x4x128, .f32⟩
  | .hbm, ⟨38, _⟩ => ⟨S32x2048x256, .f32⟩
  | .hbm, ⟨39, _⟩ => ⟨S_, .f32⟩
  | .hbm, ⟨40, _⟩ => ⟨S32x2048, .f32⟩
  | .hbm, ⟨41, _⟩ => ⟨S32x2048x1, .f32⟩
  | .hbm, ⟨42, _⟩ => ⟨S_, .f32⟩
  | .hbm, ⟨43, _⟩ => ⟨S32x2048x1, .f32⟩
  | .hbm, ⟨44, _⟩ => ⟨S32x2048x1, .f32⟩
  | .hbm, ⟨45, _⟩ => ⟨S_, .f32⟩
  | .hbm, ⟨46, _⟩ => ⟨S32x2048x1, .f32⟩
  | .hbm, ⟨47, _⟩ => ⟨S32x2048x1, .f32⟩
  | .hbm, ⟨48, _⟩ => ⟨S32x2048x1, .f32⟩
  | .hbm, ⟨49, _⟩ => ⟨S32x2048x256, .f32⟩
  | .hbm, ⟨50, _⟩ => ⟨S32x2048x256, .f32⟩
  | .hbm, ⟨51, _⟩ => ⟨S1x1x256, .f32⟩
  | .hbm, ⟨52, _⟩ => ⟨S32x2048x256, .f32⟩
  | .hbm, ⟨53, _⟩ => ⟨S32x2048x256, .f32⟩
  | .hbm, ⟨54, _⟩ => ⟨S65536x256, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Proof.Claims.lean ====
/- The claims that need no arithmetic: every program runs and leaves its arguments alone, and each named constant
   has the value its name stands for. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Adequacy

@[expose] public section

noncomputable section

namespace Cert.Proof

open Idealize.ShloMosaic Idealize.SL.Sem

/-- The side conditions of the precondition's operations. -/
theorem preFacts : Cert.Pre_finite_scores.Facts where
  bitsLt_bf16_f32 := by decide
  bcast_S_S65536x512 := by decide
  bcast_S_S32x4x512x512 := by decide
  shapeCasts_S32x4x512x512_S65536x512 := by decide
  bcast_S_S65536x1024 := by decide
  concatenates_S65536x512_S65536x512_S65536x1024_S65536x1024_S65536x3072_d1 := by decide

/-- The kernel runs and leaves its arguments alone. -/
theorem frame_p : Cert.quiescent_Kernel := fun m ρ _ => Cert.Kernel.Gen.frame m ρ

/-- The idealized kernel runs and leaves its arguments alone. -/
theorem frame_pi : Cert.quiescent_KernelIdeal := fun m ρ _ => Cert.KernelIdeal.Gen.frame m ρ

/-- The same under the precondition. -/
theorem frame_pi_pre : Cert.quiescent_KernelIdeal_pre_finite_scores (hPre_finite_scores := preFacts) := fun m ρ _ => Cert.KernelIdeal.Gen.frame m ρ

/-- The reference runs, leaves its arguments alone and has no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same under the precondition. -/
theorem frame_ri_pre : Cert.quiescent_ReferenceIdeal_pre_finite_scores (hPre_finite_scores := preFacts) := fun m ρ _ => frame_ri m ρ trivial

/-- The mask is minus infinity and the slopes are the reals the kernel's constants round. -/
theorem preserves : Cert.preserves_Kernel_KernelIdeal :=
  ⟨IdealRules.named_const.statement Cert.KernelIdeal.κ "mask" .f32 0xF149F2CA#32 ⊥ rfl,
   IdealRules.named_const.statement Cert.KernelIdeal.κ "slope0" .f32 0x3EB8AA3B#32 (((Real.log 2)⁻¹ * (1 / 4) : ℝ) : EReal) rfl,
   IdealRules.named_const.statement Cert.KernelIdeal.κ "slope1" .f32 0x3DB8AA3B#32 (((Real.log 2)⁻¹ * (1 / 16) : ℝ) : EReal) rfl,
   IdealRules.named_const.statement Cert.KernelIdeal.κ "slope2" .f32 0x3CB8AA3B#32 (((Real.log 2)⁻¹ * (1 / 64) : ℝ) : EReal) rfl,
   IdealRules.named_const.statement Cert.KernelIdeal.κ "slope3" .f32 0x3BB8AA3B#32 (((Real.log 2)⁻¹ * (1 / 256) : ℝ) : EReal) rfl⟩

end Cert.Proof

end
-- ==== Proof.Blocks.lean ====
/- The kernel's arithmetic in a few names, each written once for every head: the scores of one block of keys, the
   running softmax's step over a block, and what a head writes at the end. The printed pieces of the kernel are
   these by unfolding. -/
module

public import proofs.«01_k».proof.Proof.Gen.KernelIdeal.Frame

@[expose] public section

noncomputable section

namespace Cert.Proof.PI

open Idealize.ShloMosaic Idealize.ShloMosaic.TcCoe
open Cert.KernelIdeal Cert.KernelIdeal.Gen

variable {F : FTy → Type} [FloatOps F] [Named F]

/-- A column of one number per row of the stacked queries. -/
abbrev Col (F : FTy → Type) := FVec F S1024x1 .f32
/-- One number per row of the stacked queries and value lane. -/
abbrev Acc (F : FTy → Type) := FVec F S1024x128 .f32
/-- The running softmax of one head: the maxima, the sums of weights, the weighted sums. -/
abbrev St (F : FTy → Type) := Col F × Col F × Acc F
/-- The scores of the stacked queries against one block of keys. -/
abbrev Sc (F : FTy → Type) := FVec F S1024x512 .f32

/-- The distance bias of one block of keys: the slope times the key's position seen from the queries' block. -/
def bias (sl : F .f32) (w : BitVec 32) (v : IVec S1x512 32) : FVec F S1x512 .f32 :=
  mulf (broadcast S1x512 sl) (sitofp .f32 (addi (broadcast S1x512 w) v))

/-- The scores of a differential head against one block of keys. -/
def scoreA (q : Vec F S1x1024x128 .bf16) (k : Vec F S1x1x128x512 .bf16) (b : FVec F S1x512 .f32) : Sc F :=
  addf (matmul dot_S1024x128_S128x512_S1024x512_1_0_0_1_n_n none
      (shapeCast S1024x128 q shapeCasts_S1x1024x128_S1024x128 : FVec F S1024x128 .bf16)
      (shapeCast S128x512 k shapeCasts_S1x1x128x512_S128x512 : FVec F S128x512 .bf16)
      (constant S1024x512 .f32 0x00000000#32))
    (broadcastTo S1024x512 b broadcasts_S1x512_S1024x512)

/-- The scores of a pair of latent heads against one block of keys. -/
def scoreB (q : Vec F S1x1024x256 .bf16) (k : Vec F S512x256 .bf16) : Sc F :=
  matmul dot_S1024x256_S512x256_S1024x512_1_1_0_0_n_n none
    (shapeCast S1024x256 q shapeCasts_S1x1024x256_S1024x256 : FVec F S1024x256 .bf16) k (constant S1024x512 .f32 0x00000000#32)

/-- The maxima after a block with scores `s`. -/
def mNew (s : Sc F) (m : Col F) : Col F :=
  maximumf m (shapeCast S1024x1 (multiReduction .maximumf [1] S1024 s 0xFF800000#32 reduces_S1024x512_S1024 (.inl rfl) rfl)
    shapeCasts_S1024_S1024x1)

/-- The factor that takes the sums from the old maxima to the new. -/
def alpha (s : Sc F) (m : Col F) : Col F := exp2 (subf m (mNew s m))

/-- The weights of a block's keys. -/
def wts (s : Sc F) (m : Col F) : Sc F := exp2 (subf s (broadcastTo S1024x512 (mNew s m) broadcasts_S1024x1_S1024x512))

/-- The sums of weights after a block. -/
def lNew (s : Sc F) (m l : Col F) : Col F :=
  addf (mulf (alpha s m) l)
    (shapeCast S1024x1 (multiReduction .add [1] S1024 (wts s m) 0x00000000#32 reduces_S1024x512_S1024 (.inl rfl) rfl)
      shapeCasts_S1024_S1024x1)

/-- The weighted sums after a block with values `v`. -/
def aNew (s : Sc F) (v : Vec F S512x128 .bf16) (m : Col F) (a : Acc F) : Acc F :=
  addf (mulf (broadcastTo S1024x128 (alpha s m) broadcasts_S1024x1_S1024x128) a)
    (matmul dot_S1024x512_S512x128_S1024x128_1_0_0_1_n_n none (truncf .bf16 (wts s m) bitsLt_bf16_f32 : FVec F S1024x512 .bf16) v
      (constant S1024x128 .f32 0x00000000#32))

/-- One block's step of the running softmax. -/
def upd (s : Sc F) (v : Vec F S512x128 .bf16) (x : St F) : St F :=
  (mNew s x.1, lNew s x.1 x.2.1, aNew s v x.1 x.2.2)

/-- The running softmax before the first block. -/
def st0 : St F :=
  (broadcast S1024x1 (Named.named κ "mask" 0xF149F2CA#32), broadcast S1024x1 (Scalar.ofBits .f32 0x00000000#32),
    broadcast S1024x128 (Scalar.ofBits .f32 0x00000000#32))

/-- The weighted sums over the sums of weights. -/
def quo (x : St F) : Acc F :=
  mulf x.2.2 (broadcastTo S1024x128 (divf (broadcast S1024x1 (Scalar.ofBits .f32 0x3F800000#32)) x.2.1) broadcasts_S1024x1_S1024x128)

/-- The difference of a differential head's two maps: the upper rows less `lam` times the lower. -/
def diff (lam : FVec F S1x1 .f32) (o : Acc F) : FVec F S512x128 .f32 :=
  subf (extractStridedSlice S512x128 ![0, 0] o slices_S1024x128_o0_0_S512x128)
    (mulf (broadcastTo S512x128 lam broadcasts_S1x1_S512x128)
      (extractStridedSlice S512x128 ![512, 0] o slices_S1024x128_o512_0_S512x128))

/-- The root mean square norm of a differential head's rows, scaled. -/
def rms (g : Vec F S1x128 .f32) (o : FVec F S512x128 .f32) : FVec F S512x128 .bf16 :=
  truncf .bf16
    (mulf (mulf (mulf o (broadcastTo S512x128
        (rsqrt (addf (divf (shapeCast S512x1 (multiReduction .add [1] S512 (mulf o o) 0x00000000#32 reduces_S512x128_S512 (.inl rfl) rfl)
            shapeCasts_S512_S512x1) (broadcast S512x1 (Scalar.ofBits .f32 0x43000000#32)))
          (broadcast S512x1 (Scalar.ofBits .f32 0x3727C5AC#32)))) broadcasts_S512x1_S512x128))
        (broadcastTo S512x128 g broadcasts_S1x128_S512x128))
      (broadcast S512x128 (Scalar.ofBits .f32 0x3F4CCCCD#32))) bitsLt_bf16_f32

/-- What a differential head writes. -/
def outA (lam : FVec F S1x1 .f32) (g : Vec F S1x128 .f32) (x : St F) : FVec F S512x128 .bf16 := rms g (diff lam (quo x))

/-- What a pair of latent heads writes: the first head's lanes from the upper rows, the second's from the lower. -/
def outB (x : St F) : FVec F S512x128 .bf16 :=
  truncf .bf16 (select (cmpi .slt (iota .tc S512x128 32 [1] iota_S512x128_d1_w32) (broadcast S512x128 64#32))
    (extractStridedSlice S512x128 ![0, 0] (quo x) slices_S1024x128_o0_0_S512x128)
    (extractStridedSlice S512x128 ![512, 0] (quo x) slices_S1024x128_o512_0_S512x128)) bitsLt_bf16_f32

/-- The weight of the second map. -/
def lamOf (a b c d : Vec F S1x64 .f32) : FVec F S1x1 .f32 := k0_pay121 a b c d

/-- The four heads' states as the loop carries them. -/
def pack (a b c d : St F) : FVec F S1024x1 .f32 × FVec F S1024x1 .f32 × FVec F S1024x128 .f32 × FVec F S1024x1 .f32 × FVec F S1024x1 .f32 × FVec F S1024x128 .f32 × FVec F S1024x1 .f32 × FVec F S1024x1 .f32 × FVec F S1024x128 .f32 × FVec F S1024x1 .f32 × FVec F S1024x1 .f32 × FVec F S1024x128 .f32 :=
  (a.1, a.2.1, a.2.2, b.1, b.2.1, b.2.2, c.1, c.2.1, c.2.2, d.1, d.2.1, d.2.2)

end Cert.Proof.PI
-- ==== Proof.Trips.lean ====
/- One trip of each of the kernel's two loops over blocks of keys is the running softmax's step over that block,
   for the four heads the loop carries. -/
module

public import proofs.«01_k».proof.Proof.Blocks

@[expose] public section

noncomputable section

namespace Cert.Proof.PI

open Idealize.ShloMosaic Idealize.ShloMosaic.TcCoe Idealize.ShloMosaic.Tactic
open Cert.KernelIdeal Cert.KernelIdeal.Gen
open Idealize.SL Idealize.SL.Sem

variable {F : FTy → Type} [FloatOps F] [Named F]

/-- A trip of the differential heads' loop. -/
theorem trip1 (𝒱 : Variants) (c : Dev nD) (bd : Option 𝒱.V) (i : grid0.Coords) (arg2 : Memref sig .tc .vmem S512x512 .bf16) (harg2 : arg2.IsWhole) (arg3 : Memref sig .tc .vmem S1x4x512x512 .bf16) (harg3 : arg3.IsWhole) (arg4 : Memref sig .tc .vmem S2048x512 .bf16) (harg4 : arg4.IsWhole) (arg5 : Memref sig .tc .vmem S512x1024 .bf16) (harg5 : arg5.IsWhole) (arg6 : Memref sig .tc .vmem S2048x1024 .bf16) (harg6 : arg6.IsWhole) (arg7 : Memref sig .tc .vmem S2048x512 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S4x1024x128 .bf16) (harg14 : arg14.IsWhole) (arg15 : Memref sig .tc .vmem S4x1024x256 .bf16) (harg15 : arg15.IsWhole) (arg16 : Memref sig .tc .vmem S1024x512 .f32) (harg16 : arg16.IsWhole) (arg1 : BitVec 32) (v131 : BitVec 32) (v132 : IVec S1x512 32) (v151 : FVec F S1024x1 .f32) (v152 : FVec F S1024x1 .f32) (v153 : FVec F S1024x128 .f32) (v154 : FVec F S1024x1 .f32) (v155 : FVec F S1024x1 .f32) (v156 : FVec F S1024x128 .f32) (v157 : FVec F S1024x1 .f32) (v158 : FVec F S1024x1 .f32) (v159 : FVec F S1024x128 .f32) (v160 : FVec F S1024x1 .f32) (cst_104 : F .f32) (X_arg3 : BufTy.Contents (Elt F) arg3.view.ty) (X_arg4 : BufTy.Contents (Elt F) arg4.view.ty) (X_arg14 : BufTy.Contents (Elt F) arg14.view.ty) (k : Fin (k0_t1_loop i).trips) (s0 s1 s2 s3 : St F) :
    tripR_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v131 v132 v151 v152 v153 v154 v155 v156 v157 v158 v159 v160 cst_104 X_arg3 X_arg4 X_arg14 k (pack s0 s1 s2 s3)
      = pack (upd (scoreA (View.readAt (Elt F) arg14.view (Rect.unit (s := S4x1024x128) ![0, 0, 0] S1x1024x128.size inb_S4x1024x128_S1x1024x128_0_0_0).toLoadRect X_arg14)
          (View.readAt (Elt F) arg3.view (Rect.unit (s := S1x4x512x512) (k0_off1 i k) S1x1x128x512.size (k0_off1_inb i k)).toLoadRect X_arg3)
          (bias (Named.named κ "slope0" 0x3EB8AA3B#32) (Scalar.subi (Scalar.muli (Scf.iv 0#32 1#32 k) 512#32) (Scalar.muli arg1 512#32)) v132))
          (View.readAt (Elt F) arg4.view (Rect.unit (s := S2048x512) (k0_off2 i k) S512x128.size (k0_off2_inb i k)).toLoadRect X_arg4) s0)
        (upd (scoreA (View.readAt (Elt F) arg14.view (Rect.unit (s := S4x1024x128) ![1, 0, 0] S1x1024x128.size inb_S4x1024x128_S1x1024x128_1_0_0).toLoadRect X_arg14)
          (View.readAt (Elt F) arg3.view (Rect.unit (s := S1x4x512x512) (k0_off3 i k) S1x1x128x512.size (k0_off3_inb i k)).toLoadRect X_arg3)
          (bias (Named.named κ "slope1" 0x3DB8AA3B#32) (Scalar.subi (Scalar.muli (Scf.iv 0#32 1#32 k) 512#32) (Scalar.muli arg1 512#32)) v132))
          (View.readAt (Elt F) arg4.view (Rect.unit (s := S2048x512) (k0_off4 i k) S512x128.size (k0_off4_inb i k)).toLoadRect X_arg4) s1)
        (upd (scoreA (View.readAt (Elt F) arg14.view (Rect.unit (s := S4x1024x128) ![2, 0, 0] S1x1024x128.size inb_S4x1024x128_S1x1024x128_2_0_0).toLoadRect X_arg14)
          (View.readAt (Elt F) arg3.view (Rect.unit (s := S1x4x512x512) (k0_off5 i k) S1x1x128x512.size (k0_off5_inb i k)).toLoadRect X_arg3)
          (bias (Named.named κ "slope2" 0x3CB8AA3B#32) (Scalar.subi (Scalar.muli (Scf.iv 0#32 1#32 k) 512#32) (Scalar.muli arg1 512#32)) v132))
          (View.readAt (Elt F) arg4.view (Rect.unit (s := S2048x512) (k0_off6 i k) S512x128.size (k0_off6_inb i k)).toLoadRect X_arg4) s2)
        (upd (scoreA (View.readAt (Elt F) arg14.view (Rect.unit (s := S4x1024x128) ![3, 0, 0] S1x1024x128.size inb_S4x1024x128_S1x1024x128_3_0_0).toLoadRect X_arg14)
          (View.readAt (Elt F) arg3.view (Rect.unit (s := S1x4x512x512) (k0_off7 i k) S1x1x128x512.size (k0_off7_inb i k)).toLoadRect X_arg3)
          (bias (Named.named κ "slope3" 0x3BB8AA3B#32) (Scalar.subi (Scalar.muli (Scf.iv 0#32 1#32 k) 512#32) (Scalar.muli arg1 512#32)) v132))
          (View.readAt (Elt F) arg4.view (Rect.unit (s := S2048x512) (k0_off8 i k) S512x128.size (k0_off8_inb i k)).toLoadRect X_arg4) s3) := by
  conv_lhs => delta tripR_k0_t1 trip_k0_t1; simp only []
  rfl

/-- A trip of the latent heads' loop. -/
theorem trip3 (𝒱 : Variants) (c : Dev nD) (bd : Option 𝒱.V) (i : grid0.Coords) (arg2 : Memref sig .tc .vmem S512x512 .bf16) (harg2 : arg2.IsWhole) (arg3 : Memref sig .tc .vmem S1x4x512x512 .bf16) (harg3 : arg3.IsWhole) (arg4 : Memref sig .tc .vmem S2048x512 .bf16) (harg4 : arg4.IsWhole) (arg5 : Memref sig .tc .vmem S512x1024 .bf16) (harg5 : arg5.IsWhole) (arg6 : Memref sig .tc .vmem S2048x1024 .bf16) (harg6 : arg6.IsWhole) (arg7 : Memref sig .tc .vmem S2048x512 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S4x1024x128 .bf16) (harg14 : arg14.IsWhole) (arg15 : Memref sig .tc .vmem S4x1024x256 .bf16) (harg15 : arg15.IsWhole) (arg16 : Memref sig .tc .vmem S1024x512 .f32) (harg16 : arg16.IsWhole) (v131 : BitVec 32) (v417 : FVec F S512x128 .f32) (X_arg6 : BufTy.Contents (Elt F) arg6.view.ty) (X_arg7 : BufTy.Contents (Elt F) arg7.view.ty) (X_arg15 : BufTy.Contents (Elt F) arg15.view.ty) (k : Fin (k0_t3_loop i).trips) (s0 s1 s2 s3 : St F) :
    tripR_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v131 v417 X_arg6 X_arg7 X_arg15 k (pack s0 s1 s2 s3)
      = pack (upd (scoreB (View.readAt (Elt F) arg15.view (Rect.unit (s := S4x1024x256) ![0, 0, 0] S1x1024x256.size inb_S4x1024x256_S1x1024x256_0_0_0).toLoadRect X_arg15)
          (View.readAt (Elt F) arg6.view (Rect.unit (s := S2048x1024) (k0_off25 i k) S512x256.size (k0_off25_inb i k)).toLoadRect X_arg6))
          (View.readAt (Elt F) arg7.view (Rect.unit (s := S2048x512) (k0_off26 i k) S512x128.size (k0_off26_inb i k)).toLoadRect X_arg7) s0)
        (upd (scoreB (View.readAt (Elt F) arg15.view (Rect.unit (s := S4x1024x256) ![1, 0, 0] S1x1024x256.size inb_S4x1024x256_S1x1024x256_1_0_0).toLoadRect X_arg15)
          (View.readAt (Elt F) arg6.view (Rect.unit (s := S2048x1024) (k0_off27 i k) S512x256.size (k0_off27_inb i k)).toLoadRect X_arg6))
          (View.readAt (Elt F) arg7.view (Rect.unit (s := S2048x512) (k0_off28 i k) S512x128.size (k0_off28_inb i k)).toLoadRect X_arg7) s1)
        (upd (scoreB (View.readAt (Elt F) arg15.view (Rect.unit (s := S4x1024x256) ![2, 0, 0] S1x1024x256.size inb_S4x1024x256_S1x1024x256_2_0_0).toLoadRect X_arg15)
          (View.readAt (Elt F) arg6.view (Rect.unit (s := S2048x1024) (k0_off29 i k) S512x256.size (k0_off29_inb i k)).toLoadRect X_arg6))
          (View.readAt (Elt F) arg7.view (Rect.unit (s := S2048x512) (k0_off30 i k) S512x128.size (k0_off30_inb i k)).toLoadRect X_arg7) s2)
        (upd (scoreB (View.readAt (Elt F) arg15.view (Rect.unit (s := S4x1024x256) ![3, 0, 0] S1x1024x256.size inb_S4x1024x256_S1x1024x256_3_0_0).toLoadRect X_arg15)
          (View.readAt (Elt F) arg6.view (Rect.unit (s := S2048x1024) (k0_off31 i k) S512x256.size (k0_off31_inb i k)).toLoadRect X_arg6))
          (View.readAt (Elt F) arg7.view (Rect.unit (s := S2048x512) (k0_off32 i k) S512x128.size (k0_off32_inb i k)).toLoadRect X_arg7) s3) := by
  conv_lhs => delta tripR_k0_t3 trip_k0_t3; simp only []
  rfl

end Cert.Proof.PI
-- ==== Proof.Softmax.lean ====
/- The running softmax over the extended reals: the maximum, the sum of the weights and the weighted sum of
   the values over the first `n` keys of one row, how one block of keys moves them on, and why the end of the
   running form is the softmax written with `exp` over all keys of the row. -/
module

public import Idealize.ShloMosaic.PureOps.Ideal
public import Idealize.ShloMosaic.PureOps.Ideal.Laws

@[expose] public section

noncomputable section

namespace Cert.Proof.Softmax

open Idealize.ShloMosaic
open scoped BigOperators

/-- The largest of the first `n` scores (`⊥` of none). -/
def mx (s : ℕ → EReal) (n : ℕ) : EReal := (Finset.range n).sup s

/-- The sum of the weights of the first `n` keys, each taken from their maximum. -/
def den (s : ℕ → EReal) (n : ℕ) : EReal := ∑ k ∈ Finset.range n, Ideal.exp2 (s k - mx s n)

/-- The sum of the first `n` values, each with its key's weight. -/
def num (s v : ℕ → EReal) (n : ℕ) : EReal := ∑ k ∈ Finset.range n, Ideal.exp2 (s k - mx s n) * v k

/-- Two to the power `⊥` is zero. -/
theorem exp2_bot : Ideal.exp2 ⊥ = 0 := rfl

/-- Two to a real power is the real power. -/
theorem exp2_coe (r : ℝ) : Ideal.exp2 (r : EReal) = (((2 : ℝ) ^ r : ℝ) : EReal) := rfl

/-- A power of two is not negative. -/
theorem exp2_nonneg (x : EReal) : 0 ≤ Ideal.exp2 x := by
  induction x using EReal.rec with
  | bot => exact le_refl _
  | top => exact le_top
  | coe r => exact EReal.coe_nonneg.2 (Real.rpow_nonneg (by norm_num) r)

/-- A power of two below `2 ^ ⊤` is finite. -/
theorem exp2_ne_top {x : EReal} (h : x ≠ ⊤) : Ideal.exp2 x ≠ ⊤ := by
  induction x using EReal.rec with
  | bot => exact EReal.zero_ne_top
  | top => exact absurd rfl h
  | coe r => exact EReal.coe_ne_top _

/-- A difference with the smaller number first is not `⊤`. -/
theorem sub_ne_top {a m : EReal} (h : a ≤ m) : a - m ≠ ⊤ := by
  induction m using EReal.rec with
  | bot => rw [le_bot_iff.1 h]; decide
  | top => simp
  | coe r =>
    induction a using EReal.rec with
    | bot => simp
    | top => exact absurd h (by simp)
    | coe x => rw [← EReal.coe_sub]; exact EReal.coe_ne_top _

/-- The weight taken from an older maximum, rescaled to a newer one, is the weight taken from the newer. -/
theorem exp2_rescale {s a m : EReal} (h₁ : s ≤ a) (h₂ : a ≤ m) :
    Ideal.exp2 (a - m) * Ideal.exp2 (s - a) = Ideal.exp2 (s - m) := by
  induction m using EReal.rec with
  | bot =>
    obtain rfl := le_bot_iff.1 h₂; obtain rfl := le_bot_iff.1 h₁
    simp [exp2_bot]
  | top => simp [exp2_bot]
  | coe m =>
    induction a using EReal.rec with
    | bot => obtain rfl := le_bot_iff.1 h₁; simp [exp2_bot]
    | top => exact absurd h₂ (by simp)
    | coe a =>
      induction s using EReal.rec with
      | bot => simp [exp2_bot]
      | top => exact absurd h₁ (by simp)
      | coe s =>
        simp only [← EReal.coe_sub, exp2_coe, ← EReal.coe_mul]
        congr 1
        rw [← Real.rpow_add (by norm_num)]; congr 1; ring

/-- A finite factor that is not negative goes into a finite sum. -/
theorem mul_sum {ι : Type} (t : Finset ι) (f : ι → EReal) {c : EReal} (h : 0 ≤ c) (h' : c ≠ ⊤) :
    c * ∑ k ∈ t, f k = ∑ k ∈ t, c * f k := by
  classical
  induction t using Finset.induction_on with
  | empty => simp
  | insert a t ha ih =>
    rw [Finset.sum_insert ha, Finset.sum_insert ha, EReal.left_distrib_of_nonneg_of_ne_top h h', ih]

/-- The first `n` scores are at most their maximum. -/
theorem le_mx (s : ℕ → EReal) {n k : ℕ} (h : k < n) : s k ≤ mx s n :=
  Finset.le_sup (Finset.mem_range.2 h)

/-- More keys, no smaller maximum. -/
theorem mx_mono (s : ℕ → EReal) {n n' : ℕ} (h : n ≤ n') : mx s n ≤ mx s n' :=
  Finset.sup_mono (Finset.range_mono h)

/-- The maximum after one more block of `b` keys. -/
theorem mx_step (s : ℕ → EReal) (n b : ℕ) :
    mx s (n + b) = max (mx s n) (Finset.univ.sup fun j : Fin b => s (n + j)) := by
  apply le_antisymm
  · refine Finset.sup_le fun k hk => ?_
    by_cases h : k < n
    · exact le_max_of_le_left (le_mx s h)
    · have hb : k - n < b := by have := Finset.mem_range.1 hk; omega
      refine le_max_of_le_right (le_trans (le_of_eq ?_)
        (Finset.le_sup (f := fun j : Fin b => s (n + j)) (Finset.mem_univ ⟨k - n, hb⟩)))
      show s k = s (n + (k - n)); congr 1; omega
  · refine max_le (mx_mono s (Nat.le_add_right _ _)) (Finset.sup_le fun j _ => le_mx s ?_)
    have := j.2; omega

/-- The sum of the weights after one more block of `b` keys. -/
theorem den_step (s : ℕ → EReal) (n b : ℕ) :
    den s (n + b) = Ideal.exp2 (mx s n - mx s (n + b)) * den s n
      + ∑ j : Fin b, Ideal.exp2 (s (n + j) - mx s (n + b)) := by
  have hm := mx_mono s (Nat.le_add_right n b)
  rw [den, Finset.sum_range_add, den, mul_sum _ _ (exp2_nonneg _) (exp2_ne_top (sub_ne_top hm)),
    Finset.sum_range (fun k => Ideal.exp2 (s (n + k) - mx s (n + b)))]
  congr 1
  exact Finset.sum_congr rfl fun k hk => (exp2_rescale (le_mx s (Finset.mem_range.1 hk)) hm).symm

/-- The weighted sum of the values after one more block of `b` keys. -/
theorem num_step (s v : ℕ → EReal) (n b : ℕ) :
    num s v (n + b) = Ideal.exp2 (mx s n - mx s (n + b)) * num s v n
      + ∑ j : Fin b, Ideal.exp2 (s (n + j) - mx s (n + b)) * v (n + j) := by
  have hm := mx_mono s (Nat.le_add_right n b)
  rw [num, Finset.sum_range_add, num, mul_sum _ _ (exp2_nonneg _) (exp2_ne_top (sub_ne_top hm)),
    Finset.sum_range (fun k => Ideal.exp2 (s (n + k) - mx s (n + b)) * v (n + k))]
  congr 1
  refine Finset.sum_congr rfl fun k hk => ?_
  rw [← mul_assoc, exp2_rescale (le_mx s (Finset.mem_range.1 hk)) hm]

/-- Scores that agree on the first `n` keys have the same maximum over them. -/
theorem mx_congr {s s' : ℕ → EReal} {n : ℕ} (h : ∀ k < n, s k = s' k) : mx s n = mx s' n :=
  Finset.sup_congr rfl fun k hk => h k (Finset.mem_range.1 hk)

/-- Scores that agree on the first `n` keys have the same sum of weights over them. -/
theorem den_congr {s s' : ℕ → EReal} {n : ℕ} (h : ∀ k < n, s k = s' k) : den s n = den s' n :=
  Finset.sum_congr rfl fun k hk => by rw [h k (Finset.mem_range.1 hk), mx_congr h]

/-- Scores that agree on the first `n` keys have the same weighted sum over them. -/
theorem num_congr {s s' v : ℕ → EReal} {n : ℕ} (h : ∀ k < n, s k = s' k) : num s v n = num s' v n :=
  Finset.sum_congr rfl fun k hk => by rw [h k (Finset.mem_range.1 hk), mx_congr h]

/-- The scores of a row in base two (`s`) and in base `e` (`r`): real numbers on the keys up to `q`, related by
    the factor `log 2` and a shift that is the row's own; no weight on the keys after `q`. -/
structure Row (q : ℕ) (s r : ℕ → EReal) : Prop where
  ex : ∃ (x : ℕ → ℝ) (c : ℝ), ∀ k ≤ q, s k = (x k : EReal) ∧ r k = ((Real.log 2 * x k + c : ℝ) : EReal)
  hidden : ∀ k, q < k → s k = ⊥ ∧ r k = ⊥

variable {q : ℕ} {s r : ℕ → EReal}

/-- The largest score of a row is a real number that one of the keys up to `q` attains, in both bases. -/
theorem Row.max (h : Row q s r) : ∃ k₀ ≤ q, ∃ (x : ℕ → ℝ) (c : ℝ),
    (∀ k ≤ q, s k = (x k : EReal) ∧ r k = ((Real.log 2 * x k + c : ℝ) : EReal)) ∧
    (∀ n, q < n → mx s n = (x k₀ : EReal)) ∧
    (∀ n, q < n → mx r n = ((Real.log 2 * x k₀ + c : ℝ) : EReal)) := by
  obtain ⟨x, c, hx⟩ := h.ex
  obtain ⟨k₀, hk₀, hmax⟩ := Finset.exists_max_image (Finset.range (q + 1)) x ⟨0, by simp⟩
  have hk : k₀ ≤ q := by have := Finset.mem_range.1 hk₀; omega
  have hl : 0 < Real.log 2 := Real.log_pos (by norm_num)
  refine ⟨k₀, hk, x, c, hx, fun n hn => ?_, fun n hn => ?_⟩
  · apply le_antisymm
    · refine Finset.sup_le fun k _ => ?_
      by_cases hkq : k ≤ q
      · rw [(hx k hkq).1]; exact EReal.coe_le_coe_iff.2 (hmax k (Finset.mem_range.2 (by omega)))
      · rw [(h.hidden k (by omega)).1]; exact bot_le
    · rw [← (hx k₀ hk).1]; exact le_mx s (by omega)
  · apply le_antisymm
    · refine Finset.sup_le fun k _ => ?_
      by_cases hkq : k ≤ q
      · rw [(hx k hkq).2]; refine EReal.coe_le_coe_iff.2 ?_
        have := mul_le_mul_of_nonneg_left (hmax k (Finset.mem_range.2 (by omega))) hl.le
        linarith
      · rw [(h.hidden k (by omega)).2]; exact bot_le
    · rw [← (hx k₀ hk).2]; exact le_mx r (by omega)

/-- A key's weight is the same number in base two and in base `e`. -/
theorem Row.weight (h : Row q s r) {n N k : ℕ} (hn : q < n) (hN : q < N) :
    Ideal.exp2 (s k - mx s n) = if k ≤ q then Ideal.exp (r k - mx r N) else 0 := by
  obtain ⟨k₀, hk₀, x, c, hx, hs, hr⟩ := h.max
  split
  · next hk =>
    rw [hs n hn, hr N hN, (hx k hk).1, (hx k hk).2, ← EReal.coe_sub, ← EReal.coe_sub]
    show ((Real.rpow 2 (x k - x k₀) : ℝ) : EReal) = ((Real.exp _ : ℝ) : EReal)
    congr 1
    show (2 : ℝ) ^ (x k - x k₀) = _
    rw [Real.rpow_def_of_pos (by norm_num)]; congr 1; ring
  · next hk => rw [(h.hidden k (by omega)).1, EReal.bot_sub]; rfl

/-- The sum of the weights of a row is not zero: its largest score has weight one. -/
theorem Row.den_ne_zero (h : Row q s r) {n : ℕ} (hn : q < n) : den s n ≠ 0 := by
  obtain ⟨k₀, hk₀, x, c, hx, hs, hr⟩ := h.max
  have h1 : (1 : EReal) ≤ den s n := by
    calc (1 : EReal) = Ideal.exp2 (s k₀ - mx s n) := by
            rw [hs n hn, (hx k₀ hk₀).1, ← EReal.coe_sub, sub_self]
            show (1 : EReal) = ((Real.rpow 2 0 : ℝ) : EReal)
            rw [show Real.rpow 2 0 = (1 : ℝ) from Real.rpow_zero 2]; rfl
      _ ≤ den s n := Finset.single_le_sum (f := fun k => Ideal.exp2 (s k - mx s n))
            (fun k _ => exp2_nonneg _) (Finset.mem_range.2 (by omega))
  intro h0; rw [h0] at h1; exact absurd h1 (by norm_num)

/-- Beyond the row's own key nothing is added, so the sum over the keys seen is the sum over all `N` keys. -/
theorem Row.sum_eq (h : Row q s r) (f : EReal → ℕ → EReal) (hf : ∀ k, f 0 k = 0) {n N : ℕ} (hn : q < n) (hN : n ≤ N) :
    ∑ k ∈ Finset.range n, f (Ideal.exp2 (s k - mx s n)) k
      = ∑ k : Fin N, f (if k.val ≤ q then Ideal.exp (r k - mx r N) else 0) k := by
  rw [← Finset.sum_range (fun k => f (if k ≤ q then Ideal.exp (r k - mx r N) else 0) k)]
  rw [Finset.sum_congr rfl fun k _ => by rw [h.weight (k := k) hn (lt_of_lt_of_le hn hN)]]
  refine Finset.sum_subset (Finset.range_mono hN) fun k _ hk => ?_
  rw [if_neg (by have := mt Finset.mem_range.2 hk; omega), hf]

/-- The end of the running form — the weighted sum times the reciprocal of the sum of the weights — is the
    softmax of the row over all `N` keys, written with `exp` and a quotient. -/
theorem Row.quotient (h : Row q s r) (v : ℕ → EReal) {n N : ℕ} (hn : q < n) (hN : n ≤ N) :
    num s v n * Ideal.div 1 (den s n)
      = Ideal.div (∑ k : Fin N, (if k.val ≤ q then Ideal.exp (r k - mx r N) else 0) * v k)
          (∑ k : Fin N, if k.val ≤ q then Ideal.exp (r k - mx r N) else 0) := by
  have hd := h.den_ne_zero hn
  have e₁ := h.sum_eq (fun w _ => w) (fun _ => rfl) hn hN
  have e₂ := h.sum_eq (fun w k => w * v k) (fun _ => zero_mul _) hn hN
  rw [← e₁, ← e₂]
  show num s v n * Ideal.div 1 (den s n) = Ideal.div (num s v n) (den s n)
  rw [Ideal.div, Ideal.div, if_neg hd, if_neg hd, one_mul]

end Cert.Proof.Softmax
-- ==== Proof.Step.lean ====
/- One block's step of the kernel's running softmax, read at the extended reals: if before the block the state holds
   the maximum, the sum of weights and the weighted sums over the first keys of each row, it holds them over the
   block's keys too afterwards. -/
module

public import proofs.«01_k».proof.Proof.Blocks
public import proofs.«01_k».proof.Proof.Softmax
public import Idealize.ShloMosaic.Lib.ValueIdx
public import Idealize.ShloMosaic.Lib.ValueLayout
public import Idealize.ShloMosaic.Lib.ValueLayoutCasts
public import Idealize.ShloMosaic.Lib.MatmulPlain

@[expose] public section

noncomputable section

namespace Cert.Proof.PI

open Idealize.ShloMosaic Idealize.ShloMosaic.TcCoe Idealize.ShloMosaic.ValueIdx
open Cert.KernelIdeal Cert.KernelIdeal.Gen
open Cert.Proof.Softmax

/-- The state of a head over the first `n` keys, from each row's scores and each lane's values. -/
def stOf (s : Fin 1024 → ℕ → EReal) (v : Fin 128 → ℕ → EReal) (n : ℕ) : St Ideal :=
  (fun j => mx (s (j 0)) n, fun j => den (s (j 0)) n, fun j => num (s (j 0)) (v (j 1)) n)

/-- A column of numbers written over a row's lanes. -/
theorem col_apply {α : Type} {a b : ℕ} (x : (⟨2, ![a, 1]⟩ : Shape).Idx → α)
    (h : (⟨2, ![a, 1]⟩ : Shape).Broadcasts ⟨2, ![a, b]⟩) (r : Fin a) (c : Fin b) :
    broadcastTo ⟨2, ![a, b]⟩ x h (ix2 r c) = x (ix2 r (0 : Fin 1)) :=
  broadcastTo_apply x h (ix2 r c) (ix2 r (0 : Fin 1)) fun ax => by
    match ax with
    | ⟨0, _⟩ =>
      show r.val = if a = 1 then 0 else r.val
      split
      · have := r.isLt; omega
      · rfl
    | ⟨1, _⟩ => rfl

/-- The bits of negative infinity. -/
theorem ofBits_negInf : Ideal.ofBits .f32 0xFF800000#32 = ⊥ := by
  simp [Ideal.ofBits, Ideal.ieee, -EReal.coe_mul]

/-- A maximum over one axis from negative infinity is the supremum. -/
theorem fold_max_eq_sup {n : ℕ} (f : Fin n → EReal) : (Finset.univ : Finset (Fin n)).fold max ⊥ f = Finset.univ.sup f := rfl

/-- The key `j` put beside a row. -/
theorem lift_row (r : Fin 1024) (j : Fin 512) : reduces_S1024x512_S1024.lift (ix1 r) j = ix2 r j := by
  funext a
  match a with
  | ⟨0, _⟩ => rfl
  | ⟨1, _⟩ => rfl

/-- The maxima after a block, at a row. -/
theorem mNew_apply (s : Sc Ideal) (m : Col Ideal) (r : Fin 1024) :
    mNew s m (ix2 r 0) = max (m (ix2 r 0)) (Finset.univ.sup fun j : Fin 512 => s (ix2 r j)) := by
  refine congrArg (max (m (ix2 r 0))) ?_
  rw [shapeCast_a_a1_apply]
  refine (Ideal.multiReduction_maximumf_single _ _ _ _ _ _).trans ?_
  show Finset.fold max (Ideal.ofBits .f32 0xFF800000#32) _ _ = _
  rw [ofBits_negInf, fold_max_eq_sup]
  exact Finset.sup_congr rfl fun j _ => congrArg s (lift_row r j)

/-- The weights of a block's keys, at a row and a key. -/
theorem wts_apply (s : Sc Ideal) (m : Col Ideal) (r : Fin 1024) (j : Fin 512) :
    wts s m (ix2 r j) = Ideal.exp2 (s (ix2 r j) - mNew s m (ix2 r 0)) := by
  show Ideal.exp2 (s (ix2 r j) - broadcastTo S1024x512 (mNew s m) broadcasts_S1024x1_S1024x512 (ix2 r j)) = _
  rw [col_apply]

/-- The sums of weights after a block, at a row. -/
theorem lNew_apply (s : Sc Ideal) (m l : Col Ideal) (r : Fin 1024) :
    lNew s m l (ix2 r 0) = Ideal.exp2 (m (ix2 r 0) - mNew s m (ix2 r 0)) * l (ix2 r 0)
      + ∑ j : Fin 512, Ideal.exp2 (s (ix2 r j) - mNew s m (ix2 r 0)) := by
  show Ideal.exp2 _ * _ + shapeCast S1024x1 _ shapeCasts_S1024_S1024x1 (ix2 r 0) = _
  congr 1
  rw [shapeCast_a_a1_apply]
  refine (Ideal.multiReduction_add_single _ _ _ _ _ _).trans ?_
  exact Finset.sum_congr rfl fun j _ => (congrArg (wts s m) (lift_row r j)).trans (wts_apply s m r j)

/-- The weighted sums after a block, at a row and a lane. -/
theorem aNew_apply (s : Sc Ideal) (v : Vec Ideal S512x128 .bf16) (m : Col Ideal) (a : Acc Ideal) (r : Fin 1024) (c : Fin 128) :
    aNew s v m a (ix2 r c) = Ideal.exp2 (m (ix2 r 0) - mNew s m (ix2 r 0)) * a (ix2 r c)
      + ∑ j : Fin 512, Ideal.exp2 (s (ix2 r j) - mNew s m (ix2 r 0)) * v (ix2 j c) := by
  show broadcastTo S1024x128 (alpha s m) broadcasts_S1024x1_S1024x128 (ix2 r c) * a (ix2 r c)
    + FloatOps.matmul (DotDims.plain 1024 512 128) none _ v (constant S1024x128 .f32 0x00000000#32) (ix2 r c) = _
  rw [col_apply, Ideal.matmul_plain_apply]
  congr 1
  rw [show constant (F := Ideal) S1024x128 .f32 0x00000000#32 (ix2 r c) = (0 : EReal) from Ideal.ofBits_zero_f32, zero_add]
  refine Finset.sum_congr rfl fun j _ => ?_
  show Ideal.exp2 (s (ix2 r j) - broadcastTo S1024x512 (mNew s m) broadcasts_S1024x1_S1024x512 (ix2 r j)) * _ = _
  rw [col_apply]

/-- A column is determined by its rows. -/
theorem col_ext {x y : Col Ideal} (h : ∀ r : Fin 1024, x (ix2 r 0) = y (ix2 r 0)) : x = y := by
  funext j
  have e : j = ix2 (j 0) (0 : Fin 1) := by
    rw [eq_ix2 j]; congr 1; exact Fin.ext (by have : (j 1).val < 1 := (j 1).isLt; show (j 1).val = 0; omega)
  rw [e]; exact h (j 0)

/-- Rows and lanes determine the weighted sums. -/
theorem acc_ext {x y : Acc Ideal} (h : ∀ (r : Fin 1024) (c : Fin 128), x (ix2 r c) = y (ix2 r c)) : x = y := by
  funext j
  rw [eq_ix2 j]; exact h (j 0) (j 1)

/-- One block's step takes the state over the first `n` keys to that over the first `n + 512`. -/
theorem upd_stOf (s : Fin 1024 → ℕ → EReal) (v : Fin 128 → ℕ → EReal) (n : ℕ) (S : Sc Ideal) (V : Vec Ideal S512x128 .bf16)
    (hS : ∀ (r : Fin 1024) (j : Fin 512), S (ix2 r j) = s r (n + j)) (hV : ∀ (j : Fin 512) (c : Fin 128), V (ix2 j c) = v c (n + j)) :
    upd S V (stOf s v n) = stOf s v (n + 512) := by
  have hm : ∀ r : Fin 1024, mNew S (stOf s v n).1 (ix2 r 0) = mx (s r) (n + 512) := fun r => by
    rw [mNew_apply, mx_step]
    show max (mx (s r) n) _ = _
    simp only [hS]
  refine Prod.ext (col_ext hm) (Prod.ext (col_ext fun r => ?_) (acc_ext fun r c => ?_))
  · show lNew S (stOf s v n).1 (stOf s v n).2.1 (ix2 r 0) = den (s r) (n + 512)
    rw [lNew_apply, hm, den_step]
    simp only [hS]
    rfl
  · show aNew S V (stOf s v n).1 (stOf s v n).2.2 (ix2 r c) = num (s r) (v c) (n + 512)
    rw [aNew_apply, hm, num_step]
    simp only [hS, hV]
    rfl

/-- The state before the first block. -/
theorem st0_eq (s : Fin 1024 → ℕ → EReal) (v : Fin 128 → ℕ → EReal) : (st0 : St Ideal) = stOf s v 0 := by
  refine Prod.ext (funext fun j => ?_) (Prod.ext (funext fun j => ?_) (funext fun j => ?_))
  · rfl
  · exact Ideal.ofBits_zero_f32
  · exact Ideal.ofBits_zero_f32

/-- The weighted sums over the sums of weights, at a row and a lane. -/
theorem quo_apply (s : Fin 1024 → ℕ → EReal) (v : Fin 128 → ℕ → EReal) (n : ℕ) (r : Fin 1024) (c : Fin 128) :
    quo (stOf s v n) (ix2 r c) = num (s r) (v c) n * Ideal.div 1 (den (s r) n) := by
  show num (s r) (v c) n * broadcastTo S1024x128 _ broadcasts_S1024x1_S1024x128 (ix2 r c) = _
  rw [col_apply]
  show _ * Ideal.div (Ideal.ofBits .f32 0x3F800000#32) _ = _
  rw [show Ideal.ofBits .f32 0x3F800000#32 = 1 from by
    simp [Ideal.ofBits, Ideal.ieee, -EReal.coe_mul]; norm_num]
  rfl

/-- The scores of a differential head against one block, at a row and a key. -/
theorem scoreA_apply (q : Vec Ideal S1x1024x128 .bf16) (k : Vec Ideal S1x1x128x512 .bf16) (b : FVec Ideal S1x512 .f32)
    (r : Fin 1024) (j : Fin 512) :
    scoreA q k b (ix2 r j) = (∑ d : Fin 128, q (ix3 0 r d) * k (ix4 0 0 d j)) + b (ix2 0 j) := by
  show FloatOps.matmul (DotDims.plain 1024 128 512) none _ _ (constant S1024x512 .f32 0x00000000#32) (ix2 r j)
    + broadcastTo S1024x512 b broadcasts_S1x512_S1024x512 (ix2 r j) = _
  rw [broadcastTo_1b_ab_apply, Ideal.matmul_plain_apply]
  congr 1
  rw [show constant (F := Ideal) S1024x512 .f32 0x00000000#32 (ix2 r j) = (0 : EReal) from Ideal.ofBits_zero_f32, zero_add]
  refine Finset.sum_congr rfl fun d _ => ?_
  rw [shapeCast_1ab_ab_apply]
  congr 1
  exact shapeCast_apply k _ _ (ix4 0 0 d j) (by
    rw [Shape.rowMajor_val_four, Shape.rowMajor_val_two]
    show ((0 * 1 + 0) * 128 + d.val) * 512 + j.val = d.val * 512 + j.val
    omega)

/-- The scores of a pair of latent heads against one block, at a row and a key. -/
theorem scoreB_apply (q : Vec Ideal S1x1024x256 .bf16) (k : Vec Ideal S512x256 .bf16) (r : Fin 1024) (j : Fin 512) :
    scoreB q k (ix2 r j) = ∑ d : Fin 256, q (ix3 0 r d) * k (ix2 j d) := by
  show FloatOps.matmul (DotDims.transposedRhs 1024 256 512) none _ _ (constant S1024x512 .f32 0x00000000#32) (ix2 r j) = _
  rw [Ideal.matmul_transposedRhs_apply]
  rw [show constant (F := Ideal) S1024x512 .f32 0x00000000#32 (ix2 r j) = (0 : EReal) from Ideal.ofBits_zero_f32, zero_add]
  refine Finset.sum_congr rfl fun d _ => ?_
  rw [shapeCast_1ab_ab_apply]

end Cert.Proof.PI
-- ==== Proof.Scores.lean ====
/- The scores of a block of queries against every key, written out from the block's inputs, and one block of keys'
   step of the running softmax on them: first a block all of whose keys are seen, then the block on the diagonal,
   where a mask hides the later keys. -/
module

public import proofs.«01_k».proof.Proof.Step

@[expose] public section

noncomputable section

namespace Cert.Proof.PI

open Idealize.ShloMosaic Idealize.ShloMosaic.TcCoe Idealize.ShloMosaic.ValueIdx
open Cert.KernelIdeal Cert.KernelIdeal.Gen
open Cert.Proof.Softmax

/-- The query a row of the stacked queries belongs to. -/
def row (r : Fin 1024) : Fin 512 := ⟨r.val % 512, Nat.mod_lt _ (by omega)⟩
/-- Lane `d` of a differential head. -/
def laneA (h : Fin 4) (d : Fin 128) : Fin 512 := ⟨128 * h.val + d.val, by omega⟩
/-- Lane `d` of a pair of latent heads. -/
def laneB (h : Fin 4) (d : Fin 256) : Fin 1024 := ⟨256 * h.val + d.val, by omega⟩
/-- The block of a key. -/
def kblk (k : ℕ) : Fin 4 := ⟨k / 512 % 4, Nat.mod_lt _ (by omega)⟩
/-- The place of a key in its block. -/
def kin (k : ℕ) : Fin 512 := ⟨k % 512, Nat.mod_lt _ (by omega)⟩
/-- A key by its number. -/
def kall (k : ℕ) : Fin 2048 := ⟨k % 2048, Nat.mod_lt _ (by omega)⟩

/-- The slope of a head's distance bias, in the units of base-2 exponentials. -/
def slopeR (h : Fin 4) : ℝ := (Real.log 2)⁻¹ * (1 / 4 ^ (h.val + 1))

/-- The stacked queries of a differential head: the first map's lanes in the upper rows, the second's in the lower. -/
def qA (x0 : Vec Ideal S512x512 .bf16) (h : Fin 4) (r : Fin 1024) (d : Fin 128) : EReal :=
  if (r.val < 512 ↔ d.val < 64) then x0 (ix2 (row r) (laneA h d)) else 0

/-- The stacked queries of a pair of latent heads. -/
def qB (x3 : Vec Ideal S512x1024 .bf16) (h : Fin 4) (r : Fin 1024) (d : Fin 256) : EReal :=
  if (r.val < 512 ↔ d.val < 128) then x3 (ix2 (row r) (laneB h d)) else 0

/-- A differential head's score of a row against key `k`, queries' block `t`. -/
def baseA (x0 : Vec Ideal S512x512 .bf16) (x1 : Vec Ideal S1x4x512x512 .bf16) (t h : Fin 4) (r : Fin 1024) (k : ℕ) : EReal :=
  (∑ d : Fin 128, qA x0 h r d * x1 (ix4 0 (kblk k) (laneA h d) (kin k)))
    + ((slopeR h : ℝ) : EReal) * ((((k : ℤ) - 512 * (t.val : ℤ) : ℤ) : ℝ) : EReal)

/-- A latent head's score of a row against key `k`. -/
def baseB (x3 : Vec Ideal S512x1024 .bf16) (x4 : Vec Ideal S2048x1024 .bf16) (h : Fin 4) (r : Fin 1024) (k : ℕ) : EReal :=
  ∑ d : Fin 256, qB x3 h r d * x4 (ix2 (kall k) (laneB h d))

/-- Scores with the keys after the row's query hidden. -/
def seen (t : Fin 4) (s : Fin 1024 → ℕ → EReal) (r : Fin 1024) (k : ℕ) : EReal :=
  if k ≤ 512 * t.val + r.val % 512 then s r k else ⊥

/-- A differential head's masked scores. -/
def sA (x0 : Vec Ideal S512x512 .bf16) (x1 : Vec Ideal S1x4x512x512 .bf16) (t h : Fin 4) : Fin 1024 → ℕ → EReal :=
  seen t (baseA x0 x1 t h)

/-- A latent head's masked scores. -/
def sB (x3 : Vec Ideal S512x1024 .bf16) (x4 : Vec Ideal S2048x1024 .bf16) (t h : Fin 4) : Fin 1024 → ℕ → EReal :=
  seen t (baseB x3 x4 h)

/-- A head's values, by lane and key. -/
def valOf (x2 : Vec Ideal S2048x512 .bf16) (h : Fin 4) (c : Fin 128) (k : ℕ) : EReal := x2 (ix2 (kall k) (laneA h c))

/-- The key's position seen from the queries' block, as the kernel computes it on 32-bit integers. -/
theorem pos_toInt : ∀ a t : Fin 4, ∀ j : Fin 512,
    (BitVec.ofNat 32 a.val * 512#32 - BitVec.ofNat 32 t.val * 512#32 + BitVec.ofNat 32 j.val).toInt
      = ((512 * a.val + j.val : ℕ) : ℤ) - 512 * (t.val : ℤ) := by
  intro a t j
  have h1 : Affine.IsInt (BitVec.ofNat 32 a.val) ((a.val : Int)) := Affine.ofNat _ (by omega)
  have h2 : Affine.IsInt (BitVec.ofNat 32 t.val) ((t.val : Int)) := Affine.ofNat _ (by omega)
  have h3 : Affine.IsInt (BitVec.ofNat 32 j.val) ((j.val : Int)) := Affine.ofNat _ (by omega)
  have hc : Affine.IsInt 512#32 (512) := Affine.ofNat _ (by omega)
  have h4 : Affine.IsInt (BitVec.ofNat 32 a.val * 512#32) (512 * (a.val : Int)) := Affine.muli h1 hc (by omega)
  have h5 : Affine.IsInt (BitVec.ofNat 32 t.val * 512#32) (512 * (t.val : Int)) := Affine.muli h2 hc (by omega)
  have h6 : Affine.IsInt (BitVec.ofNat 32 a.val * 512#32 - BitVec.ofNat 32 t.val * 512#32)
      (512 * (a.val : Int) - 512 * (t.val : Int)) := Affine.subi h4 h5 (by omega)
  have h7 : Affine.IsInt (BitVec.ofNat 32 a.val * 512#32 - BitVec.ofNat 32 t.val * 512#32 + BitVec.ofNat 32 j.val)
      (512 * (a.val : Int) - 512 * (t.val : Int) + (j.val : Int)) := Affine.addi h6 h3 (by omega)
  unfold Affine.IsInt at h7
  refine h7.trans ?_
  omega

/-- The distance bias of block `a`, at a key. -/
theorem bias_apply (sl : EReal) (a t : Fin 4) (w : BitVec 32) (hw : w = BitVec.ofNat 32 a.val * 512#32 - BitVec.ofNat 32 t.val * 512#32)
    (v : IVec S1x512 32) (hv : ∀ j : Fin 512, v (ix2 0 j) = BitVec.ofNat 32 j.val) (j : Fin 512) :
    bias (F := Ideal) sl w v (ix2 0 j) = sl * (((((512 * a.val + j.val : ℕ) : ℤ) - 512 * (t.val : ℤ) : ℤ) : ℝ) : EReal) := by
  rw [← pos_toInt a t j, ← hv j, ← hw]
  rfl

/-- The block of a block's key. -/
theorem kblk_add (a : Fin 4) (j : Fin 512) : kblk (512 * a.val + j.val) = a := by
  refine Fin.ext ?_
  show (512 * a.val + j.val) / 512 % 4 = a.val
  omega

/-- The place of a block's key. -/
theorem kin_add (a : Fin 4) (j : Fin 512) : kin (512 * a.val + j.val) = j := by
  refine Fin.ext ?_
  show (512 * a.val + j.val) % 512 = j.val
  omega

/-- A differential head's scores against block `a`, before any mask. -/
theorem scoreA_base {x0 : Vec Ideal S512x512 .bf16} {x1 : Vec Ideal S1x4x512x512 .bf16} {t h a : Fin 4}
    {q : Vec Ideal S1x1024x128 .bf16} (hq : ∀ r d, q (ix3 0 r d) = qA x0 h r d)
    {kk : Vec Ideal S1x1x128x512 .bf16} (hk : ∀ d j, kk (ix4 0 0 d j) = x1 (ix4 0 a (laneA h d) j))
    {sl : EReal} (hsl : sl = ((slopeR h : ℝ) : EReal))
    {w : BitVec 32} (hw : w = BitVec.ofNat 32 a.val * 512#32 - BitVec.ofNat 32 t.val * 512#32)
    {v : IVec S1x512 32} (hv : ∀ j : Fin 512, v (ix2 0 j) = BitVec.ofNat 32 j.val) (r : Fin 1024) (j : Fin 512) :
    scoreA q kk (bias (F := Ideal) sl w v) (ix2 r j) = baseA x0 x1 t h r (512 * a.val + j.val) := by
  rw [scoreA_apply, bias_apply sl a t w hw v hv, hsl]
  unfold baseA
  rw [kblk_add, kin_add]
  congr 1
  exact Finset.sum_congr rfl fun d _ => by rw [hq, hk]

/-- A latent head's scores against block `a`, before any mask. -/
theorem scoreB_base {x3 : Vec Ideal S512x1024 .bf16} {x4 : Vec Ideal S2048x1024 .bf16} {h a : Fin 4}
    {q : Vec Ideal S1x1024x256 .bf16} (hq : ∀ r d, q (ix3 0 r d) = qB x3 h r d)
    {kk : Vec Ideal S512x256 .bf16} (hk : ∀ j d, kk (ix2 j d) = x4 (ix2 (kall (512 * a.val + j.val)) (laneB h d)))
    (r : Fin 1024) (j : Fin 512) :
    scoreB q kk (ix2 r j) = baseB x3 x4 h r (512 * a.val + j.val) := by
  rw [scoreB_apply]
  exact Finset.sum_congr rfl fun d _ => by rw [hq, hk]

/-- A block before the diagonal: all its keys are seen. -/
theorem upd_full {S : Sc Ideal} {s : Fin 1024 → ℕ → EReal} {t a : Fin 4} (hat : a.val < t.val)
    (hS : ∀ r j, S (ix2 r j) = s r (512 * a.val + j.val)) {V : Vec Ideal S512x128 .bf16} {v : Fin 128 → ℕ → EReal}
    (hV : ∀ j c, V (ix2 j c) = v c (512 * a.val + j.val)) :
    upd S V (stOf (seen t s) v (512 * a.val)) = stOf (seen t s) v (512 * (a.val + 1)) :=
  upd_stOf (seen t s) v (512 * a.val) S V (fun r j => by
    rw [hS]
    exact (if_pos (by omega)).symm) hV

/-- The block on the diagonal: the mask adds nothing to the keys up to the query, and hides the later ones. -/
theorem upd_diag {S M : Sc Ideal} {s : Fin 1024 → ℕ → EReal} {t : Fin 4}
    (hS : ∀ r j, S (ix2 r j) = s r (512 * t.val + j.val))
    (hM : ∀ r j, M (ix2 r j) = if j.val ≤ r.val % 512 then (0 : EReal) else ⊥)
    {V : Vec Ideal S512x128 .bf16} {v : Fin 128 → ℕ → EReal}
    (hV : ∀ j c, V (ix2 j c) = v c (512 * t.val + j.val)) :
    upd (addf S M) V (stOf (seen t s) v (512 * t.val)) = stOf (seen t s) v (512 * (t.val + 1)) :=
  upd_stOf (seen t s) v (512 * t.val) (addf S M) V (fun r j => by
    show S (ix2 r j) + M (ix2 r j) = _
    rw [hS, hM]
    unfold seen
    by_cases hj : j.val ≤ r.val % 512
    · rw [if_pos hj, if_pos (by omega), add_zero]
    · rw [if_neg hj, if_neg (by omega), EReal.add_bot]) hV

end Cert.Proof.PI
-- ==== Proof.Reads.lean ====
/- Reading a rectangle of a whole buffer, and the number of trips of the kernel's loops: as many as there are blocks of
   keys before the queries' own. -/
module

public import proofs.«01_k».proof.Proof.Trips
public import proofs.«01_k».proof.Proof.Scores
public import Idealize.ShloMosaic.Lib.WholeRead

@[expose] public section

noncomputable section

namespace Cert.Proof.PI

open Idealize.ShloMosaic Idealize.ShloMosaic.TcCoe Idealize.ShloMosaic.Tactic Idealize.ShloMosaic.ValueIdx
open Cert.KernelIdeal Cert.KernelIdeal.Gen
open Idealize.SL Idealize.SL.Sem

variable {F : FTy → Type} [FloatOps F] [Named F]

/-- A rectangle read from a whole buffer holding `X` is `X` at the shifted place. -/
theorem rd {κ : Kind} {sp : Space} {s : Shape} {e : EltTy} {m : Memref sig κ sp s e} (h : m.IsWhole)
    (X : Vec F s e) (off size : Fin s.rank → ℕ) (inb : ∀ a, off a + size a ≤ s.size a)
    (j : (Rect.unit (s := s) off size inb).shape.Idx) (y : s.Idx) (hy : ∀ a, (y a).val = off a + (j a).val) :
    View.readAt (Elt F) m.view (Rect.unit (s := s) off size inb).toLoadRect (h.unread X) j = X y := by
  rw [Memref.IsWhole.readAt_unread]
  refine congrArg X (funext fun a => Fin.ext ?_)
  rw [hy a]
  show off a + 1 * (j a).val = _
  omega

/-- A block of a differential head's keys, read from the keys' buffer. -/
theorem rd_keyA {m : Memref sig .tc .vmem S1x4x512x512 .bf16} (hm : m.IsWhole) (X : Vec Ideal S1x4x512x512 .bf16) (a h : Fin 4)
    (off : Fin 4 → ℕ) (hoff : off = ![0, a.val, 128 * h.val, 0]) (inb : ∀ x, off x + S1x1x128x512.size x ≤ S1x4x512x512.size x)
    (d : Fin 128) (j : Fin 512) :
    View.readAt (Elt Ideal) m.view (Rect.unit (s := S1x4x512x512) off S1x1x128x512.size inb).toLoadRect (hm.unread X) (ix4 0 0 d j)
      = X (ix4 0 a (laneA h d) j) := by
  subst hoff
  refine rd hm X _ _ _ (ix4 0 0 d j) _ fun x => ?_
  match x with
  | ⟨0, _⟩ => rfl
  | ⟨1, _⟩ => rfl
  | ⟨2, _⟩ => rfl
  | ⟨3, _⟩ => exact (Nat.zero_add _).symm

/-- A block of a head's values, read from the values' buffer. -/
theorem rd_val {m : Memref sig .tc .vmem S2048x512 .bf16} (hm : m.IsWhole) (X : Vec Ideal S2048x512 .bf16) (a h : Fin 4)
    (off : Fin 2 → ℕ) (hoff : off = ![512 * a.val, 128 * h.val]) (inb : ∀ x, off x + S512x128.size x ≤ S2048x512.size x)
    (j : Fin 512) (c : Fin 128) :
    View.readAt (Elt Ideal) m.view (Rect.unit (s := S2048x512) off S512x128.size inb).toLoadRect (hm.unread X) (ix2 j c)
      = valOf X h c (512 * a.val + j.val) := by
  subst hoff
  refine rd hm X _ _ _ (ix2 j c) _ fun x => ?_
  match x with
  | ⟨0, _⟩ =>
    show (512 * a.val + j.val) % 2048 = 512 * a.val + j.val
    omega
  | ⟨1, _⟩ => rfl

/-- A block of a pair of latent heads' keys, read from the keys' buffer. -/
theorem rd_keyB {m : Memref sig .tc .vmem S2048x1024 .bf16} (hm : m.IsWhole) (X : Vec Ideal S2048x1024 .bf16) (a h : Fin 4)
    (off : Fin 2 → ℕ) (hoff : off = ![512 * a.val, 256 * h.val]) (inb : ∀ x, off x + S512x256.size x ≤ S2048x1024.size x)
    (j : Fin 512) (d : Fin 256) :
    View.readAt (Elt Ideal) m.view (Rect.unit (s := S2048x1024) off S512x256.size inb).toLoadRect (hm.unread X) (ix2 j d)
      = X (ix2 (kall (512 * a.val + j.val)) (laneB h d)) := by
  subst hoff
  refine rd hm X _ _ _ (ix2 j d) _ fun x => ?_
  match x with
  | ⟨0, _⟩ =>
    show (512 * a.val + j.val) % 2048 = 512 * a.val + j.val
    omega
  | ⟨1, _⟩ => rfl

/-- The kernel's constants for the slopes. -/
theorem slope0_eq : ((Named.named κ "slope0" 0x3EB8AA3B#32 : Ideal .f32) : EReal) = ((slopeR 0 : ℝ) : EReal) := by
  show (((Real.log 2)⁻¹ * (1 / 4) : ℝ) : EReal) = _
  unfold slopeR
  norm_num
/-- The second head's. -/
theorem slope1_eq : ((Named.named κ "slope1" 0x3DB8AA3B#32 : Ideal .f32) : EReal) = ((slopeR 1 : ℝ) : EReal) := by
  show (((Real.log 2)⁻¹ * (1 / 16) : ℝ) : EReal) = _
  unfold slopeR
  norm_num
/-- The third head's. -/
theorem slope2_eq : ((Named.named κ "slope2" 0x3CB8AA3B#32 : Ideal .f32) : EReal) = ((slopeR 2 : ℝ) : EReal) := by
  show (((Real.log 2)⁻¹ * (1 / 64) : ℝ) : EReal) = _
  unfold slopeR
  norm_num
/-- The fourth head's. -/
theorem slope3_eq : ((Named.named κ "slope3" 0x3BB8AA3B#32 : Ideal .f32) : EReal) = ((slopeR 3 : ℝ) : EReal) := by
  show (((Real.log 2)⁻¹ * (1 / 256) : ℝ) : EReal) = _
  unfold slopeR
  norm_num

/-- The differential heads' loop runs once per earlier block of keys. -/
theorem trips1 : ∀ i : grid0.Coords, (k0_t1_loop i).trips = (i 1).val := by decide +kernel
/-- The differential heads' second loop never runs. -/
theorem trips2 : ∀ i : grid0.Coords, (k0_t2_loop i).trips = 0 := by decide +kernel
/-- The latent heads' loop runs once per earlier block of keys. -/
theorem trips3 : ∀ i : grid0.Coords, (k0_t3_loop i).trips = (i 1).val := by decide +kernel
/-- The latent heads' second loop never runs. -/
theorem trips4 : ∀ i : grid0.Coords, (k0_t4_loop i).trips = 0 := by decide +kernel

end Cert.Proof.PI
-- ==== Proof.Stack.lean ====
/- The stacked queries as the kernel writes them into its scratch: for each head the queries with the second map's lanes
   zeroed, and below them the queries with the first map's lanes zeroed. -/
module

public import proofs.«01_k».proof.Proof.Reads
public import Idealize.ShloMosaic.Lib.Pipeline.ValueKit.Tiles
public import Idealize.ShloMosaic.Lib.WordCmp

@[expose] public section

noncomputable section

namespace Cert.Proof.PI

open Idealize.ShloMosaic Idealize.ShloMosaic.TcCoe Idealize.ShloMosaic.Tactic Idealize.ShloMosaic.ValueIdx
open Cert.KernelIdeal Cert.KernelIdeal.Gen
open Idealize.SL Idealize.SL.Sem

section Generic
variable {F : FTy → Type} [FloatOps F] [Named F]

/-- A differential head's queries with the lanes `64 …` zeroed. -/
def lowA (q : Vec F S512x128 .bf16) : Vec F S1x512x128 .bf16 :=
  shapeCast S1x512x128 (select (cmpi .slt (iota .tc S512x128 32 [1] iota_S512x128_d1_w32) (broadcast S512x128 64#32)) q
    (broadcast S512x128 (Scalar.ofBits .bf16 0x0000#16)) : Vec F S512x128 .bf16) shapeCasts_S512x128_S1x512x128
/-- A differential head's queries with the lanes below 64 zeroed. -/
def highA (q : Vec F S512x128 .bf16) : Vec F S1x512x128 .bf16 :=
  shapeCast S1x512x128 (select (cmpi .sge (iota .tc S512x128 32 [1] iota_S512x128_d1_w32) (broadcast S512x128 64#32)) q
    (broadcast S512x128 (Scalar.ofBits .bf16 0x0000#16)) : Vec F S512x128 .bf16) shapeCasts_S512x128_S1x512x128
/-- A pair of latent heads' queries with the second's lanes zeroed. -/
def lowB (q : Vec F S512x256 .bf16) : Vec F S1x512x256 .bf16 :=
  shapeCast S1x512x256 (select (cmpi .slt (iota .tc S512x256 32 [1] iota_S512x256_d1_w32) (broadcast S512x256 128#32)) q
    (broadcast S512x256 (Scalar.ofBits .bf16 0x0000#16)) : Vec F S512x256 .bf16) shapeCasts_S512x256_S1x512x256
/-- A pair of latent heads' queries with the first's lanes zeroed. -/
def highB (q : Vec F S512x256 .bf16) : Vec F S1x512x256 .bf16 :=
  shapeCast S1x512x256 (select (cmpi .sge (iota .tc S512x256 32 [1] iota_S512x256_d1_w32) (broadcast S512x256 128#32)) q
    (broadcast S512x256 (Scalar.ofBits .bf16 0x0000#16)) : Vec F S512x256 .bf16) shapeCasts_S512x256_S1x512x256

/-- The differential heads' scratch, its pieces the last written first. -/
def HA (m : Memref sig .tc .vmem S512x512 .bf16) (hm : m.IsWhole) (x0 : Vec F S512x512 .bf16) :
    List (View.Piece (Elt F) S4x1024x128 .bf16) :=
  [⟨Rect.unit ![3, 512, 0] S1x512x128.size inb_S4x1024x128_S1x512x128_3_512_0, highA (View.readAt (Elt F) m.view (Rect.unit (s := S512x512) ![0, 384] S512x128.size inb_S512x512_S512x128_0_384).toLoadRect (hm.unread x0))⟩,
   ⟨Rect.unit ![3, 0, 0] S1x512x128.size inb_S4x1024x128_S1x512x128_3_0_0, lowA (View.readAt (Elt F) m.view (Rect.unit (s := S512x512) ![0, 384] S512x128.size inb_S512x512_S512x128_0_384).toLoadRect (hm.unread x0))⟩,
   ⟨Rect.unit ![2, 512, 0] S1x512x128.size inb_S4x1024x128_S1x512x128_2_512_0, highA (View.readAt (Elt F) m.view (Rect.unit (s := S512x512) ![0, 256] S512x128.size inb_S512x512_S512x128_0_256).toLoadRect (hm.unread x0))⟩,
   ⟨Rect.unit ![2, 0, 0] S1x512x128.size inb_S4x1024x128_S1x512x128_2_0_0, lowA (View.readAt (Elt F) m.view (Rect.unit (s := S512x512) ![0, 256] S512x128.size inb_S512x512_S512x128_0_256).toLoadRect (hm.unread x0))⟩,
   ⟨Rect.unit ![1, 512, 0] S1x512x128.size inb_S4x1024x128_S1x512x128_1_512_0, highA (View.readAt (Elt F) m.view (Rect.unit (s := S512x512) ![0, 128] S512x128.size inb_S512x512_S512x128_0_128).toLoadRect (hm.unread x0))⟩,
   ⟨Rect.unit ![1, 0, 0] S1x512x128.size inb_S4x1024x128_S1x512x128_1_0_0, lowA (View.readAt (Elt F) m.view (Rect.unit (s := S512x512) ![0, 128] S512x128.size inb_S512x512_S512x128_0_128).toLoadRect (hm.unread x0))⟩,
   ⟨Rect.unit ![0, 512, 0] S1x512x128.size inb_S4x1024x128_S1x512x128_0_512_0, highA (View.readAt (Elt F) m.view (Rect.unit (s := S512x512) ![0, 0] S512x128.size inb_S512x512_S512x128_0_0).toLoadRect (hm.unread x0))⟩,
   ⟨Rect.unit ![0, 0, 0] S1x512x128.size inb_S4x1024x128_S1x512x128_0_0_0, lowA (View.readAt (Elt F) m.view (Rect.unit (s := S512x512) ![0, 0] S512x128.size inb_S512x512_S512x128_0_0).toLoadRect (hm.unread x0))⟩]

/-- The latent heads' scratch, its pieces the last written first. -/
def HB (m : Memref sig .tc .vmem S512x1024 .bf16) (hm : m.IsWhole) (x3 : Vec F S512x1024 .bf16) :
    List (View.Piece (Elt F) S4x1024x256 .bf16) :=
  [⟨Rect.unit ![3, 512, 0] S1x512x256.size inb_S4x1024x256_S1x512x256_3_512_0, highB (View.readAt (Elt F) m.view (Rect.unit (s := S512x1024) ![0, 768] S512x256.size inb_S512x1024_S512x256_0_768).toLoadRect (hm.unread x3))⟩,
   ⟨Rect.unit ![3, 0, 0] S1x512x256.size inb_S4x1024x256_S1x512x256_3_0_0, lowB (View.readAt (Elt F) m.view (Rect.unit (s := S512x1024) ![0, 768] S512x256.size inb_S512x1024_S512x256_0_768).toLoadRect (hm.unread x3))⟩,
   ⟨Rect.unit ![2, 512, 0] S1x512x256.size inb_S4x1024x256_S1x512x256_2_512_0, highB (View.readAt (Elt F) m.view (Rect.unit (s := S512x1024) ![0, 512] S512x256.size inb_S512x1024_S512x256_0_512).toLoadRect (hm.unread x3))⟩,
   ⟨Rect.unit ![2, 0, 0] S1x512x256.size inb_S4x1024x256_S1x512x256_2_0_0, lowB (View.readAt (Elt F) m.view (Rect.unit (s := S512x1024) ![0, 512] S512x256.size inb_S512x1024_S512x256_0_512).toLoadRect (hm.unread x3))⟩,
   ⟨Rect.unit ![1, 512, 0] S1x512x256.size inb_S4x1024x256_S1x512x256_1_512_0, highB (View.readAt (Elt F) m.view (Rect.unit (s := S512x1024) ![0, 256] S512x256.size inb_S512x1024_S512x256_0_256).toLoadRect (hm.unread x3))⟩,
   ⟨Rect.unit ![1, 0, 0] S1x512x256.size inb_S4x1024x256_S1x512x256_1_0_0, lowB (View.readAt (Elt F) m.view (Rect.unit (s := S512x1024) ![0, 256] S512x256.size inb_S512x1024_S512x256_0_256).toLoadRect (hm.unread x3))⟩,
   ⟨Rect.unit ![0, 512, 0] S1x512x256.size inb_S4x1024x256_S1x512x256_0_512_0, highB (View.readAt (Elt F) m.view (Rect.unit (s := S512x1024) ![0, 0] S512x256.size inb_S512x1024_S512x256_0_0).toLoadRect (hm.unread x3))⟩,
   ⟨Rect.unit ![0, 0, 0] S1x512x256.size inb_S4x1024x256_S1x512x256_0_0_0, lowB (View.readAt (Elt F) m.view (Rect.unit (s := S512x1024) ![0, 0] S512x256.size inb_S512x1024_S512x256_0_0).toLoadRect (hm.unread x3))⟩]

end Generic

/-- The lane numbers, at a lane. -/
theorem lane_apply {a b : ℕ} (h : (⟨2, ![a, b]⟩ : Shape).Iotas .tc 32 [1]) (r : Fin a) (d : Fin b) :
    iota .tc ⟨2, ![a, b]⟩ 32 [1] h (ix2 r d) = BitVec.ofNat 32 d.val := by
  refine (WordCmp.iota_at .tc [1] h (ix2 r d)).trans (congrArg (BitVec.ofNat 32) ?_)
  show 0 * b + d.val = d.val
  omega

/-- The row numbers, at a row. -/
theorem rowno_apply {a b : ℕ} (h : (⟨2, ![a, b]⟩ : Shape).Iotas .tc 32 [0]) (r : Fin a) (d : Fin b) :
    iota .tc ⟨2, ![a, b]⟩ 32 [0] h (ix2 r d) = BitVec.ofNat 32 r.val := by
  refine (WordCmp.iota_at .tc [0] h (ix2 r d)).trans (congrArg (BitVec.ofNat 32) ?_)
  show 0 * a + r.val = r.val
  omega

/-- The lanes of a differential head's first map. -/
theorem slt64 : ∀ d : Fin 128, IntOp.cmpi .slt (BitVec.ofNat 32 d.val) 64#32 = if d.val < 64 then 1#1 else 0#1 := by decide +kernel
/-- The lanes of a differential head's second map. -/
theorem sge64 : ∀ d : Fin 128, IntOp.cmpi .sge (BitVec.ofNat 32 d.val) 64#32 = if d.val < 64 then 0#1 else 1#1 := by decide +kernel
/-- The lanes of a pair's first latent head. -/
theorem slt128 : ∀ d : Fin 256, IntOp.cmpi .slt (BitVec.ofNat 32 d.val) 128#32 = if d.val < 128 then 1#1 else 0#1 := by decide +kernel
/-- The lanes of a pair's second latent head. -/
theorem sge128 : ∀ d : Fin 256, IntOp.cmpi .sge (BitVec.ofNat 32 d.val) 128#32 = if d.val < 128 then 0#1 else 1#1 := by decide +kernel

/-- The bits of zero. -/
theorem ofBits_zero_bf16 : Ideal.ofBits .bf16 0x0000#16 = 0 := by
  simp [Ideal.ofBits, Ideal.ieee]

/-- The zeroed queries at an index. -/
theorem lowA_apply (q : Vec Ideal S512x128 .bf16) (r : Fin 512) (d : Fin 128) :
    lowA q (ix3 0 r d) = if d.val < 64 then q (ix2 r d) else 0 := by
  unfold lowA
  rw [shapeCast_ab_1ab_apply]
  show Scalar.select (IntOp.cmpi .slt (iota .tc S512x128 32 [1] iota_S512x128_d1_w32 (ix2 r d)) 64#32) (q (ix2 r d)) (Ideal.ofBits .bf16 0x0000#16) = _
  rw [lane_apply, slt64, ofBits_zero_bf16]
  split <;> rfl

/-- The zeroed queries at an index. -/
theorem highA_apply (q : Vec Ideal S512x128 .bf16) (r : Fin 512) (d : Fin 128) :
    highA q (ix3 0 r d) = if d.val < 64 then 0 else q (ix2 r d) := by
  unfold highA
  rw [shapeCast_ab_1ab_apply]
  show Scalar.select (IntOp.cmpi .sge (iota .tc S512x128 32 [1] iota_S512x128_d1_w32 (ix2 r d)) 64#32) (q (ix2 r d)) (Ideal.ofBits .bf16 0x0000#16) = _
  rw [lane_apply, sge64, ofBits_zero_bf16]
  split <;> rfl

/-- The zeroed queries at an index. -/
theorem lowB_apply (q : Vec Ideal S512x256 .bf16) (r : Fin 512) (d : Fin 256) :
    lowB q (ix3 0 r d) = if d.val < 128 then q (ix2 r d) else 0 := by
  unfold lowB
  rw [shapeCast_ab_1ab_apply]
  show Scalar.select (IntOp.cmpi .slt (iota .tc S512x256 32 [1] iota_S512x256_d1_w32 (ix2 r d)) 128#32) (q (ix2 r d)) (Ideal.ofBits .bf16 0x0000#16) = _
  rw [lane_apply, slt128, ofBits_zero_bf16]
  split <;> rfl

/-- The zeroed queries at an index. -/
theorem highB_apply (q : Vec Ideal S512x256 .bf16) (r : Fin 512) (d : Fin 256) :
    highB q (ix3 0 r d) = if d.val < 128 then 0 else q (ix2 r d) := by
  unfold highB
  rw [shapeCast_ab_1ab_apply]
  show Scalar.select (IntOp.cmpi .sge (iota .tc S512x256 32 [1] iota_S512x256_d1_w32 (ix2 r d)) 128#32) (q (ix2 r d)) (Ideal.ofBits .bf16 0x0000#16) = _
  rw [lane_apply, sge128, ofBits_zero_bf16]
  split <;> rfl

/-- A piece of the scratch where it holds an index. -/
theorem tile_lowA {m : Memref sig .tc .vmem S512x512 .bf16} (hm : m.IsWhole) (x0 : Vec Ideal S512x512 .bf16) (h0 : Fin 4)
    (o3 : Fin 3 → ℕ) (ho3 : o3 = ![h0.val, 0, 0])
    (off : Fin 2 → ℕ) (hoff : off = ![0, 128 * h0.val]) (inb : ∀ a, off a + S512x128.size a ≤ S512x512.size a)
    (h : Fin 4) (r : Fin 1024) (d : Fin 128) :
    View.TileAt (S := S4x1024x128) (Val := Elt Ideal) (e := .bf16) (ix3 h r d) o3 S1x512x128.size
      (lowA (View.readAt (Elt Ideal) m.view (Rect.unit (s := S512x512) off S512x128.size inb).toLoadRect (hm.unread x0)))
      (qA x0 h r d) := by
  subst hoff ho3
  intro y hy
  have y0 : (y 0).val < 1 := (y 0).isLt
  have y1 : (y 1).val < 512 := (y 1).isLt
  have e0 : h.val = h0.val + (y 0).val := hy 0
  have e1 : r.val = 0 + (y 1).val := hy 1
  have e2 : d.val = 0 + (y 2).val := hy 2
  obtain rfl : h0 = h := Fin.ext (by omega)
  have ey : y = ix3 (0 : Fin 1) (⟨r.val - 0, by omega⟩ : Fin 512) d := by
    funext a
    match a with
    | ⟨0, _⟩ => exact Fin.ext (by show (y 0).val = 0; omega)
    | ⟨1, _⟩ => exact Fin.ext (by show (y 1).val = r.val - 0; omega)
    | ⟨2, _⟩ => exact Fin.ext (by show (y 2).val = d.val; omega)
  rw [ey, lowA_apply]
  rw [rd hm x0 _ _ _ _ (ix2 (row r) (laneA h0 d)) (fun a => by
    match a with
    | ⟨0, _⟩ =>
      show r.val % 512 = 0 + (r.val - 0)
      omega
    | ⟨1, _⟩ => rfl)]
  unfold qA
  by_cases hd : d.val < 64
  · rw [if_pos hd, if_pos (iff_of_true (by omega) hd)]
  · rw [if_neg hd, if_neg (fun hi => hd (hi.1 (by omega)))]

/-- A piece of the scratch where it holds an index. -/
theorem tile_highA {m : Memref sig .tc .vmem S512x512 .bf16} (hm : m.IsWhole) (x0 : Vec Ideal S512x512 .bf16) (h0 : Fin 4)
    (o3 : Fin 3 → ℕ) (ho3 : o3 = ![h0.val, 512, 0])
    (off : Fin 2 → ℕ) (hoff : off = ![0, 128 * h0.val]) (inb : ∀ a, off a + S512x128.size a ≤ S512x512.size a)
    (h : Fin 4) (r : Fin 1024) (d : Fin 128) :
    View.TileAt (S := S4x1024x128) (Val := Elt Ideal) (e := .bf16) (ix3 h r d) o3 S1x512x128.size
      (highA (View.readAt (Elt Ideal) m.view (Rect.unit (s := S512x512) off S512x128.size inb).toLoadRect (hm.unread x0)))
      (qA x0 h r d) := by
  subst hoff ho3
  intro y hy
  have y0 : (y 0).val < 1 := (y 0).isLt
  have y1 : (y 1).val < 512 := (y 1).isLt
  have e0 : h.val = h0.val + (y 0).val := hy 0
  have e1 : r.val = 512 + (y 1).val := hy 1
  have e2 : d.val = 0 + (y 2).val := hy 2
  obtain rfl : h0 = h := Fin.ext (by omega)
  have ey : y = ix3 (0 : Fin 1) (⟨r.val - 512, by omega⟩ : Fin 512) d := by
    funext a
    match a with
    | ⟨0, _⟩ => exact Fin.ext (by show (y 0).val = 0; omega)
    | ⟨1, _⟩ => exact Fin.ext (by show (y 1).val = r.val - 512; omega)
    | ⟨2, _⟩ => exact Fin.ext (by show (y 2).val = d.val; omega)
  rw [ey, highA_apply]
  rw [rd hm x0 _ _ _ _ (ix2 (row r) (laneA h0 d)) (fun a => by
    match a with
    | ⟨0, _⟩ =>
      show r.val % 512 = 0 + (r.val - 512)
      omega
    | ⟨1, _⟩ => rfl)]
  unfold qA
  by_cases hd : d.val < 64
  · rw [if_pos hd, if_neg (fun hi => absurd (hi.2 hd) (by omega))]
  · rw [if_neg hd, if_pos (iff_of_false (by omega) hd)]

/-- The scratch holds the stacked queries. -/
theorem canon_HA {m : Memref sig .tc .vmem S512x512 .bf16} (hm : m.IsWhole) (x0 : Vec Ideal S512x512 .bf16)
    (h : Fin 4) (r : Fin 1024) (d : Fin 128) : View.canon (HA m hm x0) (ix3 h r d) = qA x0 h r d := by
  refine View.canon_eq_of_allAt _ _ _ (View.cover_of_tiled_head _ _ _ (by rfl) _) ?_
  exact
    (View.allAt_cons_unit _ _ _ _ _ (tile_highA hm x0 3 _ rfl _ rfl _ h r d)
    (View.allAt_cons_unit _ _ _ _ _ (tile_lowA hm x0 3 _ rfl _ rfl _ h r d)
    (View.allAt_cons_unit _ _ _ _ _ (tile_highA hm x0 2 _ rfl _ rfl _ h r d)
    (View.allAt_cons_unit _ _ _ _ _ (tile_lowA hm x0 2 _ rfl _ rfl _ h r d)
    (View.allAt_cons_unit _ _ _ _ _ (tile_highA hm x0 1 _ rfl _ rfl _ h r d)
    (View.allAt_cons_unit _ _ _ _ _ (tile_lowA hm x0 1 _ rfl _ rfl _ h r d)
    (View.allAt_cons_unit _ _ _ _ _ (tile_highA hm x0 0 _ rfl _ rfl _ h r d)
    (View.allAt_cons_unit _ _ _ _ _ (tile_lowA hm x0 0 _ rfl _ rfl _ h r d)
    (View.allAt_nil _ _)))))))))

/-- A head's stacked queries, read back from the scratch. -/
theorem read_HA {m : Memref sig .tc .vmem S512x512 .bf16} (hm : m.IsWhole) (x0 : Vec Ideal S512x512 .bf16)
    {m' : Memref sig .tc .vmem S4x1024x128 .bf16} (f : BufTy.Contents (Elt Ideal) m'.view.ty)
    (h : Fin 4) (off : Fin 3 → ℕ) (hoff : off = ![h.val, 0, 0]) (inb : ∀ a, off a + S1x1024x128.size a ≤ S4x1024x128.size a)
    (r : Fin 1024) (d : Fin 128) :
    View.readAt (Elt Ideal) m'.view (Rect.unit (s := S4x1024x128) off S1x1024x128.size inb).toLoadRect
      (m'.view.writes (Elt Ideal) f (HA m hm x0)) (ix3 0 r d) = qA x0 h r d := by
  subst hoff
  rw [View.readAt_apply, View.read_writes_eq_canon m'.view f (HA m hm x0) (View.cover_of_tiled_head _ _ _ (by rfl)), ← canon_HA hm x0 h r d]
  refine congrArg _ (funext fun a => Fin.ext ?_)
  match a with
  | ⟨0, _⟩ => rfl
  | ⟨1, _⟩ => show 0 + 1 * r.val = r.val; omega
  | ⟨2, _⟩ => show 0 + 1 * d.val = d.val; omega

/-- The same through the run's own reading of the scratch. -/
theorem cov_HA {m : Memref sig .tc .vmem S512x512 .bf16} (hm : m.IsWhole) (x0 : Vec Ideal S512x512 .bf16)
    {m' : Memref sig .tc .vmem S4x1024x128 .bf16}
    (h : Fin 4) (off : Fin 3 → ℕ) (hoff : off = ![h.val, 0, 0]) (inb : ∀ a, off a + S1x1024x128.size a ≤ S4x1024x128.size a)
    (r : Fin 1024) (d : Fin 128) :
    m'.view.readCov (HA m hm x0) (Rect.unit (s := S4x1024x128) off S1x1024x128.size inb).toLoadRect (ix3 0 r d)
      = qA x0 h r d := by
  subst hoff
  rw [View.readCov_eq_canon' m'.view (HA m hm x0) _, ← canon_HA hm x0 h r d]
  refine congrArg _ (funext fun a => Fin.ext ?_)
  match a with
  | ⟨0, _⟩ => rfl
  | ⟨1, _⟩ => show 0 + 1 * r.val = r.val; omega
  | ⟨2, _⟩ => show 0 + 1 * d.val = d.val; omega

/-- A piece of the scratch where it holds an index. -/
theorem tile_lowB {m : Memref sig .tc .vmem S512x1024 .bf16} (hm : m.IsWhole) (x3 : Vec Ideal S512x1024 .bf16) (h0 : Fin 4)
    (o3 : Fin 3 → ℕ) (ho3 : o3 = ![h0.val, 0, 0])
    (off : Fin 2 → ℕ) (hoff : off = ![0, 256 * h0.val]) (inb : ∀ a, off a + S512x256.size a ≤ S512x1024.size a)
    (h : Fin 4) (r : Fin 1024) (d : Fin 256) :
    View.TileAt (S := S4x1024x256) (Val := Elt Ideal) (e := .bf16) (ix3 h r d) o3 S1x512x256.size
      (lowB (View.readAt (Elt Ideal) m.view (Rect.unit (s := S512x1024) off S512x256.size inb).toLoadRect (hm.unread x3)))
      (qB x3 h r d) := by
  subst hoff ho3
  intro y hy
  have y0 : (y 0).val < 1 := (y 0).isLt
  have y1 : (y 1).val < 512 := (y 1).isLt
  have e0 : h.val = h0.val + (y 0).val := hy 0
  have e1 : r.val = 0 + (y 1).val := hy 1
  have e2 : d.val = 0 + (y 2).val := hy 2
  obtain rfl : h0 = h := Fin.ext (by omega)
  have ey : y = ix3 (0 : Fin 1) (⟨r.val - 0, by omega⟩ : Fin 512) d := by
    funext a
    match a with
    | ⟨0, _⟩ => exact Fin.ext (by show (y 0).val = 0; omega)
    | ⟨1, _⟩ => exact Fin.ext (by show (y 1).val = r.val - 0; omega)
    | ⟨2, _⟩ => exact Fin.ext (by show (y 2).val = d.val; omega)
  rw [ey, lowB_apply]
  rw [rd hm x3 _ _ _ _ (ix2 (row r) (laneB h0 d)) (fun a => by
    match a with
    | ⟨0, _⟩ =>
      show r.val % 512 = 0 + (r.val - 0)
      omega
    | ⟨1, _⟩ => rfl)]
  unfold qB
  by_cases hd : d.val < 128
  · rw [if_pos hd, if_pos (iff_of_true (by omega) hd)]
  · rw [if_neg hd, if_neg (fun hi => hd (hi.1 (by omega)))]

/-- A piece of the scratch where it holds an index. -/
theorem tile_highB {m : Memref sig .tc .vmem S512x1024 .bf16} (hm : m.IsWhole) (x3 : Vec Ideal S512x1024 .bf16) (h0 : Fin 4)
    (o3 : Fin 3 → ℕ) (ho3 : o3 = ![h0.val, 512, 0])
    (off : Fin 2 → ℕ) (hoff : off = ![0, 256 * h0.val]) (inb : ∀ a, off a + S512x256.size a ≤ S512x1024.size a)
    (h : Fin 4) (r : Fin 1024) (d : Fin 256) :
    View.TileAt (S := S4x1024x256) (Val := Elt Ideal) (e := .bf16) (ix3 h r d) o3 S1x512x256.size
      (highB (View.readAt (Elt Ideal) m.view (Rect.unit (s := S512x1024) off S512x256.size inb).toLoadRect (hm.unread x3)))
      (qB x3 h r d) := by
  subst hoff ho3
  intro y hy
  have y0 : (y 0).val < 1 := (y 0).isLt
  have y1 : (y 1).val < 512 := (y 1).isLt
  have e0 : h.val = h0.val + (y 0).val := hy 0
  have e1 : r.val = 512 + (y 1).val := hy 1
  have e2 : d.val = 0 + (y 2).val := hy 2
  obtain rfl : h0 = h := Fin.ext (by omega)
  have ey : y = ix3 (0 : Fin 1) (⟨r.val - 512, by omega⟩ : Fin 512) d := by
    funext a
    match a with
    | ⟨0, _⟩ => exact Fin.ext (by show (y 0).val = 0; omega)
    | ⟨1, _⟩ => exact Fin.ext (by show (y 1).val = r.val - 512; omega)
    | ⟨2, _⟩ => exact Fin.ext (by show (y 2).val = d.val; omega)
  rw [ey, highB_apply]
  rw [rd hm x3 _ _ _ _ (ix2 (row r) (laneB h0 d)) (fun a => by
    match a with
    | ⟨0, _⟩ =>
      show r.val % 512 = 0 + (r.val - 512)
      omega
    | ⟨1, _⟩ => rfl)]
  unfold qB
  by_cases hd : d.val < 128
  · rw [if_pos hd, if_neg (fun hi => absurd (hi.2 hd) (by omega))]
  · rw [if_neg hd, if_pos (iff_of_false (by omega) hd)]

/-- The scratch holds the stacked queries. -/
theorem canon_HB {m : Memref sig .tc .vmem S512x1024 .bf16} (hm : m.IsWhole) (x3 : Vec Ideal S512x1024 .bf16)
    (h : Fin 4) (r : Fin 1024) (d : Fin 256) : View.canon (HB m hm x3) (ix3 h r d) = qB x3 h r d := by
  refine View.canon_eq_of_allAt _ _ _ (View.cover_of_tiled_head _ _ _ (by rfl) _) ?_
  exact
    (View.allAt_cons_unit _ _ _ _ _ (tile_highB hm x3 3 _ rfl _ rfl _ h r d)
    (View.allAt_cons_unit _ _ _ _ _ (tile_lowB hm x3 3 _ rfl _ rfl _ h r d)
    (View.allAt_cons_unit _ _ _ _ _ (tile_highB hm x3 2 _ rfl _ rfl _ h r d)
    (View.allAt_cons_unit _ _ _ _ _ (tile_lowB hm x3 2 _ rfl _ rfl _ h r d)
    (View.allAt_cons_unit _ _ _ _ _ (tile_highB hm x3 1 _ rfl _ rfl _ h r d)
    (View.allAt_cons_unit _ _ _ _ _ (tile_lowB hm x3 1 _ rfl _ rfl _ h r d)
    (View.allAt_cons_unit _ _ _ _ _ (tile_highB hm x3 0 _ rfl _ rfl _ h r d)
    (View.allAt_cons_unit _ _ _ _ _ (tile_lowB hm x3 0 _ rfl _ rfl _ h r d)
    (View.allAt_nil _ _)))))))))

/-- A head's stacked queries, read back from the scratch. -/
theorem read_HB {m : Memref sig .tc .vmem S512x1024 .bf16} (hm : m.IsWhole) (x3 : Vec Ideal S512x1024 .bf16)
    {m' : Memref sig .tc .vmem S4x1024x256 .bf16} (f : BufTy.Contents (Elt Ideal) m'.view.ty)
    (h : Fin 4) (off : Fin 3 → ℕ) (hoff : off = ![h.val, 0, 0]) (inb : ∀ a, off a + S1x1024x256.size a ≤ S4x1024x256.size a)
    (r : Fin 1024) (d : Fin 256) :
    View.readAt (Elt Ideal) m'.view (Rect.unit (s := S4x1024x256) off S1x1024x256.size inb).toLoadRect
      (m'.view.writes (Elt Ideal) f (HB m hm x3)) (ix3 0 r d) = qB x3 h r d := by
  subst hoff
  rw [View.readAt_apply, View.read_writes_eq_canon m'.view f (HB m hm x3) (View.cover_of_tiled_head _ _ _ (by rfl)), ← canon_HB hm x3 h r d]
  refine congrArg _ (funext fun a => Fin.ext ?_)
  match a with
  | ⟨0, _⟩ => rfl
  | ⟨1, _⟩ => show 0 + 1 * r.val = r.val; omega
  | ⟨2, _⟩ => show 0 + 1 * d.val = d.val; omega

/-- The same through the run's own reading of the scratch. -/
theorem cov_HB {m : Memref sig .tc .vmem S512x1024 .bf16} (hm : m.IsWhole) (x3 : Vec Ideal S512x1024 .bf16)
    {m' : Memref sig .tc .vmem S4x1024x256 .bf16}
    (h : Fin 4) (off : Fin 3 → ℕ) (hoff : off = ![h.val, 0, 0]) (inb : ∀ a, off a + S1x1024x256.size a ≤ S4x1024x256.size a)
    (r : Fin 1024) (d : Fin 256) :
    m'.view.readCov (HB m hm x3) (Rect.unit (s := S4x1024x256) off S1x1024x256.size inb).toLoadRect (ix3 0 r d)
      = qB x3 h r d := by
  subst hoff
  rw [View.readCov_eq_canon' m'.view (HB m hm x3) _, ← canon_HB hm x3 h r d]
  refine congrArg _ (funext fun a => Fin.ext ?_)
  match a with
  | ⟨0, _⟩ => rfl
  | ⟨1, _⟩ => show 0 + 1 * r.val = r.val; omega
  | ⟨2, _⟩ => show 0 + 1 * d.val = d.val; omega

end Cert.Proof.PI
-- ==== Proof.Mask.lean ====
/- The mask of the block on the diagonal: nothing is added to the keys up to the row's query, and the later keys are
   sent to negative infinity. -/
module

public import proofs.«01_k».proof.Proof.Stack

@[expose] public section

noncomputable section

namespace Cert.Proof.PI

open Idealize.ShloMosaic Idealize.ShloMosaic.TcCoe Idealize.ShloMosaic.Tactic Idealize.ShloMosaic.ValueIdx
open Cert.KernelIdeal Cert.KernelIdeal.Gen
open Idealize.SL Idealize.SL.Sem

/-- The query of a stacked row, as the kernel computes it on 32-bit integers. -/
theorem row_word : ∀ r : Fin 1024,
    Scalar.select (IntOp.cmpi .sge (BitVec.ofNat 32 r.val) 512#32) (BitVec.ofNat 32 r.val - 512#32) (BitVec.ofNat 32 r.val)
      = BitVec.ofNat 32 (r.val % 512) := by decide +kernel

/-- The comparison of a key with a query. -/
theorem sle_word (j q : Fin 512) (t : Fin 4) :
    IntOp.cmpi .sle (BitVec.ofNat 32 j.val - BitVec.ofNat 32 q.val)
      (BitVec.ofNat 32 t.val * 512#32 - BitVec.ofNat 32 t.val * 512#32) = if j.val ≤ q.val then 1#1 else 0#1 := by
  have h1 : Affine.IsInt (BitVec.ofNat 32 j.val) ((j.val : Int)) := Affine.ofNat _ (by omega)
  have h2 : Affine.IsInt (BitVec.ofNat 32 q.val) ((q.val : Int)) := Affine.ofNat _ (by omega)
  have h3 : Affine.IsInt (BitVec.ofNat 32 j.val - BitVec.ofNat 32 q.val) ((j.val : Int) - (q.val : Int)) :=
    Affine.subi h1 h2 (by omega)
  unfold Affine.IsInt at h3
  show BitVec.ofBool (BitVec.sle _ _) = _
  rw [BitVec.sub_self]
  unfold BitVec.sle
  rw [h3]
  by_cases h : j.val ≤ q.val
  · rw [if_pos h, decide_eq_true (by rw [BitVec.toInt_zero]; omega)]
    rfl
  · rw [if_neg h, decide_eq_false (by rw [BitVec.toInt_zero]; omega)]
    rfl

/-- The mask at a row and a key. -/
def maskV : Vec Ideal S1024x512 .f32 := fun x => if (x 1).val ≤ (x 0).val % 512 then (0 : EReal) else ⊥

/-- The mask the kernel builds. -/
theorem pay120_eq (t : Fin 4) (v115 : BitVec 32) (v126 : BitVec 1) (v127 : BitVec 32)
    (h : Scalar.select (Scalar.andi v126 (Scalar.cmpi .ne v127 0#32)) (Scalar.subi v115 1#32) v115 = BitVec.ofNat 32 t.val) :
    k0_pay120 (F := Ideal) (BitVec.ofNat 32 t.val) v115 v126 v127 = maskV := by
  funext x
  obtain ⟨r, j, rfl⟩ : ∃ (r : Fin 1024) (j : Fin 512), x = ix2 r j := ⟨x 0, x 1, by funext a; match a with | ⟨0, _⟩ => rfl | ⟨1, _⟩ => rfl⟩
  unfold k0_pay120
  simp only []
  rw [h, shapeCast_apply _ _ (ix2 r j) (ix2 r j) rfl]
  show Scalar.select (IntOp.cmpi .sle
      (iota .tc S1024x512 32 [1] iota_S1024x512_d1_w32 (ix2 r j)
        - Scalar.select (IntOp.cmpi .sge (iota .tc S1024x512 32 [0] iota_S1024x512_d0_w32 (ix2 r j)) 512#32)
            (iota .tc S1024x512 32 [0] iota_S1024x512_d0_w32 (ix2 r j) - 512#32)
            (iota .tc S1024x512 32 [0] iota_S1024x512_d0_w32 (ix2 r j)))
      (BitVec.ofNat 32 t.val * 512#32 - BitVec.ofNat 32 t.val * 512#32))
    (Ideal.ofBits .f32 0x00000000#32) (⊥ : EReal) = if j.val ≤ r.val % 512 then (0 : EReal) else ⊥
  rw [lane_apply, rowno_apply, row_word, sle_word j ⟨r.val % 512, Nat.mod_lt _ (by omega)⟩ t, Ideal.ofBits_zero_f32]
  show Scalar.select (if j.val ≤ r.val % 512 then 1#1 else 0#1) _ _ = _
  split <;> rfl

end Cert.Proof.PI
-- ==== Proof.Loop.lean ====
/- The kernel's two loops over blocks of keys: before each trip the four heads' states are the running softmax over
   the keys of the blocks gone by. -/
module

public import proofs.«01_k».proof.Proof.Reads

@[expose] public section

noncomputable section

namespace Cert.Proof.PI

open Idealize.ShloMosaic Idealize.ShloMosaic.TcCoe Idealize.ShloMosaic.Tactic Idealize.ShloMosaic.ValueIdx
open Cert.KernelIdeal Cert.KernelIdeal.Gen
open Idealize.SL Idealize.SL.Sem

/-- Four heads' states equal one by one. -/
theorem congr_pack {F : FTy → Type} {a b c d a' b' c' d' : St F} (ha : a = a') (hb : b = b') (hc : c = c') (hd : d = d') :
    pack a b c d = pack a' b' c' d' := by
  rw [ha, hb, hc, hd]

/-- The differential heads' states before trip `n`. -/
theorem loop1 (𝒱 : Variants) (c : Dev nD) (bd : Option 𝒱.V) (i : grid0.Coords) (arg2 : Memref sig .tc .vmem S512x512 .bf16) (harg2 : arg2.IsWhole) (arg3 : Memref sig .tc .vmem S1x4x512x512 .bf16) (harg3 : arg3.IsWhole) (arg4 : Memref sig .tc .vmem S2048x512 .bf16) (harg4 : arg4.IsWhole) (arg5 : Memref sig .tc .vmem S512x1024 .bf16) (harg5 : arg5.IsWhole) (arg6 : Memref sig .tc .vmem S2048x1024 .bf16) (harg6 : arg6.IsWhole) (arg7 : Memref sig .tc .vmem S2048x512 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S4x1024x128 .bf16) (harg14 : arg14.IsWhole) (arg15 : Memref sig .tc .vmem S4x1024x256 .bf16) (harg15 : arg15.IsWhole) (arg16 : Memref sig .tc .vmem S1024x512 .f32) (harg16 : arg16.IsWhole) (arg1 : BitVec 32) (v131 : BitVec 32) (v132 : IVec S1x512 32) (v151 : FVec Ideal S1024x1 .f32) (v152 : FVec Ideal S1024x1 .f32) (v153 : FVec Ideal S1024x128 .f32) (v154 : FVec Ideal S1024x1 .f32) (v155 : FVec Ideal S1024x1 .f32) (v156 : FVec Ideal S1024x128 .f32) (v157 : FVec Ideal S1024x1 .f32) (v158 : FVec Ideal S1024x1 .f32) (v159 : FVec Ideal S1024x128 .f32) (v160 : FVec Ideal S1024x1 .f32) (cst_104 : Ideal .f32) (X : BufTy.Contents (Elt Ideal) arg14.view.ty)
    (x0 : Vec Ideal S512x512 .bf16) (x1 : Vec Ideal S1x4x512x512 .bf16) (x2 : Vec Ideal S2048x512 .bf16) (t : Fin 4) (ht : (i 1).val = t.val) (h1 : arg1 = BitVec.ofNat 32 t.val) (hv : ∀ j : Fin 512, v132 (ix2 0 j) = BitVec.ofNat 32 j.val)
    (hq0 : ∀ r d, View.readAt (Elt Ideal) arg14.view (Rect.unit (s := S4x1024x128) ![0, 0, 0] S1x1024x128.size inb_S4x1024x128_S1x1024x128_0_0_0).toLoadRect X (ix3 0 r d) = qA x0 0 r d)
    (hq1 : ∀ r d, View.readAt (Elt Ideal) arg14.view (Rect.unit (s := S4x1024x128) ![1, 0, 0] S1x1024x128.size inb_S4x1024x128_S1x1024x128_1_0_0).toLoadRect X (ix3 0 r d) = qA x0 1 r d)
    (hq2 : ∀ r d, View.readAt (Elt Ideal) arg14.view (Rect.unit (s := S4x1024x128) ![2, 0, 0] S1x1024x128.size inb_S4x1024x128_S1x1024x128_2_0_0).toLoadRect X (ix3 0 r d) = qA x0 2 r d)
    (hq3 : ∀ r d, View.readAt (Elt Ideal) arg14.view (Rect.unit (s := S4x1024x128) ![3, 0, 0] S1x1024x128.size inb_S4x1024x128_S1x1024x128_3_0_0).toLoadRect X (ix3 0 r d) = qA x0 3 r d)
    (n : ℕ) (hle : n ≤ t.val) :
    st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v131 v132 v151 v152 v153 v154 v155 v156 v157 v158 v159 v160 cst_104 (harg3.unread x1) (harg4.unread x2) X (pack st0 st0 st0 st0) n
      = pack (stOf (sA x0 x1 t 0) (valOf x2 0) (512 * n)) (stOf (sA x0 x1 t 1) (valOf x2 1) (512 * n)) (stOf (sA x0 x1 t 2) (valOf x2 2) (512 * n)) (stOf (sA x0 x1 t 3) (valOf x2 3) (512 * n)) := by
  induction n with
  | zero =>
    rw [st_k0_t1_zero]
    exact congr_pack (st0_eq _ _) (st0_eq _ _) (st0_eq _ _) (st0_eq _ _)
  | succ n ih =>
    have hlt : n < t.val := hle
    have hn : n < (k0_t1_loop i).trips := by rw [trips1, ht]; exact hlt
    rw [show n + 1 = (⟨n, hn⟩ : Fin (k0_t1_loop i).trips).val + 1 from rfl, st_k0_t1_succ, ih (le_of_lt hlt), trip1]
    exact congr_pack
      (upd_full (a := ⟨n, by omega⟩) hlt
        (fun r j => scoreA_base (a := ⟨n, by omega⟩) hq0 (fun d j => rd_keyA harg3 x1 ⟨n, by omega⟩ 0 _ (k0_off1_eq i ⟨n, hn⟩) _ d j) slope0_eq
          (by rw [h1]; simp only [Scf.iv, Scalar.subi, Scalar.muli, IntOp.subi, IntOp.muli]; simp) hv r j)
        (fun j c => rd_val harg4 x2 ⟨n, by omega⟩ 0 _ (k0_off2_eq i ⟨n, hn⟩) _ j c))
      (upd_full (a := ⟨n, by omega⟩) hlt
        (fun r j => scoreA_base (a := ⟨n, by omega⟩) hq1 (fun d j => rd_keyA harg3 x1 ⟨n, by omega⟩ 1 _ (k0_off3_eq i ⟨n, hn⟩) _ d j) slope1_eq
          (by rw [h1]; simp only [Scf.iv, Scalar.subi, Scalar.muli, IntOp.subi, IntOp.muli]; simp) hv r j)
        (fun j c => rd_val harg4 x2 ⟨n, by omega⟩ 1 _ (k0_off4_eq i ⟨n, hn⟩) _ j c))
      (upd_full (a := ⟨n, by omega⟩) hlt
        (fun r j => scoreA_base (a := ⟨n, by omega⟩) hq2 (fun d j => rd_keyA harg3 x1 ⟨n, by omega⟩ 2 _ (k0_off5_eq i ⟨n, hn⟩) _ d j) slope2_eq
          (by rw [h1]; simp only [Scf.iv, Scalar.subi, Scalar.muli, IntOp.subi, IntOp.muli]; simp) hv r j)
        (fun j c => rd_val harg4 x2 ⟨n, by omega⟩ 2 _ (k0_off6_eq i ⟨n, hn⟩) _ j c))
      (upd_full (a := ⟨n, by omega⟩) hlt
        (fun r j => scoreA_base (a := ⟨n, by omega⟩) hq3 (fun d j => rd_keyA harg3 x1 ⟨n, by omega⟩ 3 _ (k0_off7_eq i ⟨n, hn⟩) _ d j) slope3_eq
          (by rw [h1]; simp only [Scf.iv, Scalar.subi, Scalar.muli, IntOp.subi, IntOp.muli]; simp) hv r j)
        (fun j c => rd_val harg4 x2 ⟨n, by omega⟩ 3 _ (k0_off8_eq i ⟨n, hn⟩) _ j c))

/-- The latent heads' states before trip `n`. -/
theorem loop3 (𝒱 : Variants) (c : Dev nD) (bd : Option 𝒱.V) (i : grid0.Coords) (arg2 : Memref sig .tc .vmem S512x512 .bf16) (harg2 : arg2.IsWhole) (arg3 : Memref sig .tc .vmem S1x4x512x512 .bf16) (harg3 : arg3.IsWhole) (arg4 : Memref sig .tc .vmem S2048x512 .bf16) (harg4 : arg4.IsWhole) (arg5 : Memref sig .tc .vmem S512x1024 .bf16) (harg5 : arg5.IsWhole) (arg6 : Memref sig .tc .vmem S2048x1024 .bf16) (harg6 : arg6.IsWhole) (arg7 : Memref sig .tc .vmem S2048x512 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S4x1024x128 .bf16) (harg14 : arg14.IsWhole) (arg15 : Memref sig .tc .vmem S4x1024x256 .bf16) (harg15 : arg15.IsWhole) (arg16 : Memref sig .tc .vmem S1024x512 .f32) (harg16 : arg16.IsWhole) (v131 : BitVec 32) (v417 : FVec Ideal S512x128 .f32) (X : BufTy.Contents (Elt Ideal) arg15.view.ty)
    (x3 : Vec Ideal S512x1024 .bf16) (x4 : Vec Ideal S2048x1024 .bf16) (x5 : Vec Ideal S2048x512 .bf16) (t : Fin 4) (ht : (i 1).val = t.val)
    (hq0 : ∀ r d, View.readAt (Elt Ideal) arg15.view (Rect.unit (s := S4x1024x256) ![0, 0, 0] S1x1024x256.size inb_S4x1024x256_S1x1024x256_0_0_0).toLoadRect X (ix3 0 r d) = qB x3 0 r d)
    (hq1 : ∀ r d, View.readAt (Elt Ideal) arg15.view (Rect.unit (s := S4x1024x256) ![1, 0, 0] S1x1024x256.size inb_S4x1024x256_S1x1024x256_1_0_0).toLoadRect X (ix3 0 r d) = qB x3 1 r d)
    (hq2 : ∀ r d, View.readAt (Elt Ideal) arg15.view (Rect.unit (s := S4x1024x256) ![2, 0, 0] S1x1024x256.size inb_S4x1024x256_S1x1024x256_2_0_0).toLoadRect X (ix3 0 r d) = qB x3 2 r d)
    (hq3 : ∀ r d, View.readAt (Elt Ideal) arg15.view (Rect.unit (s := S4x1024x256) ![3, 0, 0] S1x1024x256.size inb_S4x1024x256_S1x1024x256_3_0_0).toLoadRect X (ix3 0 r d) = qB x3 3 r d)
    (n : ℕ) (hle : n ≤ t.val) :
    st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v131 v417 (harg6.unread x4) (harg7.unread x5) X (pack st0 st0 st0 st0) n
      = pack (stOf (sB x3 x4 t 0) (valOf x5 0) (512 * n)) (stOf (sB x3 x4 t 1) (valOf x5 1) (512 * n)) (stOf (sB x3 x4 t 2) (valOf x5 2) (512 * n)) (stOf (sB x3 x4 t 3) (valOf x5 3) (512 * n)) := by
  induction n with
  | zero =>
    rw [st_k0_t3_zero]
    exact congr_pack (st0_eq _ _) (st0_eq _ _) (st0_eq _ _) (st0_eq _ _)
  | succ n ih =>
    have hlt : n < t.val := hle
    have hn : n < (k0_t3_loop i).trips := by rw [trips3, ht]; exact hlt
    rw [show n + 1 = (⟨n, hn⟩ : Fin (k0_t3_loop i).trips).val + 1 from rfl, st_k0_t3_succ, ih (le_of_lt hlt), trip3]
    exact congr_pack
      (upd_full (a := ⟨n, by omega⟩) hlt
        (fun r j => scoreB_base (a := ⟨n, by omega⟩) hq0 (fun j d => rd_keyB harg6 x4 ⟨n, by omega⟩ 0 _ (k0_off25_eq i ⟨n, hn⟩) _ j d) r j)
        (fun j c => rd_val harg7 x5 ⟨n, by omega⟩ 0 _ (k0_off26_eq i ⟨n, hn⟩) _ j c))
      (upd_full (a := ⟨n, by omega⟩) hlt
        (fun r j => scoreB_base (a := ⟨n, by omega⟩) hq1 (fun j d => rd_keyB harg6 x4 ⟨n, by omega⟩ 1 _ (k0_off27_eq i ⟨n, hn⟩) _ j d) r j)
        (fun j c => rd_val harg7 x5 ⟨n, by omega⟩ 1 _ (k0_off28_eq i ⟨n, hn⟩) _ j c))
      (upd_full (a := ⟨n, by omega⟩) hlt
        (fun r j => scoreB_base (a := ⟨n, by omega⟩) hq2 (fun j d => rd_keyB harg6 x4 ⟨n, by omega⟩ 2 _ (k0_off29_eq i ⟨n, hn⟩) _ j d) r j)
        (fun j c => rd_val harg7 x5 ⟨n, by omega⟩ 2 _ (k0_off30_eq i ⟨n, hn⟩) _ j c))
      (upd_full (a := ⟨n, by omega⟩) hlt
        (fun r j => scoreB_base (a := ⟨n, by omega⟩) hq3 (fun j d => rd_keyB harg6 x4 ⟨n, by omega⟩ 3 _ (k0_off31_eq i ⟨n, hn⟩) _ j d) r j)
        (fun j c => rd_val harg7 x5 ⟨n, by omega⟩ 3 _ (k0_off32_eq i ⟨n, hn⟩) _ j c))

end Cert.Proof.PI
-- ==== Proof.Heads.lean ====
/- What each head writes, from its state before the block on the diagonal: the printed pieces of the kernel are the
   names of the arithmetic, by unfolding. -/
module

public import proofs.«01_k».proof.Proof.Blocks

@[expose] public section

noncomputable section

namespace Cert.Proof.PI

open Idealize.ShloMosaic Idealize.ShloMosaic.TcCoe
open Cert.KernelIdeal Cert.KernelIdeal.Gen

variable {F : FTy → Type} [FloatOps F] [Named F]
variable (a1 w : BitVec 32) (p : IVec S1x512 32) (m l : Col F) (a : Acc F) (M : Sc F) (v : Vec F S512x128 .bf16)
variable (q : Vec F S1x1024x128 .bf16) (kk : Vec F S1x1x128x512 .bf16) (lam : FVec F S1x1 .f32) (g : Vec F S1x128 .f32)
variable (qb : Vec F S1x1024x256 .bf16) (kb : Vec F S512x256 .bf16) (n : IVec S512x128 32)

/-- The first differential head. -/
theorem headA0 : k0_pay170 (k0_pay167 lam (k0_pay146 (k0_pay144 a1 w p m l q kk M) (k0_pay145 a1 w p m q kk M)) (k0_pay147 a v (k0_pay142 a1 w p m q kk M) (k0_pay143 a1 w p m q kk M))) g
      (k0_pay168 lam (k0_pay146 (k0_pay144 a1 w p m l q kk M) (k0_pay145 a1 w p m q kk M)) (k0_pay147 a v (k0_pay142 a1 w p m q kk M) (k0_pay143 a1 w p m q kk M))) k0_pay169
    = outA lam g (upd (addf (scoreA q kk (bias (Named.named κ "slope0" 0x3EB8AA3B#32)
          (Scalar.subi (Scalar.muli w 512#32) (Scalar.muli a1 512#32)) p)) M) v (m, l, a)) := rfl

/-- The second differential head. -/
theorem headA1 : k0_pay171 lam (k0_pay152 a1 p m l (Scalar.muli w 512#32) q kk M) (k0_pay153 a1 p m a (Scalar.muli w 512#32) q kk v M) g
    = outA lam g (upd (addf (scoreA q kk (bias (Named.named κ "slope1" 0x3DB8AA3B#32)
          (Scalar.subi (Scalar.muli w 512#32) (Scalar.muli a1 512#32)) p)) M) v (m, l, a)) := rfl

/-- The third differential head. -/
theorem headA2 : k0_pay175 lam (k0_pay173 (k0_pay158 a1 p m l (Scalar.muli w 512#32) q kk M) (k0_pay159 a1 p m a (Scalar.muli w 512#32) q kk v M))
      (k0_pay174 (k0_pay158 a1 p m l (Scalar.muli w 512#32) q kk M) (k0_pay159 a1 p m a (Scalar.muli w 512#32) q kk v M)) g
    = outA lam g (upd (addf (scoreA q kk (bias (Named.named κ "slope2" 0x3CB8AA3B#32)
          (Scalar.subi (Scalar.muli w 512#32) (Scalar.muli a1 512#32)) p)) M) v (m, l, a)) := rfl

/-- The fourth differential head. -/
theorem headA3 : k0_pay177 (k0_pay176 lam (k0_pay165 a1 p m l (Scalar.muli w 512#32) (k0_pay160 q) kk M)
      (k0_pay166 a1 p m a (Scalar.muli w 512#32) (k0_pay160 q) kk v M) g)
    = outA lam g (upd (addf (scoreA q kk (bias (Named.named κ "slope3" 0x3BB8AA3B#32)
          (Scalar.subi (Scalar.muli w 512#32) (Scalar.muli a1 512#32)) p)) M) v (m, l, a)) := rfl

/-- The first pair of latent heads. -/
theorem headB0 : k0_pay222 (iota .tc S512x128 32 [1] iota_S512x128_d1_w32) (k0_pay202 m l (k0_pay198 qb kb M)) (k0_pay203 m a v (k0_pay198 qb kb M))
    = outB (upd (addf (scoreB qb kb) M) v (m, l, a)) := rfl

/-- The second pair of latent heads. -/
theorem headB1 : k0_pay223 (iota .tc S512x128 32 [1] iota_S512x128_d1_w32) (k0_pay208 m l qb kb M) (k0_pay209 m a qb kb v M)
    = outB (upd (addf (scoreB qb kb) M) v (m, l, a)) := rfl

/-- The third pair of latent heads. -/
theorem headB2 : k0_pay224 (iota .tc S512x128 32 [1] iota_S512x128_d1_w32) (k0_pay214 m l qb kb M) (k0_pay215 m a qb kb v M)
    = outB (upd (addf (scoreB qb kb) M) v (m, l, a)) := rfl

/-- The fourth pair of latent heads. -/
theorem headB3 : k0_pay1 (iota .tc S512x128 32 [1] iota_S512x128_d1_w32) (k0_pay220 l (k0_pay218 m qb kb M) (k0_pay219 m qb kb M))
      (k0_pay221 a v (k0_pay218 m qb kb M) (k0_pay219 m qb kb M)) (Scalar.ofBits .f32 0x3F800000#32)
    = outB (upd (addf (scoreB qb kb) M) v (m, l, a)) := rfl

end Cert.Proof.PI
-- ==== Proof.Block.lean ====
/- The block of results a grid point writes: eight tiles of 128 lanes, one for each head or pair of heads. -/
module

public import proofs.«01_k».proof.Proof.Mask
public import proofs.«01_k».proof.Proof.Loop
public import proofs.«01_k».proof.Proof.Heads

@[expose] public section

noncomputable section

namespace Cert.Proof.PI

open Idealize.ShloMosaic Idealize.ShloMosaic.TcCoe Idealize.ShloMosaic.Tactic Idealize.ShloMosaic.ValueIdx
open Cert.KernelIdeal Cert.KernelIdeal.Gen
open Idealize.SL Idealize.SL.Sem

/-- The eight tiles of a block, the last written first. -/
def tiles (w0 w1 w2 w3 w4 w5 w6 w7 : FVec Ideal S512x128 .bf16) : List (View.Piece (Elt Ideal) S512x1024 .bf16) :=
  [⟨Rect.unit ![0, 896] S512x128.size inb_S512x1024_S512x128_0_896, w7⟩,
   ⟨Rect.unit ![0, 768] S512x128.size inb_S512x1024_S512x128_0_768, w6⟩,
   ⟨Rect.unit ![0, 640] S512x128.size inb_S512x1024_S512x128_0_640, w5⟩,
   ⟨Rect.unit ![0, 512] S512x128.size inb_S512x1024_S512x128_0_512, w4⟩,
   ⟨Rect.unit ![0, 384] S512x128.size inb_S512x1024_S512x128_0_384, w3⟩,
   ⟨Rect.unit ![0, 256] S512x128.size inb_S512x1024_S512x128_0_256, w2⟩,
   ⟨Rect.unit ![0, 128] S512x128.size inb_S512x1024_S512x128_0_128, w1⟩,
   ⟨Rect.unit ![0, 0] S512x128.size inb_S512x1024_S512x128_0_0, w0⟩]

/-- A differential head's state once every seen key has gone by. -/
def finA (x0 : Vec Ideal S512x512 .bf16) (x1 : Vec Ideal S1x4x512x512 .bf16) (x2 : Vec Ideal S2048x512 .bf16) (t h : Fin 4) : St Ideal :=
  stOf (sA x0 x1 t h) (valOf x2 h) (512 * (t.val + 1))

/-- A pair of latent heads' state once every seen key has gone by. -/
def finB (x3 : Vec Ideal S512x1024 .bf16) (x4 : Vec Ideal S2048x1024 .bf16) (x5 : Vec Ideal S2048x512 .bf16) (t h : Fin 4) : St Ideal :=
  stOf (sB x3 x4 t h) (valOf x5 h) (512 * (t.val + 1))

/-- The block of results as an array. -/
def blockOut (x0 : Vec Ideal S512x512 .bf16) (x1 : Vec Ideal S1x4x512x512 .bf16) (x2 : Vec Ideal S2048x512 .bf16)
    (x3 : Vec Ideal S512x1024 .bf16) (x4 : Vec Ideal S2048x1024 .bf16) (x5 : Vec Ideal S2048x512 .bf16)
    (x6 x7 x8 x9 : Vec Ideal S1x64 .f32) (x10 : Vec Ideal S1x128 .f32) (t : Fin 4) : Vec Ideal S512x1024 .bf16 :=
  View.canon (tiles (outA (lamOf x6 x7 x8 x9) x10 (finA x0 x1 x2 t 0)) (outA (lamOf x6 x7 x8 x9) x10 (finA x0 x1 x2 t 1))
    (outA (lamOf x6 x7 x8 x9) x10 (finA x0 x1 x2 t 2)) (outA (lamOf x6 x7 x8 x9) x10 (finA x0 x1 x2 t 3))
    (outB (finB x3 x4 x5 t 0)) (outB (finB x3 x4 x5 t 1)) (outB (finB x3 x4 x5 t 2)) (outB (finB x3 x4 x5 t 3)))

/-- Tiles equal one by one. -/
theorem congr_tiles {w0 w1 w2 w3 w4 w5 w6 w7 v0 v1 v2 v3 v4 v5 v6 v7 : FVec Ideal S512x128 .bf16}
    (h0 : w0 = v0) (h1 : w1 = v1) (h2 : w2 = v2) (h3 : w3 = v3) (h4 : w4 = v4) (h5 : w5 = v5) (h6 : w6 = v6) (h7 : w7 = v7) :
    tiles w0 w1 w2 w3 w4 w5 w6 w7 = tiles v0 v1 v2 v3 v4 v5 v6 v7 := by
  rw [h0, h1, h2, h3, h4, h5, h6, h7]

/-- The whole of a whole buffer, read. -/
theorem rd_all {κ : Kind} {sp : Space} {e : EltTy} {a b : ℕ} {m : Memref sig κ sp ⟨2, ![a, b]⟩ e} (hm : m.IsWhole)
    (X : Vec Ideal ⟨2, ![a, b]⟩ e) (inb : ∀ x, (![0, 0] : Fin 2 → ℕ) x + (![a, b] : Fin 2 → ℕ) x ≤ (⟨2, ![a, b]⟩ : Shape).size x) :
    View.readAt (Elt Ideal) m.view (Rect.unit (s := ⟨2, ![a, b]⟩) ![0, 0] ![a, b] inb).toLoadRect (hm.unread X) = X := by
  funext j
  refine rd hm X _ _ _ j j fun x => ?_
  match x with
  | ⟨0, _⟩ => exact (Nat.zero_add _).symm
  | ⟨1, _⟩ => exact (Nat.zero_add _).symm

/-- The block on the diagonal, a differential head: from the state over the earlier blocks to the final one. -/
theorem diagA {x0 : Vec Ideal S512x512 .bf16} {x1 : Vec Ideal S1x4x512x512 .bf16} {x2 : Vec Ideal S2048x512 .bf16} {t h : Fin 4}
    {q : Vec Ideal S1x1024x128 .bf16} (hq : ∀ r d, q (ix3 0 r d) = qA x0 h r d)
    {kk : Vec Ideal S1x1x128x512 .bf16} (hk : ∀ d j, kk (ix4 0 0 d j) = x1 (ix4 0 t (laneA h d) j))
    {sl : EReal} (hsl : sl = ((slopeR h : ℝ) : EReal))
    {w : BitVec 32} (hw : w = BitVec.ofNat 32 t.val * 512#32 - BitVec.ofNat 32 t.val * 512#32)
    {p : IVec S1x512 32} (hp : ∀ j : Fin 512, p (ix2 0 j) = BitVec.ofNat 32 j.val)
    {V : Vec Ideal S512x128 .bf16} (hV : ∀ j c, V (ix2 j c) = valOf x2 h c (512 * t.val + j.val)) :
    upd (addf (scoreA q kk (bias (F := Ideal) sl w p)) maskV) V (stOf (sA x0 x1 t h) (valOf x2 h) (512 * t.val)) = finA x0 x1 x2 t h :=
  upd_diag (fun r j => scoreA_base hq hk hsl hw hp r j) (fun _ _ => rfl) hV

/-- The block on the diagonal, a pair of latent heads. -/
theorem diagB {x3 : Vec Ideal S512x1024 .bf16} {x4 : Vec Ideal S2048x1024 .bf16} {x5 : Vec Ideal S2048x512 .bf16} {t h : Fin 4}
    {q : Vec Ideal S1x1024x256 .bf16} (hq : ∀ r d, q (ix3 0 r d) = qB x3 h r d)
    {kk : Vec Ideal S512x256 .bf16} (hk : ∀ j d, kk (ix2 j d) = x4 (ix2 (kall (512 * t.val + j.val)) (laneB h d)))
    {V : Vec Ideal S512x128 .bf16} (hV : ∀ j c, V (ix2 j c) = valOf x5 h c (512 * t.val + j.val)) :
    upd (addf (scoreB q kk) maskV) V (stOf (sB x3 x4 t h) (valOf x5 h) (512 * t.val)) = finB x3 x4 x5 t h :=
  upd_diag (fun r j => scoreB_base hq hk r j) (fun _ _ => rfl) hV

end Cert.Proof.PI
-- ==== Proof.Elem.lean ====
/- A block of results at an index: what each head writes of its running softmax once that is finished. -/
module

public import proofs.«01_k».proof.Proof.Block

@[expose] public section

noncomputable section

namespace Cert.Proof.PI

open Idealize.ShloMosaic Idealize.ShloMosaic.TcCoe Idealize.ShloMosaic.ValueIdx
open Cert.KernelIdeal Cert.KernelIdeal.Gen

/-- The root mean square norm of a head's row `o`, at lane `c`, with that lane's gain `g`, scaled by one less the initial weight. -/
def normed (o : Fin 128 → EReal) (g : EReal) (c : Fin 128) : EReal :=
  o c * Ideal.rsqrt (Ideal.div (∑ d : Fin 128, o d * o d) (Ideal.ofBits .f32 0x43000000#32) + Ideal.ofBits .f32 0x3727C5AC#32) * g
    * Ideal.ofBits .f32 0x3F4CCCCD#32

/-- The weight of the second map. -/
def lamS (a b c d : Fin 64 → EReal) : EReal :=
  Ideal.exp (∑ j, a j * b j) - Ideal.exp (∑ j, c j * d j) + Ideal.ofBits .f32 0x3E4CCCCD#32

/-- A query's row among the stacked ones, first map or head. -/
def lo (r : Fin 512) : Fin 1024 := ⟨r.val, by omega⟩
/-- A query's row among the stacked ones, second map or head. -/
def hi (r : Fin 512) : Fin 1024 := ⟨512 + r.val, by omega⟩

/-- The difference of the two maps, at a row and a lane. -/
theorem diff_apply (lam : FVec Ideal S1x1 .f32) (o : Acc Ideal) (r : Fin 512) (c : Fin 128) :
    diff lam o (ix2 r c) = o (ix2 (lo r) c) - lam (ix2 0 0) * o (ix2 (hi r) c) := by
  show extractStridedSlice S512x128 ![0, 0] o slices_S1024x128_o0_0_S512x128 (ix2 r c)
      - broadcastTo S512x128 lam broadcasts_S1x1_S512x128 (ix2 r c) * extractStridedSlice S512x128 ![512, 0] o slices_S1024x128_o512_0_S512x128 (ix2 r c) = _
  rw [slice2_axis0_apply 0 o _ r c (lo r) (Nat.zero_add _).symm, slice2_axis0_apply 512 o _ r c (hi r) rfl, col_apply_one]
where
  col_apply_one {α : Type} (x : S1x1.Idx → α) (r : Fin 512) (c : Fin 128) :
      broadcastTo S512x128 x broadcasts_S1x1_S512x128 (ix2 r c) = x (ix2 0 0) :=
    broadcastTo_apply x _ (ix2 r c) (ix2 0 0) fun ax => by
      match ax with
      | ⟨0, _⟩ => rfl
      | ⟨1, _⟩ => rfl

/-- A lane put beside a row. -/
theorem lift_lane (r : Fin 512) (j : Fin 128) : reduces_S512x128_S512.lift (ix1 r) j = ix2 r j := by
  funext a
  match a with
  | ⟨0, _⟩ => rfl
  | ⟨1, _⟩ => rfl

/-- The norm of a head's rows, at a row and a lane. -/
theorem rms_apply (g : Vec Ideal S1x128 .f32) (o : FVec Ideal S512x128 .f32) (r : Fin 512) (c : Fin 128) :
    rms g o (ix2 r c) = normed (fun d => o (ix2 r d)) (g (ix2 0 c)) c := by
  have hs : shapeCast S512x1 (multiReduction (F := Ideal) .add [1] S512 (mulf o o) 0x00000000#32 reduces_S512x128_S512 (.inl rfl) rfl)
      shapeCasts_S512_S512x1 (ix2 r 0) = ∑ d : Fin 128, o (ix2 r d) * o (ix2 r d) := by
    rw [shapeCast_a_a1_apply]
    refine (Ideal.multiReduction_add_single _ _ _ _ _ _).trans ?_
    exact Finset.sum_congr rfl fun j _ => congrArg (mulf o o) (lift_lane r j)
  show o (ix2 r c) * broadcastTo S512x128 _ broadcasts_S512x1_S512x128 (ix2 r c) * broadcastTo S512x128 g broadcasts_S1x128_S512x128 (ix2 r c)
    * Ideal.ofBits .f32 0x3F4CCCCD#32 = _
  rw [col_apply, broadcastTo_1b_ab_apply]
  show o (ix2 r c) * Ideal.rsqrt (Ideal.div (shapeCast S512x1 _ shapeCasts_S512_S512x1 (ix2 r 0)) (Ideal.ofBits .f32 0x43000000#32) + Ideal.ofBits .f32 0x3727C5AC#32)
    * _ * _ = _
  rw [hs]
  rfl

/-- What a differential head writes, at a row and a lane. -/
theorem outA_apply (lam : FVec Ideal S1x1 .f32) (g : Vec Ideal S1x128 .f32) (x : St Ideal) (r : Fin 512) (c : Fin 128) :
    outA lam g x (ix2 r c)
      = normed (fun d => quo x (ix2 (lo r) d) - lam (ix2 0 0) * quo x (ix2 (hi r) d)) (g (ix2 0 c)) c := by
  show rms g (diff lam (quo x)) (ix2 r c) = _
  rw [rms_apply]
  exact congrArg (fun f => normed f (g (ix2 0 c)) c) (funext fun d => diff_apply lam (quo x) r d)

/-- What a pair of latent heads writes, at a row and a lane. -/
theorem outB_apply (x : St Ideal) (r : Fin 512) (c : Fin 128) :
    outB x (ix2 r c) = if c.val < 64 then quo x (ix2 (lo r) c) else quo x (ix2 (hi r) c) := by
  show Scalar.select (IntOp.cmpi .slt (iota .tc S512x128 32 [1] iota_S512x128_d1_w32 (ix2 r c)) 64#32)
    (extractStridedSlice S512x128 ![0, 0] (quo x) slices_S1024x128_o0_0_S512x128 (ix2 r c))
    (extractStridedSlice S512x128 ![512, 0] (quo x) slices_S1024x128_o512_0_S512x128 (ix2 r c)) = _
  rw [lane_apply, slt64, slice2_axis0_apply 0 (quo x) _ r c (lo r) (Nat.zero_add _).symm, slice2_axis0_apply 512 (quo x) _ r c (hi r) rfl]
  by_cases h : c.val < 64
  · rw [if_pos h, if_pos h]; rfl
  · rw [if_neg h, if_neg h]; rfl

/-- A lane put beside the one row of a vector of weights' parameters. -/
theorem lift_lam (j : Fin 64) : reduces_S1x64_S1.lift (ix1 0) j = ix2 0 j := by
  funext a
  match a with
  | ⟨0, _⟩ => rfl
  | ⟨1, _⟩ => rfl

/-- The weight of the second map, from its four vectors. -/
theorem lamOf_apply (x6 x7 x8 x9 : Vec Ideal S1x64 .f32) :
    lamOf x6 x7 x8 x9 (ix2 0 0) = lamS (fun j => x6 (ix2 0 j)) (fun j => x7 (ix2 0 j)) (fun j => x8 (ix2 0 j)) (fun j => x9 (ix2 0 j)) := by
  have hs : ∀ y : FVec Ideal S1x64 .f32, shapeCast S1x1 (multiReduction (F := Ideal) .add [1] S1 y 0x00000000#32 reduces_S1x64_S1 (.inl rfl) rfl)
      shapeCasts_S1_S1x1 (ix2 0 0) = ∑ d : Fin 64, y (ix2 0 d) := by
    intro y
    rw [shapeCast_a_a1_apply]
    refine (Ideal.multiReduction_add_single _ _ _ _ _ _).trans ?_
    exact Finset.sum_congr rfl fun j _ => congrArg y (lift_lam j)
  show Ideal.exp (shapeCast S1x1 (multiReduction (F := Ideal) .add [1] S1 (mulf x6 x7) 0x00000000#32 reduces_S1x64_S1 (.inl rfl) rfl) shapeCasts_S1_S1x1 (ix2 0 0))
    - Ideal.exp (shapeCast S1x1 (multiReduction (F := Ideal) .add [1] S1 (mulf x8 x9) 0x00000000#32 reduces_S1x64_S1 (.inl rfl) rfl) shapeCasts_S1_S1x1 (ix2 0 0))
    + Ideal.ofBits .f32 0x3E4CCCCD#32 = _
  rw [hs, hs]
  rfl

/-- Lane `c` of tile `k` of a block. -/
def tlane (k : Fin 8) (c : Fin 128) : Fin 1024 := ⟨128 * k.val + c.val, by omega⟩

/-- One tile of a block read where it lies. -/
theorem tile_at (W : Fin 8 → FVec Ideal S512x128 .bf16) (k k' : Fin 8) (off : Fin 2 → ℕ) (hoff : off = ![0, 128 * k'.val])
    (r : Fin 512) (c : Fin 128) : View.TileAt (Val := Elt Ideal) (S := S512x1024) (e := .bf16) (ix2 r (tlane k c)) off S512x128.size (W k') (W k (ix2 r c)) := by
  subst hoff
  intro x hx
  have h1 : 128 * k'.val + (x 1).val = 128 * k.val + c.val := (hx 1).symm
  have h0 : 0 + (x 0).val = r.val := (hx 0).symm
  have hx1 : (x 1).val < 128 := (x 1).isLt
  have hk : k' = k := Fin.ext (by omega)
  subst hk
  have he : x = ix2 r c := by
    funext a
    match a with
    | ⟨0, _⟩ => exact Fin.ext (by show (x 0).val = r.val; omega)
    | ⟨1, _⟩ => exact Fin.ext (by show (x 1).val = c.val; omega)
  rw [he]

/-- Eight tiles side by side, read at a lane of tile `k`. -/
theorem canon_tiles (W : Fin 8 → FVec Ideal S512x128 .bf16) (k : Fin 8) (r : Fin 512) (c : Fin 128) :
    View.canon (tiles (W 0) (W 1) (W 2) (W 3) (W 4) (W 5) (W 6) (W 7)) (ix2 r (tlane k c)) = W k (ix2 r c) := by
  refine View.canon_eq_of_allAt _ _ _ (View.cover_of_tiled_head _ _ _ (by rfl) _) ?_
  exact
    (View.allAt_cons_unit _ _ _ _ _ (tile_at W k 7 _ rfl r c)
    (View.allAt_cons_unit _ _ _ _ _ (tile_at W k 6 _ rfl r c)
    (View.allAt_cons_unit _ _ _ _ _ (tile_at W k 5 _ rfl r c)
    (View.allAt_cons_unit _ _ _ _ _ (tile_at W k 4 _ rfl r c)
    (View.allAt_cons_unit _ _ _ _ _ (tile_at W k 3 _ rfl r c)
    (View.allAt_cons_unit _ _ _ _ _ (tile_at W k 2 _ rfl r c)
    (View.allAt_cons_unit _ _ _ _ _ (tile_at W k 1 _ rfl r c)
    (View.allAt_cons_unit _ _ _ _ _ (tile_at W k 0 _ rfl r c)
    (View.allAt_nil _ _)))))))))

/-- The heads' results as eight tiles. -/
def heads (x0 : Vec Ideal S512x512 .bf16) (x1 : Vec Ideal S1x4x512x512 .bf16) (x2 : Vec Ideal S2048x512 .bf16)
    (x3 : Vec Ideal S512x1024 .bf16) (x4 : Vec Ideal S2048x1024 .bf16) (x5 : Vec Ideal S2048x512 .bf16)
    (x6 x7 x8 x9 : Vec Ideal S1x64 .f32) (x10 : Vec Ideal S1x128 .f32) (t : Fin 4) (k : Fin 8) : FVec Ideal S512x128 .bf16 :=
  if h : k.val < 4 then outA (lamOf x6 x7 x8 x9) x10 (finA x0 x1 x2 t ⟨k.val, h⟩)
  else outB (finB x3 x4 x5 t ⟨k.val - 4, by omega⟩)

/-- A block at a lane of its tile `k`. -/
theorem blockOut_apply (x0 : Vec Ideal S512x512 .bf16) (x1 : Vec Ideal S1x4x512x512 .bf16) (x2 : Vec Ideal S2048x512 .bf16)
    (x3 : Vec Ideal S512x1024 .bf16) (x4 : Vec Ideal S2048x1024 .bf16) (x5 : Vec Ideal S2048x512 .bf16)
    (x6 x7 x8 x9 : Vec Ideal S1x64 .f32) (x10 : Vec Ideal S1x128 .f32) (t : Fin 4) (k : Fin 8) (r : Fin 512) (c : Fin 128) :
    blockOut x0 x1 x2 x3 x4 x5 x6 x7 x8 x9 x10 t (ix2 r (tlane k c)) = heads x0 x1 x2 x3 x4 x5 x6 x7 x8 x9 x10 t k (ix2 r c) :=
  canon_tiles (heads x0 x1 x2 x3 x4 x5 x6 x7 x8 x9 x10 t) k r c

end Cert.Proof.PI

end
-- ==== Proof.Spec.lean ====
/- The attention of one query, in words that both programs' values are brought to: the scores of a query against the
   2048 keys of its batch, the weights they give, and the values averaged by them. -/
module

public import proofs.«01_k».proof.Proof.Elem

@[expose] public section

noncomputable section

namespace Cert.Proof.Spec

open Idealize.ShloMosaic Idealize.ShloMosaic.ValueIdx
open Cert.Proof.Softmax Cert.Proof.PI

/-- Rows of 512 numbers, one to each token. -/
abbrev Rows512 : Type := (⟨2, ![65536, 512]⟩ : Shape).Idx → EReal
/-- Rows of 1024 numbers, one to each token. -/
abbrev Rows1024 : Type := (⟨2, ![65536, 1024]⟩ : Shape).Idx → EReal
/-- The transposed keys, in blocks of 512 tokens. -/
abbrev Keys : Type := (⟨4, ![32, 4, 512, 512]⟩ : Shape).Idx → EReal

/-- A query sees the keys up to its own place. -/
def hide (q : ℕ) (s : ℕ → EReal) (k : ℕ) : EReal := if k ≤ q then s k else ⊥

/-- The values averaged by the weights of the scores `r`, the query being in place `q`. -/
def att (q : ℕ) (r v : ℕ → EReal) : EReal :=
  Ideal.div (∑ k : Fin 2048, (if k.val ≤ q then Ideal.exp (r k - mx r 2048) else 0) * v k)
    (∑ k : Fin 2048, if k.val ≤ q then Ideal.exp (r k - mx r 2048) else 0)

/-- The row of a batch's token. -/
def brow (b : Fin 32) (q : Fin 2048) : Fin 65536 := ⟨2048 * b.val + q.val, by omega⟩
/-- Lane `d` of map `mm` of a differential head. -/
def laneM (h : Fin 4) (mm : Fin 2) (d : Fin 64) : Fin 512 := ⟨128 * h.val + 64 * mm.val + d.val, by omega⟩
/-- Lane `d` of a latent head's query or key. -/
def laneQ (h : Fin 8) (d : Fin 128) : Fin 1024 := ⟨128 * h.val + d.val, by omega⟩
/-- Lane `d` of a latent head's value. -/
def laneV (h : Fin 8) (d : Fin 64) : Fin 512 := ⟨64 * h.val + d.val, by omega⟩

/-- The product of a query and a key of one map of a differential head. -/
def dotA (x0 : Rows512) (x1 : Keys) (b : Fin 32) (h : Fin 4) (mm : Fin 2) (q : Fin 2048) (k : ℕ) : EReal :=
  ∑ d : Fin 64, x0 (ix2 (brow b q) (laneM h mm d)) * x1 (ix4 b (kblk k) (laneM h mm d) (kin k))

/-- The score of a key in one map of a differential head: the product, less the head's slope times the distance. -/
def scoreA (x0 : Rows512) (x1 : Keys) (b : Fin 32) (h : Fin 4) (mm : Fin 2) (q : Fin 2048) (k : ℕ) : EReal :=
  dotA x0 x1 b h mm q k * ((Real.log 2 : ℝ) : EReal)
    - ((1 / 4 ^ (h.val + 1) : ℝ) : EReal) * ((((q.val : ℤ) - (k : ℤ) : ℤ) : ℝ) : EReal)

/-- The score of a key in a latent head. -/
def scoreB (x3 x4 : Rows1024) (b : Fin 32) (h : Fin 8) (q : Fin 2048) (k : ℕ) : EReal :=
  (∑ d : Fin 128, x3 (ix2 (brow b q) (laneQ h d)) * x4 (ix2 (brow b (kall k)) (laneQ h d))) * ((Real.log 2 : ℝ) : EReal)

/-- Entry `c` of a key's value in a differential head. -/
def valA (x2 : Rows512) (b : Fin 32) (h : Fin 4) (c : Fin 128) (k : ℕ) : EReal := x2 (ix2 (brow b (kall k)) (laneA h c))
/-- Entry `c` of a key's value in a latent head. -/
def valB (x5 : Rows512) (b : Fin 32) (h : Fin 8) (c : Fin 64) (k : ℕ) : EReal := x5 (ix2 (brow b (kall k)) (laneV h c))

/-- One map of a differential head. -/
def mapA (x0 : Rows512) (x1 : Keys) (x2 : Rows512) (b : Fin 32) (h : Fin 4) (mm : Fin 2) (q : Fin 2048) (c : Fin 128) : EReal :=
  att q (hide q (scoreA x0 x1 b h mm q)) (valA x2 b h c)
/-- A latent head. -/
def mapB (x3 x4 : Rows1024) (x5 : Rows512) (b : Fin 32) (h : Fin 8) (q : Fin 2048) (c : Fin 64) : EReal :=
  att q (hide q (scoreB x3 x4 b h q)) (valB x5 b h c)

/-- The maximum of the first `n` scores is that of a family over `Fin n`. -/
theorem sup_eq_mx {n : ℕ} (s : ℕ → EReal) : (Finset.univ.sup fun k : Fin n => s k) = mx s n := by
  apply le_antisymm
  · exact Finset.sup_le fun k _ => le_mx s k.isLt
  · refine Finset.sup_le fun k hk => ?_
    exact Finset.le_sup (f := fun k : Fin n => s k) (Finset.mem_univ ⟨k, Finset.mem_range.1 hk⟩)

end Cert.Proof.Spec

end
-- ==== Proof.KerRow.lean ====
/- The kernel's rows against the specification's: a row's base-two scores are the scores of its query up to the factor
   `log 2` and a shift of the row's own, so its quotient is that query's attention. -/
module

public import proofs.«01_k».proof.Proof.Spec

@[expose] public section

set_option maxHeartbeats 400000

noncomputable section

namespace Cert.Proof.PI

open Idealize.ShloMosaic Idealize.ShloMosaic.TcCoe Idealize.ShloMosaic.ValueIdx
open Cert.KernelIdeal Cert.KernelIdeal.Gen
open Cert.Proof.Softmax Cert.Proof.Spec

/-- Every entry is a real number. -/
def Real' {ι : Type} (x : ι → EReal) : Prop := ∀ i, ∃ r : ℝ, x i = (r : EReal)

/-- A sum of real numbers is the real sum. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of products of real numbers is real. -/
theorem dot_real {n : ℕ} (a b : Fin n → EReal) (ha : Real' a) (hb : Real' b) : ∃ r : ℝ, ∑ d, a d * b d = (r : EReal) := by
  choose a' ha' using ha
  choose b' hb' using hb
  refine ⟨∑ d, a' d * b' d, ?_⟩
  rw [← sum_real]
  exact Finset.sum_congr rfl fun d _ => by rw [ha', hb', EReal.coe_mul]

/-- The row of the stacked queries that carries query `r` for the map or head `mm` of the pair. -/
def half (mm : Fin 2) (r : Fin 512) : Fin 1024 := ⟨512 * mm.val + r.val, by omega⟩

/-- The first is the upper row. -/
theorem half_zero (r : Fin 512) : half 0 r = lo r := Fin.ext (by show 512 * 0 + r.val = r.val; omega)
/-- The second is the lower row. -/
theorem half_one (r : Fin 512) : half 1 r = hi r := Fin.ext (by show 512 * 1 + r.val = 512 + r.val; omega)

/-- A stacked row belongs to its query. -/
theorem row_half (mm : Fin 2) (r : Fin 512) : row (half mm r) = r := Fin.ext (by show (512 * mm.val + r.val) % 512 = r.val; omega)

/-- A sum over the lanes of a differential head whose other half is zero is the sum over its own half. -/
theorem qA_sum (x0 : Vec Ideal S512x512 .bf16) (h : Fin 4) (mm : Fin 2) (r : Fin 512) (y : Fin 512 → EReal) :
    ∑ d : Fin 128, qA x0 h (half mm r) d * y (laneA h d) = ∑ d : Fin 64, x0 (ix2 r (laneM h mm d)) * y (laneM h mm d) := by
  refine (Fin.sum_univ_add (a := 64) (b := 64) fun d : Fin 128 => qA x0 h (half mm r) d * y (laneA h d)).trans ?_
  have hr := r.isLt
  match mm with
  | ⟨0, _⟩ =>
    have e : ∀ d : Fin 64, qA x0 h (half 0 r) (Fin.castAdd 64 d) * y (laneA h (Fin.castAdd 64 d))
        = x0 (ix2 r (laneM h 0 d)) * y (laneM h 0 d) := fun d => by
      have hd := d.isLt
      unfold qA
      rw [if_pos (by show 512 * 0 + r.val < 512 ↔ d.val < 64; omega), row_half]
      have : laneA h (Fin.castAdd 64 d) = laneM h 0 d := Fin.ext (by show 128 * h.val + d.val = 128 * h.val + 64 * 0 + d.val; omega)
      rw [this]
    have e' : ∀ d : Fin 64, qA x0 h (half 0 r) (Fin.natAdd 64 d) * y (laneA h (Fin.natAdd 64 d)) = 0 := fun d => by
      have hd := d.isLt
      unfold qA
      rw [if_neg (by show ¬ (512 * 0 + r.val < 512 ↔ 64 + d.val < 64); omega), zero_mul]
    exact (congrArg₂ (· + ·) (Finset.sum_congr rfl fun d _ => e d) ((Finset.sum_congr rfl fun d _ => e' d).trans Finset.sum_const_zero)).trans
      (add_zero _)
  | ⟨1, _⟩ =>
    have e : ∀ d : Fin 64, qA x0 h (half 1 r) (Fin.natAdd 64 d) * y (laneA h (Fin.natAdd 64 d))
        = x0 (ix2 r (laneM h 1 d)) * y (laneM h 1 d) := fun d => by
      have hd := d.isLt
      unfold qA
      rw [if_pos (by show 512 * 1 + r.val < 512 ↔ 64 + d.val < 64; omega), row_half]
      have : laneA h (Fin.natAdd 64 d) = laneM h 1 d := Fin.ext (by show 128 * h.val + (64 + d.val) = 128 * h.val + 64 * 1 + d.val; omega)
      rw [this]
    have e' : ∀ d : Fin 64, qA x0 h (half 1 r) (Fin.castAdd 64 d) * y (laneA h (Fin.castAdd 64 d)) = 0 := fun d => by
      have hd := d.isLt
      unfold qA
      rw [if_neg (by show ¬ (512 * 1 + r.val < 512 ↔ d.val < 64); omega), zero_mul]
    exact (congrArg₂ (· + ·) ((Finset.sum_congr rfl fun d _ => e' d).trans Finset.sum_const_zero) (Finset.sum_congr rfl fun d _ => e d)).trans
      (zero_add _)

/-- The latent head a pair and a half stand for. -/
def lhead (h : Fin 4) (mm : Fin 2) : Fin 8 := ⟨2 * h.val + mm.val, by omega⟩

/-- A sum over the lanes of a pair of latent heads whose other half is zero is the sum over its own half. -/
theorem qB_sum (x3 : Vec Ideal S512x1024 .bf16) (h : Fin 4) (mm : Fin 2) (r : Fin 512) (y : Fin 1024 → EReal) :
    ∑ d : Fin 256, qB x3 h (half mm r) d * y (laneB h d)
      = ∑ d : Fin 128, x3 (ix2 r (laneQ (lhead h mm) d)) * y (laneQ (lhead h mm) d) := by
  refine (Fin.sum_univ_add (a := 128) (b := 128) fun d : Fin 256 => qB x3 h (half mm r) d * y (laneB h d)).trans ?_
  have hr := r.isLt
  match mm with
  | ⟨0, _⟩ =>
    have e : ∀ d : Fin 128, qB x3 h (half 0 r) (Fin.castAdd 128 d) * y (laneB h (Fin.castAdd 128 d))
        = x3 (ix2 r (laneQ (lhead h 0) d)) * y (laneQ (lhead h 0) d) := fun d => by
      have hd := d.isLt
      unfold qB
      rw [if_pos (by show 512 * 0 + r.val < 512 ↔ d.val < 128; omega), row_half]
      have : laneB h (Fin.castAdd 128 d) = laneQ (lhead h 0) d := Fin.ext (by show 256 * h.val + d.val = 128 * (2 * h.val + 0) + d.val; omega)
      rw [this]
    have e' : ∀ d : Fin 128, qB x3 h (half 0 r) (Fin.natAdd 128 d) * y (laneB h (Fin.natAdd 128 d)) = 0 := fun d => by
      have hd := d.isLt
      unfold qB
      rw [if_neg (by show ¬ (512 * 0 + r.val < 512 ↔ 128 + d.val < 128); omega), zero_mul]
    exact (congrArg₂ (· + ·) (Finset.sum_congr rfl fun d _ => e d) ((Finset.sum_congr rfl fun d _ => e' d).trans Finset.sum_const_zero)).trans
      (add_zero _)
  | ⟨1, _⟩ =>
    have e : ∀ d : Fin 128, qB x3 h (half 1 r) (Fin.natAdd 128 d) * y (laneB h (Fin.natAdd 128 d))
        = x3 (ix2 r (laneQ (lhead h 1) d)) * y (laneQ (lhead h 1) d) := fun d => by
      have hd := d.isLt
      unfold qB
      rw [if_pos (by show 512 * 1 + r.val < 512 ↔ 128 + d.val < 128; omega), row_half]
      have : laneB h (Fin.natAdd 128 d) = laneQ (lhead h 1) d := Fin.ext (by show 256 * h.val + (128 + d.val) = 128 * (2 * h.val + 1) + d.val; omega)
      rw [this]
    have e' : ∀ d : Fin 128, qB x3 h (half 1 r) (Fin.castAdd 128 d) * y (laneB h (Fin.castAdd 128 d)) = 0 := fun d => by
      have hd := d.isLt
      unfold qB
      rw [if_neg (by show ¬ (512 * 1 + r.val < 512 ↔ d.val < 128); omega), zero_mul]
    exact (congrArg₂ (· + ·) ((Finset.sum_congr rfl fun d _ => e' d).trans Finset.sum_const_zero) (Finset.sum_congr rfl fun d _ => e d)).trans
      (zero_add _)

/-- A query's place in its batch. -/
def place (t : Fin 4) (r : Fin 512) : Fin 2048 := ⟨512 * t.val + r.val, by omega⟩

/-- A differential row's two sets of scores, one a multiple of the other and shifted. -/
theorem rowA (X0 : Vec Ideal S512x512 .bf16) (X1 : Vec Ideal S1x4x512x512 .bf16) (x0 : Rows512) (x1 : Keys) (b : Fin 32) (t h : Fin 4)
    (mm : Fin 2) (r : Fin 512) (h0 : ∀ l, X0 (ix2 r l) = x0 (ix2 (brow b (place t r)) l))
    (h1 : ∀ j l k, X1 (ix4 0 j l k) = x1 (ix4 b j l k)) (f0 : Real' x0) (f1 : Real' x1) :
    Row (place t r).val (sA X0 X1 t h (half mm r)) (hide (place t r) (Spec.scoreA x0 x1 b h mm (place t r))) := by
  have hq : 512 * t.val + (half mm r).val % 512 = (place t r).val := by
    show 512 * t.val + (512 * mm.val + r.val) % 512 = 512 * t.val + r.val
    have := r.isLt
    omega
  refine ⟨?_, fun k hk => ⟨?_, ?_⟩⟩
  · have hd : ∀ k : ℕ, ∃ z : ℝ, dotA x0 x1 b h mm (place t r) k = (z : EReal) := fun k =>
      dot_real (fun d => x0 (ix2 (brow b (place t r)) (laneM h mm d))) (fun d => x1 (ix4 b (kblk k) (laneM h mm d) (kin k)))
        (fun d => f0 _) (fun d => f1 _)
    choose z hz using hd
    refine ⟨fun k => z k + slopeR h * (((k : ℤ) - 512 * (t.val : ℤ) : ℤ) : ℝ),
      -(1 / 4 ^ (h.val + 1)) * ((((place t r).val : ℤ) - 512 * (t.val : ℤ) : ℤ) : ℝ), fun k hk => ⟨?_, ?_⟩⟩
    · show seen t (baseA X0 X1 t h) (half mm r) k = _
      unfold seen
      rw [hq, if_pos hk]
      unfold baseA
      rw [qA_sum X0 h mm r (fun l => X1 (ix4 0 (kblk k) l (kin k))), EReal.coe_add, EReal.coe_mul]
      refine congrArg (· + _) (Eq.trans (Finset.sum_congr rfl fun d _ => ?_) (hz k))
      show X0 _ * X1 _ = x0 _ * x1 _
      rw [h0, h1]
    · show (if k ≤ (place t r).val then Spec.scoreA x0 x1 b h mm (place t r) k else ⊥) = _
      rw [if_pos hk]
      unfold Spec.scoreA
      rw [hz, ← EReal.coe_mul, ← EReal.coe_mul, ← EReal.coe_sub]
      congr 1
      have hl : Real.log 2 ≠ 0 := (Real.log_pos (by norm_num)).ne'
      have hs : Real.log 2 * slopeR h = 1 / 4 ^ (h.val + 1) := by
        unfold slopeR
        rw [← mul_assoc, mul_inv_cancel₀ hl, one_mul]
      show _ = Real.log 2 * (z k + slopeR h * (((k : ℤ) - 512 * (t.val : ℤ) : ℤ) : ℝ)) + _
      rw [mul_add, ← mul_assoc (Real.log 2) (slopeR h), hs]
      push_cast
      ring
  · show seen t (baseA X0 X1 t h) (half mm r) k = _
    unfold seen
    rw [hq, if_neg (by omega)]
  · show (if k ≤ (place t r).val then Spec.scoreA x0 x1 b h mm (place t r) k else ⊥) = _
    rw [if_neg (by omega)]

/-- A latent row's two sets of scores, one a multiple of the other. -/
theorem rowB (X3 : Vec Ideal S512x1024 .bf16) (X4 : Vec Ideal S2048x1024 .bf16) (x3 x4 : Rows1024) (b : Fin 32) (t h : Fin 4)
    (mm : Fin 2) (r : Fin 512) (h3 : ∀ l, X3 (ix2 r l) = x3 (ix2 (brow b (place t r)) l))
    (h4 : ∀ k l, X4 (ix2 k l) = x4 (ix2 (brow b k) l)) (f3 : Real' x3) (f4 : Real' x4) :
    Row (place t r).val (sB X3 X4 t h (half mm r)) (hide (place t r) (Spec.scoreB x3 x4 b (lhead h mm) (place t r))) := by
  have hq : 512 * t.val + (half mm r).val % 512 = (place t r).val := by
    show 512 * t.val + (512 * mm.val + r.val) % 512 = 512 * t.val + r.val
    have := r.isLt
    omega
  refine ⟨?_, fun k hk => ⟨?_, ?_⟩⟩
  · have hd : ∀ k : ℕ, ∃ z : ℝ, ∑ d : Fin 128, x3 (ix2 (brow b (place t r)) (laneQ (lhead h mm) d))
        * x4 (ix2 (brow b (kall k)) (laneQ (lhead h mm) d)) = (z : EReal) := fun k =>
      dot_real (fun d => x3 (ix2 (brow b (place t r)) (laneQ (lhead h mm) d))) (fun d => x4 (ix2 (brow b (kall k)) (laneQ (lhead h mm) d)))
        (fun d => f3 _) (fun d => f4 _)
    choose z hz using hd
    refine ⟨z, 0, fun k hk => ⟨?_, ?_⟩⟩
    · show seen t (baseB X3 X4 h) (half mm r) k = _
      unfold seen
      rw [hq, if_pos hk]
      unfold baseB
      rw [qB_sum X3 h mm r (fun l => X4 (ix2 (kall k) l))]
      refine Eq.trans (Finset.sum_congr rfl fun d _ => ?_) (hz k)
      show X3 _ * X4 _ = x3 _ * x4 _
      rw [h3, h4]
    · show (if k ≤ (place t r).val then Spec.scoreB x3 x4 b (lhead h mm) (place t r) k else ⊥) = _
      rw [if_pos hk]
      unfold Spec.scoreB
      rw [hz, ← EReal.coe_mul, add_zero, mul_comm]
  · show seen t (baseB X3 X4 h) (half mm r) k = _
    unfold seen
    rw [hq, if_neg (by omega)]
  · show (if k ≤ (place t r).val then Spec.scoreB x3 x4 b (lhead h mm) (place t r) k else ⊥) = _
    rw [if_neg (by omega)]

/-- A differential row's quotient is its query's attention. -/
theorem quoA (X0 : Vec Ideal S512x512 .bf16) (X1 : Vec Ideal S1x4x512x512 .bf16) (X2 : Vec Ideal S2048x512 .bf16) (x0 : Rows512) (x1 : Keys)
    (x2 : Rows512) (b : Fin 32) (t h : Fin 4) (mm : Fin 2) (r : Fin 512) (c : Fin 128)
    (h0 : ∀ l, X0 (ix2 r l) = x0 (ix2 (brow b (place t r)) l)) (h1 : ∀ j l k, X1 (ix4 0 j l k) = x1 (ix4 b j l k))
    (h2 : ∀ k l, X2 (ix2 k l) = x2 (ix2 (brow b k) l)) (f0 : Real' x0) (f1 : Real' x1) :
    quo (finA X0 X1 X2 t h) (ix2 (half mm r) c) = mapA x0 x1 x2 b h mm (place t r) c := by
  have hv : valOf X2 h c = valA x2 b h c := funext fun k => h2 _ _
  have ht := t.isLt
  have hr := r.isLt
  unfold finA
  rw [quo_apply, hv, (rowA X0 X1 x0 x1 b t h mm r h0 h1 f0 f1).quotient (valA x2 b h c)
    (by show 512 * t.val + r.val < 512 * (t.val + 1); omega) (by show 512 * (t.val + 1) ≤ 2048; omega)]
  rfl

/-- A latent row's quotient is its query's attention. -/
theorem quoB (X3 : Vec Ideal S512x1024 .bf16) (X4 : Vec Ideal S2048x1024 .bf16) (X5 : Vec Ideal S2048x512 .bf16) (x3 x4 : Rows1024)
    (x5 : Rows512) (b : Fin 32) (t h : Fin 4) (mm : Fin 2) (r : Fin 512) (c : Fin 64) (c' : Fin 128) (hc : c'.val = 64 * mm.val + c.val)
    (h3 : ∀ l, X3 (ix2 r l) = x3 (ix2 (brow b (place t r)) l)) (h4 : ∀ k l, X4 (ix2 k l) = x4 (ix2 (brow b k) l))
    (h5 : ∀ k l, X5 (ix2 k l) = x5 (ix2 (brow b k) l)) (f3 : Real' x3) (f4 : Real' x4) :
    quo (finB X3 X4 X5 t h) (ix2 (half mm r) c') = mapB x3 x4 x5 b (lhead h mm) (place t r) c := by
  have hl : laneA h c' = laneV (lhead h mm) c := Fin.ext (by
    show 128 * h.val + c'.val = 64 * (2 * h.val + mm.val) + c.val
    omega)
  have hv : valOf X5 h c' = valB x5 b (lhead h mm) c := funext fun k => by
    show X5 (ix2 (kall k) (laneA h c')) = x5 (ix2 (brow b (kall k)) (laneV (lhead h mm) c))
    rw [h5, hl]
  have ht := t.isLt
  have hr := r.isLt
  unfold finB
  rw [quo_apply, hv, (rowB X3 X4 x3 x4 b t h mm r h3 h4 f3 f4).quotient (valB x5 b (lhead h mm) c)
    (by show 512 * t.val + r.val < 512 * (t.val + 1); omega) (by show 512 * (t.val + 1) ≤ 2048; omega)]
  rfl

end Cert.Proof.PI

end
-- ==== Proof.TileA.lean ====
/- What a grid point of case A writes, as the block of results: the printed run's pieces put through the loops' and
   heads' lemmas. -/
module

public import proofs.«01_k».proof.Proof.Block

@[expose] public section

noncomputable section

namespace Cert.Proof.PI

open Idealize.ShloMosaic Idealize.ShloMosaic.TcCoe Idealize.ShloMosaic.Tactic Idealize.ShloMosaic.ValueIdx
open Cert.KernelIdeal Cert.KernelIdeal.Gen
open Idealize.SL Idealize.SL.Sem

/-- The number of the block on the diagonal, as the kernel computes it. -/
theorem v131_A : ∀ i : grid0.Coords, kernelRun0_A.sl.v131 i = BitVec.ofNat 32 (i 1).val := by decide +kernel

/-- The mask read back from the scratch it was just written to. -/
theorem mask_read (i : grid0.Coords) (arg16 : Memref sig .tc .vmem S1024x512 .f32) (t : Fin 4) (ht : (i 1).val = t.val) :
    arg16.view.readCov (kernelRun0_A.sl.HS2_1 (F := Ideal) i) (Rect.unit (s := S1024x512) ![0, 0] S1024x512.size inb_S1024x512_S1024x512_0_0).toLoadRect = maskV := by
  have hm : k0_pay120 (F := Ideal) (BitVec.ofNat 32 (i 1).val) (kernelRun0_A.sl.v115 i) (kernelRun0_A.sl.v126 i) (kernelRun0_A.sl.v127 i) = maskV := by
    rw [ht]
    exact pay120_eq t _ _ _ ((v131_A i).trans (by rw [ht]))
  rw [View.readCov_eq_canon']
  funext j
  delta kernelRun0_A.sl.HS2_1
  rw [hm]
  have := View.canon_cons_emb (Val := Elt Ideal) (Rect.unit (s := S1024x512) ![0, 0] S1024x512.size inb_S1024x512_S1024x512_0_0) maskV [] j
  exact this

/-- What a point of case A writes. -/
theorem outA_eq (c : Dev nD) (i : grid0.Coords) (arg2 : Memref sig .tc .vmem S512x512 .bf16) (harg2 : arg2.IsWhole) (arg3 : Memref sig .tc .vmem S1x4x512x512 .bf16) (harg3 : arg3.IsWhole) (arg4 : Memref sig .tc .vmem S2048x512 .bf16) (harg4 : arg4.IsWhole) (arg5 : Memref sig .tc .vmem S512x1024 .bf16) (harg5 : arg5.IsWhole) (arg6 : Memref sig .tc .vmem S2048x1024 .bf16) (harg6 : arg6.IsWhole) (arg7 : Memref sig .tc .vmem S2048x512 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S4x1024x128 .bf16) (harg14 : arg14.IsWhole) (arg15 : Memref sig .tc .vmem S4x1024x256 .bf16) (harg15 : arg15.IsWhole) (arg16 : Memref sig .tc .vmem S1024x512 .f32) (harg16 : arg16.IsWhole) (hc0 : cond0_0 i)     (x0 : Vec Ideal S512x512 .bf16) (x1 : Vec Ideal S1x4x512x512 .bf16) (x2 : Vec Ideal S2048x512 .bf16) (x3 : Vec Ideal S512x1024 .bf16) (x4 : Vec Ideal S2048x1024 .bf16) (x5 : Vec Ideal S2048x512 .bf16) (x6 : Vec Ideal S1x64 .f32) (x7 : Vec Ideal S1x64 .f32) (x8 : Vec Ideal S1x64 .f32) (x9 : Vec Ideal S1x64 .f32) (x10 : Vec Ideal S1x128 .f32)
    (t : Fin 4) (ht : (i 1).val = t.val) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10
      = blockOut x0 x1 x2 x3 x4 x5 x6 x7 x8 x9 x10 t := by
  have hv131 : kernelRun0_A.sl.v131 i = BitVec.ofNat 32 t.val := by
    rw [← ht]
    exact v131_A i
  have hp : ∀ j : Fin 512, kernelRun0_A.sl.v132 (ix2 0 j) = BitVec.ofNat 32 j.val := fun j => lane_apply _ 0 j
  have hw : Scalar.subi (Scalar.muli (kernelRun0_A.sl.v131 i) 512#32) (Scalar.muli (BitVec.ofNat 32 (i 1).val) 512#32)
      = BitVec.ofNat 32 t.val * 512#32 - BitVec.ofNat 32 t.val * 512#32 := by
    rw [hv131, ht]
    rfl
  have hM : kernelRun0_A.sl.v189 (F := Ideal) c i arg16 = maskV := by
    show arg16.view.readCov (kernelRun0_A.sl.HS2_1 (F := Ideal) i) (Rect.unit (s := S1024x512) ![0, 0] S1024x512.size inb_S1024x512_S1024x512_0_0).toLoadRect = maskV
    exact mask_read i arg16 t ht
  have hM2 : kernelRun0_A.sl.v448 (F := Ideal) c i arg16 = maskV := by
    show arg16.view.readCov (kernelRun0_A.sl.HS2_1 (F := Ideal) i) (Rect.unit (s := S1024x512) ![0, 0] S1024x512.size inb_S1024x512_S1024x512_0_0).toLoadRect = maskV
    exact mask_read i arg16 t ht
  have e1 : st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (kernelRun0_A.sl.v131 i) kernelRun0_A.sl.v132 k0_pay122 k0_pay123 k0_pay124 k0_pay125 k0_pay126 k0_pay127 k0_pay128 k0_pay129 k0_pay130 k0_pay131 kernelRun0_A.sl.cst_104 (harg3.unread x1) (harg4.unread x2) (arg14.view.writes (Elt Ideal) arg14.view.junk (kernelRun0_A.sl.HS0_8 c arg2 harg2 x0))
      ((k0_pay122, k0_pay123, k0_pay124, k0_pay125, k0_pay126, k0_pay127, k0_pay128, k0_pay129, k0_pay130, k0_pay131, k0_pay132 kernelRun0_A.sl.cst_104, k0_pay133) : FVec Ideal S1024x1 .f32 × FVec Ideal S1024x1 .f32 × FVec Ideal S1024x128 .f32 × FVec Ideal S1024x1 .f32 × FVec Ideal S1024x1 .f32 × FVec Ideal S1024x128 .f32 × FVec Ideal S1024x1 .f32 × FVec Ideal S1024x1 .f32 × FVec Ideal S1024x128 .f32 × FVec Ideal S1024x1 .f32 × FVec Ideal S1024x1 .f32 × FVec Ideal S1024x128 .f32) (Scf.trips (k0_t1_loop i).lb (k0_t1_loop i).ub (k0_t1_loop i).st) = pack (stOf (sA x0 x1 t 0) (valOf x2 0) (512 * t.val)) (stOf (sA x0 x1 t 1) (valOf x2 1) (512 * t.val)) (stOf (sA x0 x1 t 2) (valOf x2 2) (512 * t.val)) (stOf (sA x0 x1 t 3) (valOf x2 3) (512 * t.val)) :=
    (congrArg (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (kernelRun0_A.sl.v131 i) kernelRun0_A.sl.v132 k0_pay122 k0_pay123 k0_pay124 k0_pay125 k0_pay126 k0_pay127 k0_pay128 k0_pay129 k0_pay130 k0_pay131 kernelRun0_A.sl.cst_104 (harg3.unread x1) (harg4.unread x2) (arg14.view.writes (Elt Ideal) arg14.view.junk (kernelRun0_A.sl.HS0_8 c arg2 harg2 x0)) ((k0_pay122, k0_pay123, k0_pay124, k0_pay125, k0_pay126, k0_pay127, k0_pay128, k0_pay129, k0_pay130, k0_pay131, k0_pay132 kernelRun0_A.sl.cst_104, k0_pay133) : FVec Ideal S1024x1 .f32 × FVec Ideal S1024x1 .f32 × FVec Ideal S1024x128 .f32 × FVec Ideal S1024x1 .f32 × FVec Ideal S1024x1 .f32 × FVec Ideal S1024x128 .f32 × FVec Ideal S1024x1 .f32 × FVec Ideal S1024x1 .f32 × FVec Ideal S1024x128 .f32 × FVec Ideal S1024x1 .f32 × FVec Ideal S1024x1 .f32 × FVec Ideal S1024x128 .f32)) ((trips1 i).trans ht)).trans
      (loop1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (kernelRun0_A.sl.v131 i) kernelRun0_A.sl.v132 k0_pay122 k0_pay123 k0_pay124 k0_pay125 k0_pay126 k0_pay127 k0_pay128 k0_pay129 k0_pay130 k0_pay131 kernelRun0_A.sl.cst_104 (arg14.view.writes (Elt Ideal) arg14.view.junk (kernelRun0_A.sl.HS0_8 c arg2 harg2 x0)) x0 x1 x2 t ht (by rw [ht]) hp
        (read_HA harg2 x0 _ 0 _ rfl _) (read_HA harg2 x0 _ 1 _ rfl _) (read_HA harg2 x0 _ 2 _ rfl _) (read_HA harg2 x0 _ 3 _ rfl _) t.val le_rfl)
  have e2 : ∀ s, st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (kernelRun0_A.sl.v131 i) kernelRun0_A.sl.v132 k0_pay122 k0_pay123 k0_pay124 k0_pay125 k0_pay126 k0_pay127 k0_pay128 k0_pay129 k0_pay130 k0_pay131 kernelRun0_A.sl.cst_104 (kernelRun0_A.sl.v167 i) (harg3.unread x1) (harg4.unread x2) (arg14.view.writes (Elt Ideal) arg14.view.junk (kernelRun0_A.sl.HS0_8 c arg2 harg2 x0)) s (Scf.trips (k0_t2_loop i).lb (k0_t2_loop i).ub (k0_t2_loop i).st) = s := fun s =>
    congrArg (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (kernelRun0_A.sl.v131 i) kernelRun0_A.sl.v132 k0_pay122 k0_pay123 k0_pay124 k0_pay125 k0_pay126 k0_pay127 k0_pay128 k0_pay129 k0_pay130 k0_pay131 kernelRun0_A.sl.cst_104 (kernelRun0_A.sl.v167 i) (harg3.unread x1) (harg4.unread x2) (arg14.view.writes (Elt Ideal) arg14.view.junk (kernelRun0_A.sl.HS0_8 c arg2 harg2 x0)) s) (trips2 i)
  have e3 : ∀ v417, st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (kernelRun0_A.sl.v131 i) v417 (harg6.unread x4) (harg7.unread x5) (arg15.view.writes (Elt Ideal) arg15.view.junk (kernelRun0_A.sl.HS1_8 c arg5 harg5 x3))
      (k0_pay178, k0_pay179, k0_pay180, k0_pay181, k0_pay182, k0_pay183, k0_pay184, k0_pay185, k0_pay186, k0_pay187, k0_pay188, k0_pay189) (Scf.trips (k0_t3_loop i).lb (k0_t3_loop i).ub (k0_t3_loop i).st) = pack (stOf (sB x3 x4 t 0) (valOf x5 0) (512 * t.val)) (stOf (sB x3 x4 t 1) (valOf x5 1) (512 * t.val)) (stOf (sB x3 x4 t 2) (valOf x5 2) (512 * t.val)) (stOf (sB x3 x4 t 3) (valOf x5 3) (512 * t.val)) := fun v417 =>
    (congrArg (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (kernelRun0_A.sl.v131 i) v417 (harg6.unread x4) (harg7.unread x5) (arg15.view.writes (Elt Ideal) arg15.view.junk (kernelRun0_A.sl.HS1_8 c arg5 harg5 x3)) (k0_pay178, k0_pay179, k0_pay180, k0_pay181, k0_pay182, k0_pay183, k0_pay184, k0_pay185, k0_pay186, k0_pay187, k0_pay188, k0_pay189)) ((trips3 i).trans ht)).trans
      (loop3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (kernelRun0_A.sl.v131 i) v417 (arg15.view.writes (Elt Ideal) arg15.view.junk (kernelRun0_A.sl.HS1_8 c arg5 harg5 x3)) x3 x4 x5 t ht
        (read_HB harg5 x3 _ 0 _ rfl _) (read_HB harg5 x3 _ 1 _ rfl _) (read_HB harg5 x3 _ 2 _ rfl _) (read_HB harg5 x3 _ 3 _ rfl _) t.val le_rfl)
  have e4 : ∀ v417 s, st_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (kernelRun0_A.sl.v131 i) v417 (kernelRun0_A.sl.v436 i) (harg6.unread x4) (harg7.unread x5) (arg15.view.writes (Elt Ideal) arg15.view.junk (kernelRun0_A.sl.HS1_8 c arg5 harg5 x3)) s (Scf.trips (k0_t4_loop i).lb (k0_t4_loop i).ub (k0_t4_loop i).st) = s := fun v417 s =>
    congrArg (st_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (kernelRun0_A.sl.v131 i) v417 (kernelRun0_A.sl.v436 i) (harg6.unread x4) (harg7.unread x5) (arg15.view.writes (Elt Ideal) arg15.view.junk (kernelRun0_A.sl.HS1_8 c arg5 harg5 x3)) s) (trips4 i)
  have hg : View.readAt (Elt Ideal) arg12.view (Rect.unit (s := S1x128) ![0, 0] S1x128.size inb_S1x128_S1x128_0_0).toLoadRect (harg12.unread x10) = x10 :=
    rd_all harg12 x10 _
  have hlam : kernelRun0_A.sl.r_4 (F := Ideal) c arg8 harg8 arg9 harg9 arg10 harg10 arg11 harg11 x6 x7 x8 x9 = lamOf x6 x7 x8 x9 := by
    delta kernelRun0_A.sl.r_4
    rw [rd_all harg8 x6 _, rd_all harg9 x7 _, rd_all harg10 x8 _, rd_all harg11 x9 _]
    rfl
  unfold out0_A_11
  rw [View.read_writes_eq_canon VO0_11 _ _ (cover0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10)]
  unfold kernelRun0_A
  dsimp only
  refine congrArg View.canon (congr_tiles ?_ ?_ ?_ ?_ ?_ ?_ ?_ ?_)
  · delta kernelRun0_A.sl.r_30 kernelRun0_A.sl.r_31 kernelRun0_A.sl.r_32 kernelRun0_A.sl.r_20 kernelRun0_A.sl.r_21 kernelRun0_A.sl.r_18 kernelRun0_A.sl.r_19 kernelRun0_A.sl.r_15 kernelRun0_A.sl.r_16 kernelRun0_A.sl.r_17 kernelRun0_A.sl.r_5
    rw [hlam, hg, e2, e1, hM]
    refine (headA0 _ _ _ _ _ _ _ _ _ _ _ _).trans (congrArg (outA _ _) ?_)
    exact diagA (cov_HA harg2 x0 0 _ rfl _) (fun d j => rd_keyA harg3 x1 t 0 _ ((k0_off17_eq i).trans (by rw [ht]; rfl)) _ d j) slope0_eq hw hp (fun j c => rd_val harg4 x2 t 0 _ ((k0_off18_eq i).trans (by rw [ht]; rfl)) _ j c)
  · delta kernelRun0_A.sl.r_22 kernelRun0_A.sl.r_23 kernelRun0_A.sl.r_6 kernelRun0_A.sl.r_7 kernelRun0_A.sl.r_8
    rw [hlam, hg, e2, e1, hM]
    refine (headA1 _ _ _ _ _ _ _ _ _ _ _ _).trans (congrArg (outA _ _) ?_)
    exact diagA (cov_HA harg2 x0 1 _ rfl _) (fun d j => rd_keyA harg3 x1 t 1 _ ((k0_off19_eq i).trans (by rw [ht]; rfl)) _ d j) slope1_eq hw hp (fun j c => rd_val harg4 x2 t 1 _ ((k0_off20_eq i).trans (by rw [ht]; rfl)) _ j c)
  · delta kernelRun0_A.sl.r_33 kernelRun0_A.sl.r_34 kernelRun0_A.sl.r_24 kernelRun0_A.sl.r_25 kernelRun0_A.sl.r_9 kernelRun0_A.sl.r_10 kernelRun0_A.sl.r_11
    rw [hlam, hg, e2, e1, hM]
    refine (headA2 _ _ _ _ _ _ _ _ _ _ _ _).trans (congrArg (outA _ _) ?_)
    exact diagA (cov_HA harg2 x0 2 _ rfl _) (fun d j => rd_keyA harg3 x1 t 2 _ ((k0_off21_eq i).trans (by rw [ht]; rfl)) _ d j) slope2_eq hw hp (fun j c => rd_val harg4 x2 t 2 _ ((k0_off22_eq i).trans (by rw [ht]; rfl)) _ j c)
  · delta kernelRun0_A.sl.r_35 kernelRun0_A.sl.r_28 kernelRun0_A.sl.r_29 kernelRun0_A.sl.r_26 kernelRun0_A.sl.r_27 kernelRun0_A.sl.r_12 kernelRun0_A.sl.r_13 kernelRun0_A.sl.r_14
    rw [hlam, hg, e2, e1, hM]
    refine (headA3 _ _ _ _ _ _ _ _ _ _ _ _).trans (congrArg (outA _ _) ?_)
    exact diagA (cov_HA harg2 x0 3 _ rfl _) (fun d j => rd_keyA harg3 x1 t 3 _ ((k0_off23_eq i).trans (by rw [ht]; rfl)) _ d j) slope3_eq hw hp (fun j c => rd_val harg4 x2 t 3 _ ((k0_off24_eq i).trans (by rw [ht]; rfl)) _ j c)
  · delta kernelRun0_A.sl.r_50 kernelRun0_A.sl.r_51 kernelRun0_A.sl.r_36 kernelRun0_A.sl.r_37 kernelRun0_A.sl.r_38 kernelRun0_A.sl.r_48 kernelRun0_A.sl.r_49
    rw [e4, e3, hM2]
    refine (headB0 _ _ _ _ _ _ _).trans (congrArg outB ?_)
    exact diagB (cov_HB harg5 x3 0 _ rfl _) (fun j d => rd_keyB harg6 x4 t 0 _ ((k0_off41_eq i).trans (by rw [ht]; rfl)) _ j d) (fun j c => rd_val harg7 x5 t 0 _ ((k0_off18_eq i).trans (by rw [ht]; rfl)) _ j c)
  · delta kernelRun0_A.sl.r_52 kernelRun0_A.sl.r_53 kernelRun0_A.sl.r_39 kernelRun0_A.sl.r_40 kernelRun0_A.sl.r_41
    rw [e4, e3, hM2]
    refine (headB1 _ _ _ _ _ _ _).trans (congrArg outB ?_)
    exact diagB (cov_HB harg5 x3 1 _ rfl _) (fun j d => rd_keyB harg6 x4 t 1 _ ((k0_off42_eq i).trans (by rw [ht]; rfl)) _ j d) (fun j c => rd_val harg7 x5 t 1 _ ((k0_off20_eq i).trans (by rw [ht]; rfl)) _ j c)
  · delta kernelRun0_A.sl.r_54 kernelRun0_A.sl.r_55 kernelRun0_A.sl.r_42 kernelRun0_A.sl.r_43 kernelRun0_A.sl.r_44
    rw [e4, e3, hM2]
    refine (headB2 _ _ _ _ _ _ _).trans (congrArg outB ?_)
    exact diagB (cov_HB harg5 x3 2 _ rfl _) (fun j d => rd_keyB harg6 x4 t 2 _ ((k0_off43_eq i).trans (by rw [ht]; rfl)) _ j d) (fun j c => rd_val harg7 x5 t 2 _ ((k0_off22_eq i).trans (by rw [ht]; rfl)) _ j c)
  · delta kernelRun0_A.sl.r_59 kernelRun0_A.sl.r_60 kernelRun0_A.sl.r_56 kernelRun0_A.sl.r_57 kernelRun0_A.sl.r_58 kernelRun0_A.sl.r_45 kernelRun0_A.sl.r_46 kernelRun0_A.sl.r_47
    rw [e4, e3, hM2]
    refine (headB3 _ _ _ _ _ _ _).trans (congrArg outB ?_)
    exact diagB (cov_HB harg5 x3 3 _ rfl _) (fun j d => rd_keyB harg6 x4 t 3 _ ((k0_off44_eq i).trans (by rw [ht]; rfl)) _ j d) (fun j c => rd_val harg7 x5 t 3 _ ((k0_off24_eq i).trans (by rw [ht]; rfl)) _ j c)

end Cert.Proof.PI
-- ==== Proof.TileB.lean ====
/- What a grid point of case B writes, as the block of results: the printed run's pieces put through the loops' and
   heads' lemmas. -/
module

public import proofs.«01_k».proof.Proof.Block

@[expose] public section

noncomputable section

namespace Cert.Proof.PI

open Idealize.ShloMosaic Idealize.ShloMosaic.TcCoe Idealize.ShloMosaic.Tactic Idealize.ShloMosaic.ValueIdx
open Cert.KernelIdeal Cert.KernelIdeal.Gen
open Idealize.SL Idealize.SL.Sem

/-- The number of the block on the diagonal, as the kernel computes it. -/
theorem v131_B : ∀ i : grid0.Coords, kernelRun0_B.sl.v131 i = BitVec.ofNat 32 (i 1).val := by decide +kernel

/-- What a point of case B writes. -/
theorem outB_eq (c : Dev nD) (i : grid0.Coords) (arg2 : Memref sig .tc .vmem S512x512 .bf16) (harg2 : arg2.IsWhole) (arg3 : Memref sig .tc .vmem S1x4x512x512 .bf16) (harg3 : arg3.IsWhole) (arg4 : Memref sig .tc .vmem S2048x512 .bf16) (harg4 : arg4.IsWhole) (arg5 : Memref sig .tc .vmem S512x1024 .bf16) (harg5 : arg5.IsWhole) (arg6 : Memref sig .tc .vmem S2048x1024 .bf16) (harg6 : arg6.IsWhole) (arg7 : Memref sig .tc .vmem S2048x512 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S4x1024x128 .bf16) (harg14 : arg14.IsWhole) (arg15 : Memref sig .tc .vmem S4x1024x256 .bf16) (harg15 : arg15.IsWhole) (arg16 : Memref sig .tc .vmem S1024x512 .f32) (harg16 : arg16.IsWhole) (hc0 : ¬cond0_0 i)     (x0 : Vec Ideal S512x512 .bf16) (x1 : Vec Ideal S1x4x512x512 .bf16) (x2 : Vec Ideal S2048x512 .bf16) (x3 : Vec Ideal S512x1024 .bf16) (x4 : Vec Ideal S2048x1024 .bf16) (x5 : Vec Ideal S2048x512 .bf16) (x6 : Vec Ideal S1x64 .f32) (x7 : Vec Ideal S1x64 .f32) (x8 : Vec Ideal S1x64 .f32) (x9 : Vec Ideal S1x64 .f32) (x10 : Vec Ideal S1x128 .f32) (xs2 : Vec Ideal S1024x512 .f32)
    (t : Fin 4) (ht : (i 1).val = t.val) (hx : xs2 = maskV) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs2
      = blockOut x0 x1 x2 x3 x4 x5 x6 x7 x8 x9 x10 t := by
  have hv131 : kernelRun0_B.sl.v131 i = BitVec.ofNat 32 t.val := by
    rw [← ht]
    exact v131_B i
  have hp : ∀ j : Fin 512, kernelRun0_B.sl.v132 (ix2 0 j) = BitVec.ofNat 32 j.val := fun j => lane_apply _ 0 j
  have hw : Scalar.subi (Scalar.muli (kernelRun0_B.sl.v131 i) 512#32) (Scalar.muli (BitVec.ofNat 32 (i 1).val) 512#32)
      = BitVec.ofNat 32 t.val * 512#32 - BitVec.ofNat 32 t.val * 512#32 := by
    rw [hv131, ht]
    rfl
  have hM : View.readAt (Elt Ideal) arg16.view (Rect.unit (s := S1024x512) ![0, 0] S1024x512.size inb_S1024x512_S1024x512_0_0).toLoadRect (harg16.unread xs2) = maskV := by
    rw [← hx]
    exact rd_all harg16 xs2 _
  have e1 : st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (kernelRun0_B.sl.v131 i) kernelRun0_B.sl.v132 k0_pay122 k0_pay123 k0_pay124 k0_pay125 k0_pay126 k0_pay127 k0_pay128 k0_pay129 k0_pay130 k0_pay131 kernelRun0_B.sl.cst_104 (harg3.unread x1) (harg4.unread x2) (arg14.view.writes (Elt Ideal) arg14.view.junk (kernelRun0_B.sl.HS0_8 c arg2 harg2 x0))
      ((k0_pay122, k0_pay123, k0_pay124, k0_pay125, k0_pay126, k0_pay127, k0_pay128, k0_pay129, k0_pay130, k0_pay131, k0_pay132 kernelRun0_B.sl.cst_104, k0_pay133) : FVec Ideal S1024x1 .f32 × FVec Ideal S1024x1 .f32 × FVec Ideal S1024x128 .f32 × FVec Ideal S1024x1 .f32 × FVec Ideal S1024x1 .f32 × FVec Ideal S1024x128 .f32 × FVec Ideal S1024x1 .f32 × FVec Ideal S1024x1 .f32 × FVec Ideal S1024x128 .f32 × FVec Ideal S1024x1 .f32 × FVec Ideal S1024x1 .f32 × FVec Ideal S1024x128 .f32) (Scf.trips (k0_t1_loop i).lb (k0_t1_loop i).ub (k0_t1_loop i).st) = pack (stOf (sA x0 x1 t 0) (valOf x2 0) (512 * t.val)) (stOf (sA x0 x1 t 1) (valOf x2 1) (512 * t.val)) (stOf (sA x0 x1 t 2) (valOf x2 2) (512 * t.val)) (stOf (sA x0 x1 t 3) (valOf x2 3) (512 * t.val)) :=
    (congrArg (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (kernelRun0_B.sl.v131 i) kernelRun0_B.sl.v132 k0_pay122 k0_pay123 k0_pay124 k0_pay125 k0_pay126 k0_pay127 k0_pay128 k0_pay129 k0_pay130 k0_pay131 kernelRun0_B.sl.cst_104 (harg3.unread x1) (harg4.unread x2) (arg14.view.writes (Elt Ideal) arg14.view.junk (kernelRun0_B.sl.HS0_8 c arg2 harg2 x0)) ((k0_pay122, k0_pay123, k0_pay124, k0_pay125, k0_pay126, k0_pay127, k0_pay128, k0_pay129, k0_pay130, k0_pay131, k0_pay132 kernelRun0_B.sl.cst_104, k0_pay133) : FVec Ideal S1024x1 .f32 × FVec Ideal S1024x1 .f32 × FVec Ideal S1024x128 .f32 × FVec Ideal S1024x1 .f32 × FVec Ideal S1024x1 .f32 × FVec Ideal S1024x128 .f32 × FVec Ideal S1024x1 .f32 × FVec Ideal S1024x1 .f32 × FVec Ideal S1024x128 .f32 × FVec Ideal S1024x1 .f32 × FVec Ideal S1024x1 .f32 × FVec Ideal S1024x128 .f32)) ((trips1 i).trans ht)).trans
      (loop1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (kernelRun0_B.sl.v131 i) kernelRun0_B.sl.v132 k0_pay122 k0_pay123 k0_pay124 k0_pay125 k0_pay126 k0_pay127 k0_pay128 k0_pay129 k0_pay130 k0_pay131 kernelRun0_B.sl.cst_104 (arg14.view.writes (Elt Ideal) arg14.view.junk (kernelRun0_B.sl.HS0_8 c arg2 harg2 x0)) x0 x1 x2 t ht (by rw [ht]) hp
        (read_HA harg2 x0 _ 0 _ rfl _) (read_HA harg2 x0 _ 1 _ rfl _) (read_HA harg2 x0 _ 2 _ rfl _) (read_HA harg2 x0 _ 3 _ rfl _) t.val le_rfl)
  have e2 : ∀ s, st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (kernelRun0_B.sl.v131 i) kernelRun0_B.sl.v132 k0_pay122 k0_pay123 k0_pay124 k0_pay125 k0_pay126 k0_pay127 k0_pay128 k0_pay129 k0_pay130 k0_pay131 kernelRun0_B.sl.cst_104 (kernelRun0_B.sl.v167 i) (harg3.unread x1) (harg4.unread x2) (arg14.view.writes (Elt Ideal) arg14.view.junk (kernelRun0_B.sl.HS0_8 c arg2 harg2 x0)) s (Scf.trips (k0_t2_loop i).lb (k0_t2_loop i).ub (k0_t2_loop i).st) = s := fun s =>
    congrArg (st_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (kernelRun0_B.sl.v131 i) kernelRun0_B.sl.v132 k0_pay122 k0_pay123 k0_pay124 k0_pay125 k0_pay126 k0_pay127 k0_pay128 k0_pay129 k0_pay130 k0_pay131 kernelRun0_B.sl.cst_104 (kernelRun0_B.sl.v167 i) (harg3.unread x1) (harg4.unread x2) (arg14.view.writes (Elt Ideal) arg14.view.junk (kernelRun0_B.sl.HS0_8 c arg2 harg2 x0)) s) (trips2 i)
  have e3 : ∀ v417, st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (kernelRun0_B.sl.v131 i) v417 (harg6.unread x4) (harg7.unread x5) (arg15.view.writes (Elt Ideal) arg15.view.junk (kernelRun0_B.sl.HS1_8 c arg5 harg5 x3))
      (k0_pay178, k0_pay179, k0_pay180, k0_pay181, k0_pay182, k0_pay183, k0_pay184, k0_pay185, k0_pay186, k0_pay187, k0_pay188, k0_pay189) (Scf.trips (k0_t3_loop i).lb (k0_t3_loop i).ub (k0_t3_loop i).st) = pack (stOf (sB x3 x4 t 0) (valOf x5 0) (512 * t.val)) (stOf (sB x3 x4 t 1) (valOf x5 1) (512 * t.val)) (stOf (sB x3 x4 t 2) (valOf x5 2) (512 * t.val)) (stOf (sB x3 x4 t 3) (valOf x5 3) (512 * t.val)) := fun v417 =>
    (congrArg (st_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (kernelRun0_B.sl.v131 i) v417 (harg6.unread x4) (harg7.unread x5) (arg15.view.writes (Elt Ideal) arg15.view.junk (kernelRun0_B.sl.HS1_8 c arg5 harg5 x3)) (k0_pay178, k0_pay179, k0_pay180, k0_pay181, k0_pay182, k0_pay183, k0_pay184, k0_pay185, k0_pay186, k0_pay187, k0_pay188, k0_pay189)) ((trips3 i).trans ht)).trans
      (loop3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (kernelRun0_B.sl.v131 i) v417 (arg15.view.writes (Elt Ideal) arg15.view.junk (kernelRun0_B.sl.HS1_8 c arg5 harg5 x3)) x3 x4 x5 t ht
        (read_HB harg5 x3 _ 0 _ rfl _) (read_HB harg5 x3 _ 1 _ rfl _) (read_HB harg5 x3 _ 2 _ rfl _) (read_HB harg5 x3 _ 3 _ rfl _) t.val le_rfl)
  have e4 : ∀ v417 s, st_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (kernelRun0_B.sl.v131 i) v417 (kernelRun0_B.sl.v436 i) (harg6.unread x4) (harg7.unread x5) (arg15.view.writes (Elt Ideal) arg15.view.junk (kernelRun0_B.sl.HS1_8 c arg5 harg5 x3)) s (Scf.trips (k0_t4_loop i).lb (k0_t4_loop i).ub (k0_t4_loop i).st) = s := fun v417 s =>
    congrArg (st_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 (kernelRun0_B.sl.v131 i) v417 (kernelRun0_B.sl.v436 i) (harg6.unread x4) (harg7.unread x5) (arg15.view.writes (Elt Ideal) arg15.view.junk (kernelRun0_B.sl.HS1_8 c arg5 harg5 x3)) s) (trips4 i)
  have hg : View.readAt (Elt Ideal) arg12.view (Rect.unit (s := S1x128) ![0, 0] S1x128.size inb_S1x128_S1x128_0_0).toLoadRect (harg12.unread x10) = x10 :=
    rd_all harg12 x10 _
  have hlam : kernelRun0_B.sl.r_4 (F := Ideal) c arg8 harg8 arg9 harg9 arg10 harg10 arg11 harg11 x6 x7 x8 x9 = lamOf x6 x7 x8 x9 := by
    delta kernelRun0_B.sl.r_4
    rw [rd_all harg8 x6 _, rd_all harg9 x7 _, rd_all harg10 x8 _, rd_all harg11 x9 _]
    rfl
  unfold out0_B_11
  rw [View.read_writes_eq_canon VO0_11 _ _ (cover0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 xs2)]
  unfold kernelRun0_B
  dsimp only
  refine congrArg View.canon (congr_tiles ?_ ?_ ?_ ?_ ?_ ?_ ?_ ?_)
  · delta kernelRun0_B.sl.r_30 kernelRun0_B.sl.r_31 kernelRun0_B.sl.r_32 kernelRun0_B.sl.r_20 kernelRun0_B.sl.r_21 kernelRun0_B.sl.r_18 kernelRun0_B.sl.r_19 kernelRun0_B.sl.r_15 kernelRun0_B.sl.r_16 kernelRun0_B.sl.r_17 kernelRun0_B.sl.r_5
    rw [hlam, hg, e2, e1, hM]
    refine (headA0 _ _ _ _ _ _ _ _ _ _ _ _).trans (congrArg (outA _ _) ?_)
    exact diagA (cov_HA harg2 x0 0 _ rfl _) (fun d j => rd_keyA harg3 x1 t 0 _ ((k0_off17_eq i).trans (by rw [ht]; rfl)) _ d j) slope0_eq hw hp (fun j c => rd_val harg4 x2 t 0 _ ((k0_off18_eq i).trans (by rw [ht]; rfl)) _ j c)
  · delta kernelRun0_B.sl.r_22 kernelRun0_B.sl.r_23 kernelRun0_B.sl.r_6 kernelRun0_B.sl.r_7 kernelRun0_B.sl.r_8
    rw [hlam, hg, e2, e1, hM]
    refine (headA1 _ _ _ _ _ _ _ _ _ _ _ _).trans (congrArg (outA _ _) ?_)
    exact diagA (cov_HA harg2 x0 1 _ rfl _) (fun d j => rd_keyA harg3 x1 t 1 _ ((k0_off19_eq i).trans (by rw [ht]; rfl)) _ d j) slope1_eq hw hp (fun j c => rd_val harg4 x2 t 1 _ ((k0_off20_eq i).trans (by rw [ht]; rfl)) _ j c)
  · delta kernelRun0_B.sl.r_33 kernelRun0_B.sl.r_34 kernelRun0_B.sl.r_24 kernelRun0_B.sl.r_25 kernelRun0_B.sl.r_9 kernelRun0_B.sl.r_10 kernelRun0_B.sl.r_11
    rw [hlam, hg, e2, e1, hM]
    refine (headA2 _ _ _ _ _ _ _ _ _ _ _ _).trans (congrArg (outA _ _) ?_)
    exact diagA (cov_HA harg2 x0 2 _ rfl _) (fun d j => rd_keyA harg3 x1 t 2 _ ((k0_off21_eq i).trans (by rw [ht]; rfl)) _ d j) slope2_eq hw hp (fun j c => rd_val harg4 x2 t 2 _ ((k0_off22_eq i).trans (by rw [ht]; rfl)) _ j c)
  · delta kernelRun0_B.sl.r_35 kernelRun0_B.sl.r_28 kernelRun0_B.sl.r_29 kernelRun0_B.sl.r_26 kernelRun0_B.sl.r_27 kernelRun0_B.sl.r_12 kernelRun0_B.sl.r_13 kernelRun0_B.sl.r_14
    rw [hlam, hg, e2, e1, hM]
    refine (headA3 _ _ _ _ _ _ _ _ _ _ _ _).trans (congrArg (outA _ _) ?_)
    exact diagA (cov_HA harg2 x0 3 _ rfl _) (fun d j => rd_keyA harg3 x1 t 3 _ ((k0_off23_eq i).trans (by rw [ht]; rfl)) _ d j) slope3_eq hw hp (fun j c => rd_val harg4 x2 t 3 _ ((k0_off24_eq i).trans (by rw [ht]; rfl)) _ j c)
  · delta kernelRun0_B.sl.r_50 kernelRun0_B.sl.r_51 kernelRun0_B.sl.r_36 kernelRun0_B.sl.r_37 kernelRun0_B.sl.r_38 kernelRun0_B.sl.r_48 kernelRun0_B.sl.r_49
    rw [e4, e3, hM]
    refine (headB0 _ _ _ _ _ _ _).trans (congrArg outB ?_)
    exact diagB (cov_HB harg5 x3 0 _ rfl _) (fun j d => rd_keyB harg6 x4 t 0 _ ((k0_off41_eq i).trans (by rw [ht]; rfl)) _ j d) (fun j c => rd_val harg7 x5 t 0 _ ((k0_off18_eq i).trans (by rw [ht]; rfl)) _ j c)
  · delta kernelRun0_B.sl.r_52 kernelRun0_B.sl.r_53 kernelRun0_B.sl.r_39 kernelRun0_B.sl.r_40 kernelRun0_B.sl.r_41
    rw [e4, e3, hM]
    refine (headB1 _ _ _ _ _ _ _).trans (congrArg outB ?_)
    exact diagB (cov_HB harg5 x3 1 _ rfl _) (fun j d => rd_keyB harg6 x4 t 1 _ ((k0_off42_eq i).trans (by rw [ht]; rfl)) _ j d) (fun j c => rd_val harg7 x5 t 1 _ ((k0_off20_eq i).trans (by rw [ht]; rfl)) _ j c)
  · delta kernelRun0_B.sl.r_54 kernelRun0_B.sl.r_55 kernelRun0_B.sl.r_42 kernelRun0_B.sl.r_43 kernelRun0_B.sl.r_44
    rw [e4, e3, hM]
    refine (headB2 _ _ _ _ _ _ _).trans (congrArg outB ?_)
    exact diagB (cov_HB harg5 x3 2 _ rfl _) (fun j d => rd_keyB harg6 x4 t 2 _ ((k0_off43_eq i).trans (by rw [ht]; rfl)) _ j d) (fun j c => rd_val harg7 x5 t 2 _ ((k0_off22_eq i).trans (by rw [ht]; rfl)) _ j c)
  · delta kernelRun0_B.sl.r_59 kernelRun0_B.sl.r_60 kernelRun0_B.sl.r_56 kernelRun0_B.sl.r_57 kernelRun0_B.sl.r_58 kernelRun0_B.sl.r_45 kernelRun0_B.sl.r_46 kernelRun0_B.sl.r_47
    rw [e4, e3, hM]
    refine (headB3 _ _ _ _ _ _ _).trans (congrArg outB ?_)
    exact diagB (cov_HB harg5 x3 3 _ rfl _) (fun j d => rd_keyB harg6 x4 t 3 _ ((k0_off44_eq i).trans (by rw [ht]; rfl)) _ j d) (fun j c => rd_val harg7 x5 t 3 _ ((k0_off24_eq i).trans (by rw [ht]; rfl)) _ j c)

end Cert.Proof.PI
-- ==== Proof.Carry.lean ====
/- From a grid point to the next: the mask stays in its scratch, and each point writes its block of results. -/
module

public import proofs.«01_k».proof.Proof.TileA
public import proofs.«01_k».proof.Proof.TileB
public import proofs.«01_k».proof.Proof.Gen.KernelIdeal.Value

@[expose] public section

set_option maxHeartbeats 400000

noncomputable section

namespace Cert.Proof.PI

open Idealize.ShloMosaic Idealize.ShloMosaic.TcCoe Idealize.ShloMosaic.Tactic Idealize.ShloMosaic.ValueIdx
open Cert.KernelIdeal Cert.KernelIdeal.Gen Cert.KernelIdeal.Value
open Idealize.SL Idealize.SL.Sem

variable (m : (ℓ : Loc nD τ sig) → Buf (Elt Ideal) ℓ)

/-- The block within its batch that a grid point computes. -/
theorem coords_one : ∀ t : Fin grid0.N, (grid0.coords t 1).val = t.val % 4 := by decide +kernel

/-- A point's block within its batch, as an index. -/
def sub (n : ℕ) : Fin 4 := ⟨n % 4, Nat.mod_lt _ (by decide)⟩

/-- At the first point of a batch the scratch is left holding the mask. -/
theorem soutA_eq (c : Dev nD) (i : grid0.Coords) (arg2 : Memref sig .tc .vmem S512x512 .bf16) (harg2 : arg2.IsWhole) (arg3 : Memref sig .tc .vmem S1x4x512x512 .bf16) (harg3 : arg3.IsWhole) (arg4 : Memref sig .tc .vmem S2048x512 .bf16) (harg4 : arg4.IsWhole) (arg5 : Memref sig .tc .vmem S512x1024 .bf16) (harg5 : arg5.IsWhole) (arg6 : Memref sig .tc .vmem S2048x1024 .bf16) (harg6 : arg6.IsWhole) (arg7 : Memref sig .tc .vmem S2048x512 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x128 .f32) (harg12 : arg12.IsWhole) (arg13 : Memref sig .tc .vmem S512x1024 .bf16) (harg13 : arg13.IsWhole) (arg14 : Memref sig .tc .vmem S4x1024x128 .bf16) (harg14 : arg14.IsWhole) (arg15 : Memref sig .tc .vmem S4x1024x256 .bf16) (harg15 : arg15.IsWhole) (arg16 : Memref sig .tc .vmem S1024x512 .f32) (harg16 : arg16.IsWhole) (hc0 : cond0_0 i)     (x0 : Vec Ideal S512x512 .bf16) (x1 : Vec Ideal S1x4x512x512 .bf16) (x2 : Vec Ideal S2048x512 .bf16) (x3 : Vec Ideal S512x1024 .bf16) (x4 : Vec Ideal S2048x1024 .bf16) (x5 : Vec Ideal S2048x512 .bf16) (x6 : Vec Ideal S1x64 .f32) (x7 : Vec Ideal S1x64 .f32) (x8 : Vec Ideal S1x64 .f32) (x9 : Vec Ideal S1x64 .f32) (x10 : Vec Ideal S1x128 .f32) (t : Fin 4) (ht : (i 1).val = t.val) :
    sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 = maskV := by
  have hm : k0_pay120 (F := Ideal) (BitVec.ofNat 32 (i 1).val) (kernelRun0_A.sl.v115 i) (kernelRun0_A.sl.v126 i) (kernelRun0_A.sl.v127 i) = maskV := by
    rw [ht]
    exact pay120_eq t _ _ _ ((v131_A i).trans (by rw [ht]))
  unfold sout0_A_2
  rw [View.read_writes_eq_canon VS0_2 _ _ (scover0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10)]
  unfold kernelRun0_A
  dsimp only
  delta kernelRun0_A.sl.HS2_1
  rw [hm]
  exact View.canon_unit_zero (funext fun a => by fin_cases a <;> rfl) _ _

/-- What every point leaves: its block of results, and the mask in the scratch. -/
theorem outsAt_eq (c : Dev nD) : ∀ (n : ℕ) (hn : n < cfg0.N),
    outsAt0 m c n hn = (blockOut (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) (iblk m c 10 ⟨n, hn⟩) (sub n), maskV) := by
  have hA : ∀ t : Fin cfg0.N, t.val % 4 = 0 → ∀ acc, stAt0 m c t.val t.isLt acc = (blockOut (iblk m c 0 t) (iblk m c 1 t) (iblk m c 2 t) (iblk m c 3 t) (iblk m c 4 t) (iblk m c 5 t) (iblk m c 6 t) (iblk m c 7 t) (iblk m c 8 t) (iblk m c 9 t) (iblk m c 10 t) (sub t.val), maskV) := by
    intro t h0 acc
    rw [stAt0_A m c t acc h0]
    rw [outA_eq _ _ _ _ _ _ _ _ _ _ _ _ _ _ _ _ _ _ _ _ _ _ _ _ _ _ _ _ _ _ _ _ _ _ _ _ _ _ _ _ _ _ _ _ (sub t.val) (coords_one t), soutA_eq _ _ _ _ _ _ _ _ _ _ _ _ _ _ _ _ _ _ _ _ _ _ _ _ _ _ _ _ _ _ _ _ _ _ _ _ _ _ _ _ _ _ _ _ (sub t.val) (coords_one t)]
  have hB : ∀ t : Fin cfg0.N, ¬ t.val % 4 = 0 → ∀ acc : Vec Ideal S512x1024 .bf16 × Vec Ideal S1024x512 .f32, acc.2 = maskV →
      stAt0 m c t.val t.isLt acc = (blockOut (iblk m c 0 t) (iblk m c 1 t) (iblk m c 2 t) (iblk m c 3 t) (iblk m c 4 t) (iblk m c 5 t) (iblk m c 6 t) (iblk m c 7 t) (iblk m c 8 t) (iblk m c 9 t) (iblk m c 10 t) (sub t.val), maskV) := by
    intro t h0 acc hacc
    rw [stAt0_B m c t acc h0]
    rw [outB_eq _ _ _ _ _ _ _ _ _ _ _ _ _ _ _ _ _ _ _ _ _ _ _ _ _ _ _ _ _ _ _ _ _ _ _ _ _ _ _ _ _ _ _ _ _ (sub t.val) (coords_one t) hacc]
    exact congrArg (Prod.mk _) hacc
  intro n
  induction n with
  | zero => intro hn; rw [outsAt0_zero]; exact hA ⟨0, hn⟩ rfl _
  | succ n ih =>
    intro hn
    rw [outsAt0_succ]
    by_cases h0 : (n + 1) % 4 = 0
    · exact hA ⟨n + 1, hn⟩ h0 _
    · exact hB ⟨n + 1, hn⟩ h0 _ (by rw [ih])

/-- The result array at an index: the block that holds it, at its place there. -/
theorem G11_apply (c : Dev nD) (t : Fin cfg0.N) (r : Fin 512) (l : Fin 1024) (i : S65536x1024.Idx)
    (h0 : (i 0).val = 512 * t.val + r.val) (h1 : (i 1).val = l.val) :
    Value.G11 m c i = blockOut (iblk m c 0 t) (iblk m c 1 t) (iblk m c 2 t) (iblk m c 3 t) (iblk m c 4 t) (iblk m c 5 t) (iblk m c 6 t) (iblk m c 7 t) (iblk m c 8 t) (iblk m c 9 t) (iblk m c 10 t) (sub t.val) (ix2 r l) := by
  have hp : Value.pt11Of i = t.val := by
    show 1 * ((i 0).val / 512 - 0) + 1 * ((i 1).val / 1024 - 0) = t.val
    omega
  have hl : Value.loc11Of i = ix2 r l := by
    funext a
    match a with
    | ⟨0, _⟩ => exact Fin.ext (by show (i 0).val % 512 = r.val; omega)
    | ⟨1, _⟩ => exact Fin.ext (by show (i 1).val % 1024 = l.val; omega)
  unfold Value.G11
  rw [dif_pos (by rw [hp]; exact t.isLt), hl]
  rw [Value.fold0_congr m c _ _ t.val (by omega) hp, ← Value.outsAt0_sweep m c t.val t.isLt, outsAt_eq m c t.val t.isLt]

end Cert.Proof.PI

end
-- ==== Proof.Blk.lean ====
/- The blocks a grid point reads, as parts of the arrays: its own queries, its batch's keys and values, the small
   parameters whole. -/
module

public import proofs.«01_k».proof.Proof.Carry

@[expose] public section

set_option maxHeartbeats 400000

noncomputable section

namespace Cert.Proof.PI

open Idealize.ShloMosaic Idealize.ShloMosaic.TcCoe Idealize.ShloMosaic.Tactic Idealize.ShloMosaic.ValueIdx
open Cert.KernelIdeal Cert.KernelIdeal.Gen Cert.KernelIdeal.Value
open Idealize.SL Idealize.SL.Sem

variable (m : (ℓ : Loc nD τ sig) → Buf (Elt Ideal) ℓ)

/-- There are 128 grid points, four to each of the 32 batches. -/
theorem lt_points (t : Fin cfg0.N) : t.val < 128 := t.isLt

/-- Row `r` of the block of 512 rows that point `t` computes. -/
def qrow (t : Fin cfg0.N) (r : Fin 512) : Fin 65536 := ⟨512 * t.val + r.val, by have := lt_points t; omega⟩
/-- Row `k` of the batch that point `t` belongs to. -/
def krow (t : Fin cfg0.N) (k : Fin 2048) : Fin 65536 := ⟨2048 * (t.val / 4) + k.val, by have := lt_points t; omega⟩
/-- The batch that point `t` belongs to. -/
def bat (t : Fin cfg0.N) : Fin 32 := ⟨t.val / 4, by have := lt_points t; omega⟩

/-- Where point `t` reads argument 0. -/
theorem at0 : ∀ t : Fin cfg0.N, win0_0.index t 0 = t.val ∧ win0_0.index t 1 = 0 := by decide +kernel

/-- The block of argument 0 that point `t` reads. -/
theorem blk0 (c : Dev nD) (t : Fin cfg0.N) (r : Fin 512) (l : Fin 512) :
    (iblk m c 0 t : Vec Ideal S512x512 .bf16) (ix2 r l) = (m ((c.tc : Thread nD τ).loc main_arg0) : Vec Ideal S65536x512 .bf16) (ix2 (qrow t r) l) := by
  have hi := at0 t
  unfold iblk
  rw [View.read_apply]
  show V m c main_arg0 _ = m (c.tc.loc main_arg0) _
  unfold V
  congr 1
  funext a
  apply Fin.ext
  match a with
  | ⟨0, _⟩ => show win0_0.index t 0 * 512 + 1 * r.val = 512 * t.val + r.val; rw [hi.1]; omega
  | ⟨1, _⟩ => show win0_0.index t 1 * 512 + 1 * l.val = l.val; rw [hi.2]; omega

/-- Where point `t` reads argument 1. -/
theorem at1 : ∀ t : Fin cfg0.N, win0_1.index t 0 = t.val / 4 ∧ win0_1.index t 1 = 0 ∧ win0_1.index t 2 = 0 ∧ win0_1.index t 3 = 0 := by decide +kernel

/-- The block of argument 1 that point `t` reads. -/
theorem blk1 (c : Dev nD) (t : Fin cfg0.N) (j : Fin 4) (l k : Fin 512) :
    (iblk m c 1 t : Vec Ideal S1x4x512x512 .bf16) (ix4 0 j l k) = (m ((c.tc : Thread nD τ).loc main_arg1) : Vec Ideal S32x4x512x512 .bf16) (ix4 (bat t) j l k) := by
  have hi := at1 t
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val / 4; rw [hi.1]; omega
  | ⟨1, _⟩ => show win0_1.index t 1 * 4 + 1 * j.val = j.val; rw [hi.2.1]; omega
  | ⟨2, _⟩ => show win0_1.index t 2 * 512 + 1 * l.val = l.val; rw [hi.2.2.1]; omega
  | ⟨3, _⟩ => show win0_1.index t 3 * 512 + 1 * k.val = k.val; rw [hi.2.2.2]; omega

/-- Where point `t` reads argument 2. -/
theorem at2 : ∀ t : Fin cfg0.N, win0_2.index t 0 = t.val / 4 ∧ win0_2.index t 1 = 0 := by decide +kernel

/-- The block of argument 2 that point `t` reads. -/
theorem blk2 (c : Dev nD) (t : Fin cfg0.N) (k : Fin 2048) (l : Fin 512) :
    (iblk m c 2 t : Vec Ideal S2048x512 .bf16) (ix2 k l) = (m ((c.tc : Thread nD τ).loc main_arg2) : Vec Ideal S65536x512 .bf16) (ix2 (krow t k) l) := by
  have hi := at2 t
  unfold iblk
  rw [View.read_apply]
  show V m c main_arg2 _ = m (c.tc.loc main_arg2) _
  unfold V
  congr 1
  funext a
  apply Fin.ext
  match a with
  | ⟨0, _⟩ => show win0_2.index t 0 * 2048 + 1 * k.val = 2048 * (t.val / 4) + k.val; rw [hi.1]; omega
  | ⟨1, _⟩ => show win0_2.index t 1 * 512 + 1 * l.val = l.val; rw [hi.2]; omega

/-- Where point `t` reads argument 3. -/
theorem at3 : ∀ t : Fin cfg0.N, win0_3.index t 0 = t.val ∧ win0_3.index t 1 = 0 := by decide +kernel

/-- The block of argument 3 that point `t` reads. -/
theorem blk3 (c : Dev nD) (t : Fin cfg0.N) (r : Fin 512) (l : Fin 1024) :
    (iblk m c 3 t : Vec Ideal S512x1024 .bf16) (ix2 r l) = (m ((c.tc : Thread nD τ).loc main_arg3) : Vec Ideal S65536x1024 .bf16) (ix2 (qrow t r) l) := by
  have hi := at3 t
  unfold iblk
  rw [View.read_apply]
  show V m c main_arg3 _ = m (c.tc.loc main_arg3) _
  unfold V
  congr 1
  funext a
  apply Fin.ext
  match a with
  | ⟨0, _⟩ => show win0_3.index t 0 * 512 + 1 * r.val = 512 * t.val + r.val; rw [hi.1]; omega
  | ⟨1, _⟩ => show win0_3.index t 1 * 1024 + 1 * l.val = l.val; rw [hi.2]; omega

/-- Where point `t` reads argument 4. -/
theorem at4 : ∀ t : Fin cfg0.N, win0_4.index t 0 = t.val / 4 ∧ win0_4.index t 1 = 0 := by decide +kernel

/-- The block of argument 4 that point `t` reads. -/
theorem blk4 (c : Dev nD) (t : Fin cfg0.N) (k : Fin 2048) (l : Fin 1024) :
    (iblk m c 4 t : Vec Ideal S2048x1024 .bf16) (ix2 k l) = (m ((c.tc : Thread nD τ).loc main_arg4) : Vec Ideal S65536x1024 .bf16) (ix2 (krow t k) l) := by
  have hi := at4 t
  unfold iblk
  rw [View.read_apply]
  show V m c main_arg4 _ = m (c.tc.loc main_arg4) _
  unfold V
  congr 1
  funext a
  apply Fin.ext
  match a with
  | ⟨0, _⟩ => show win0_4.index t 0 * 2048 + 1 * k.val = 2048 * (t.val / 4) + k.val; rw [hi.1]; omega
  | ⟨1, _⟩ => show win0_4.index t 1 * 1024 + 1 * l.val = l.val; rw [hi.2]; omega

/-- Where point `t` reads argument 5. -/
theorem at5 : ∀ t : Fin cfg0.N, win0_5.index t 0 = t.val / 4 ∧ win0_5.index t 1 = 0 := by decide +kernel

/-- The block of argument 5 that point `t` reads. -/
theorem blk5 (c : Dev nD) (t : Fin cfg0.N) (k : Fin 2048) (l : Fin 512) :
    (iblk m c 5 t : Vec Ideal S2048x512 .bf16) (ix2 k l) = (m ((c.tc : Thread nD τ).loc main_arg5) : Vec Ideal S65536x512 .bf16) (ix2 (krow t k) l) := by
  have hi := at5 t
  unfold iblk
  rw [View.read_apply]
  show V m c main_arg5 _ = m (c.tc.loc main_arg5) _
  unfold V
  congr 1
  funext a
  apply Fin.ext
  match a with
  | ⟨0, _⟩ => show win0_5.index t 0 * 2048 + 1 * k.val = 2048 * (t.val / 4) + k.val; rw [hi.1]; omega
  | ⟨1, _⟩ => show win0_5.index t 1 * 512 + 1 * l.val = l.val; rw [hi.2]; omega

/-- Where point `t` reads argument 6. -/
theorem at6 : ∀ t : Fin cfg0.N, win0_6.index t 0 = 0 ∧ win0_6.index t 1 = 0 := by decide +kernel

/-- The block of argument 6 that point `t` reads. -/
theorem blk6 (c : Dev nD) (t : Fin cfg0.N) (z : Fin 1) (l : Fin 64) :
    (iblk m c 6 t : Vec Ideal S1x64 .f32) (ix2 z l) = (m ((c.tc : Thread nD τ).loc main_arg6) : Vec Ideal S1x64 .f32) (ix2 z l) := by
  have hi := at6 t
  unfold iblk
  rw [View.read_apply]
  show V m c main_arg6 _ = m (c.tc.loc main_arg6) _
  unfold V
  congr 1
  funext a
  apply Fin.ext
  match a with
  | ⟨0, _⟩ => show win0_6.index t 0 * 1 + 1 * z.val = z.val; rw [hi.1]; omega
  | ⟨1, _⟩ => show win0_6.index t 1 * 64 + 1 * l.val = l.val; rw [hi.2]; omega

/-- Where point `t` reads argument 7. -/
theorem at7 : ∀ t : Fin cfg0.N, win0_7.index t 0 = 0 ∧ win0_7.index t 1 = 0 := by decide +kernel

/-- The block of argument 7 that point `t` reads. -/
theorem blk7 (c : Dev nD) (t : Fin cfg0.N) (z : Fin 1) (l : Fin 64) :
    (iblk m c 7 t : Vec Ideal S1x64 .f32) (ix2 z l) = (m ((c.tc : Thread nD τ).loc main_arg7) : Vec Ideal S1x64 .f32) (ix2 z l) := by
  have hi := at7 t
  unfold iblk
  rw [View.read_apply]
  show V m c main_arg7 _ = m (c.tc.loc main_arg7) _
  unfold V
  congr 1
  funext a
  apply Fin.ext
  match a with
  | ⟨0, _⟩ => show win0_7.index t 0 * 1 + 1 * z.val = z.val; rw [hi.1]; omega
  | ⟨1, _⟩ => show win0_7.index t 1 * 64 + 1 * l.val = l.val; rw [hi.2]; omega

/-- Where point `t` reads argument 8. -/
theorem at8 : ∀ t : Fin cfg0.N, win0_8.index t 0 = 0 ∧ win0_8.index t 1 = 0 := by decide +kernel

/-- The block of argument 8 that point `t` reads. -/
theorem blk8 (c : Dev nD) (t : Fin cfg0.N) (z : Fin 1) (l : Fin 64) :
    (iblk m c 8 t : Vec Ideal S1x64 .f32) (ix2 z l) = (m ((c.tc : Thread nD τ).loc main_arg8) : Vec Ideal S1x64 .f32) (ix2 z l) := by
  have hi := at8 t
  unfold iblk
  rw [View.read_apply]
  show V m c main_arg8 _ = m (c.tc.loc main_arg8) _
  unfold V
  congr 1
  funext a
  apply Fin.ext
  match a with
  | ⟨0, _⟩ => show win0_8.index t 0 * 1 + 1 * z.val = z.val; rw [hi.1]; omega
  | ⟨1, _⟩ => show win0_8.index t 1 * 64 + 1 * l.val = l.val; rw [hi.2]; omega

/-- Where point `t` reads argument 9. -/
theorem at9 : ∀ t : Fin cfg0.N, win0_9.index t 0 = 0 ∧ win0_9.index t 1 = 0 := by decide +kernel

/-- The block of argument 9 that point `t` reads. -/
theorem blk9 (c : Dev nD) (t : Fin cfg0.N) (z : Fin 1) (l : Fin 64) :
    (iblk m c 9 t : Vec Ideal S1x64 .f32) (ix2 z l) = (m ((c.tc : Thread nD τ).loc main_arg9) : Vec Ideal S1x64 .f32) (ix2 z l) := by
  have hi := at9 t
  unfold iblk
  rw [View.read_apply]
  show V m c main_arg9 _ = m (c.tc.loc main_arg9) _
  unfold V
  congr 1
  funext a
  apply Fin.ext
  match a with
  | ⟨0, _⟩ => show win0_9.index t 0 * 1 + 1 * z.val = z.val; rw [hi.1]; omega
  | ⟨1, _⟩ => show win0_9.index t 1 * 64 + 1 * l.val = l.val; rw [hi.2]; omega

/-- Where point `t` reads argument 10. -/
theorem at10 : ∀ t : Fin cfg0.N, win0_10.index t 0 = 0 ∧ win0_10.index t 1 = 0 := by decide +kernel

/-- The block of argument 10 that point `t` reads. -/
theorem blk10 (c : Dev nD) (t : Fin cfg0.N) (z : Fin 1) (l : Fin 128) :
    (iblk m c 10 t : Vec Ideal S1x128 .f32) (ix2 z l) = (m ((c.tc : Thread nD τ).loc main_arg10) : Vec Ideal S1x128 .f32) (ix2 z l) := by
  have hi := at10 t
  unfold iblk
  rw [View.read_apply]
  show V m c main_arg10 _ = m (c.tc.loc main_arg10) _
  unfold V
  congr 1
  funext a
  apply Fin.ext
  match a with
  | ⟨0, _⟩ => show win0_10.index t 0 * 1 + 1 * z.val = z.val; rw [hi.1]; omega
  | ⟨1, _⟩ => show win0_10.index t 1 * 128 + 1 * l.val = l.val; rw [hi.2]; omega

end Cert.Proof.PI

end
-- ==== Proof.RefBase.lean ====
/- The parts of the reference every head shares: which keys a query sees, how far they are, the slopes, and a row's
   maximum. -/
module

public import proofs.«01_k».proof.Proof.Spec
public import proofs.«01_k».proof.Proof.Gen.ReferenceIdeal.Read
public import Idealize.ShloMosaic.Lib.WordCmp

@[expose] public section

noncomputable section

namespace Cert.Proof.RI

open Idealize.ShloMosaic Idealize.ShloMosaic.ValueIdx
open Cert.ReferenceIdeal Cert.ReferenceIdeal.Gen Cert.ReferenceIdeal.Read
open Cert.Proof.Softmax Cert.Proof.Spec

/-- A query sees the keys up to its own place. -/
theorem vis_at (j : S2048x2048.Idx) : val_main_v11 (F := Ideal) j = if (j 1).val ≤ (j 0).val then 1#1 else 0#1 := by
  have h0 : (j 0).val < 2048 := (j 0).isLt
  have h1 : (j 1).val < 2048 := (j 1).isLt
  rw [val_main_v11_apply, val_main_v9_apply, val_main_v7_apply, val_main_v10_apply, val_main_v8_apply, val_main_v0_apply, val_main_v0_apply]
  show IntOp.cmpi .sge (BitVec.ofNat 32 (j 0).val) (BitVec.ofNat 32 (j 1).val) = _
  rw [WordCmp.cmpi_sge_ofNat (by omega) (by omega)]
  split_ifs with h <;> simp [h]

/-- The distance from a key to the query. -/
theorem dist_at (j : S2048x2048.Idx) :
    val_main_v6 (F := Ideal) j = (((((j 0).val : ℤ) - ((j 1).val : ℤ) : ℤ) : ℝ) : EReal) := by
  have h0 : (j 0).val < 2048 := (j 0).isLt
  have h1 : (j 1).val < 2048 := (j 1).isLt
  rw [val_main_v6_apply, val_main_v5_apply, val_main_v3_apply, val_main_v1_apply, val_main_v4_apply, val_main_v2_apply, val_main_v0_apply, val_main_v0_apply]
  show ((((BitVec.ofNat 32 (j 0).val - BitVec.ofNat 32 (j 1).val).toInt : ℤ) : ℝ) : EReal) = _
  have e : (BitVec.ofNat 32 (j 0).val - BitVec.ofNat 32 (j 1).val).toInt = ((j 0).val : ℤ) - ((j 1).val : ℤ) := by
    have ht : ∀ n : ℕ, n < 2048 → (BitVec.ofNat 32 n).toInt = n := fun n hn => by
      rw [BitVec.toInt_eq_toNat_of_lt (by rw [BitVec.toNat_ofNat]; omega), BitVec.toNat_ofNat, Nat.mod_eq_of_lt (by omega)]
    rw [BitVec.toInt_sub, ht _ h0, ht _ h1]
    simp only [Int.bmod_def]
    omega
  rw [e]

/-- The logarithm of two. -/
theorem log2_at (i : S_.Idx) : val_main_v12 (F := Ideal) i = ((Real.log 2 : ℝ) : EReal) := by
  rw [val_main_v12_apply, val_main_cst_apply]
  show Ideal.log (Ideal.ofBits .f32 0x40000000#32) = _
  have e : Ideal.ofBits .f32 0x40000000#32 = ((2 : ℝ) : EReal) := by
    simp [Ideal.ofBits, Ideal.ieee, -EReal.coe_mul]; norm_num
  rw [e]
  show (if (2 : ℝ) ≤ 0 then (⊥ : EReal) else ((Real.log 2 : ℝ) : EReal)) = _
  rw [if_neg (by norm_num)]

/-- The slope of a head: a power of two. -/
theorem slope_at (i : S4.Idx) : val_main_v27 (F := Ideal) i = ((1 / 4 ^ ((i 0).val + 1) : ℝ) : EReal) := by
  rw [val_main_v27_apply, val_main_v26_apply, val_main_v25_apply, val_main_v24_apply, val_main_v23_apply, val_main_v22_apply,
    val_main_v21_apply, val_main_v20_apply, val_main_c_apply, val_main_cst_1_apply, val_main_cst_0_apply]
  show Ideal.pow (Ideal.ofBits .f32 0x40000000#32) (Ideal.ofBits .f32 0xC0000000#32
    * ((((BitVec.ofNat 32 (i 0).val + 1#32).toInt : ℤ) : ℝ) : EReal)) = _
  have e : Ideal.ofBits .f32 0x40000000#32 = ((2 : ℝ) : EReal) := by
    simp [Ideal.ofBits, Ideal.ieee, -EReal.coe_mul]; norm_num
  have e' : Ideal.ofBits .f32 0xC0000000#32 = ((-2 : ℝ) : EReal) := by
    simp [Ideal.ofBits, Ideal.ieee, -EReal.coe_mul]; norm_num
  have hi : (BitVec.ofNat 32 (i 0).val + 1#32).toInt = ((i 0).val : ℤ) + 1 := by
    have h : ∀ n : Fin 4, (BitVec.ofNat 32 n.val + 1#32).toInt = (n.val : ℤ) + 1 := by decide
    exact h (i 0)
  rw [e, e', hi, ← EReal.coe_mul]
  show ((Real.rpow 2 (-2 * (((((i 0).val : ℤ) + 1 : ℤ)) : ℝ)) : ℝ) : EReal) = _
  congr 1
  show (2 : ℝ) ^ (-2 * (((((i 0).val : ℤ) + 1 : ℤ)) : ℝ)) = _
  rw [Real.rpow_mul (by norm_num)]
  have : ((((i 0).val : ℤ) + 1 : ℤ) : ℝ) = (((i 0).val + 1 : ℕ) : ℝ) := by push_cast; ring
  rw [this, Real.rpow_natCast]
  have h2 : (2 : ℝ) ^ (-2 : ℝ) = 1 / 4 := by
    rw [Real.rpow_neg (by norm_num)]; norm_num
  rw [h2, div_pow, one_pow]

/-- A row's maximum, four differential heads. -/
theorem max4 (y : FVec Ideal S32x4x2048x2048 .f32) (z : FVec Ideal S_ .f32) (hz : z (Shape.Idx.first h_S_) = ⊥)
    (b : Fin 32) (h : Fin 4) (q : Fin 2048) (s : ℕ → EReal) (hs : ∀ k : Fin 2048, y (ix4 b h q k) = s k) :
    Host.reduce FloatOps.maximumf y z reducesTo_S32x4x2048x2048_S32x4x2048_d3 h_S_ (ix3 b h q) = mx s 2048 := by
  have hr : S32x4x2048x2048.Reduces [3] S32x4x2048 := by decide
  rw [Host.reduce_eq_fold_single (FloatOps.maximumf (F := Ideal) (φ := .f32)) y z _ hr h_S_, hz, ← sup_eq_mx]
  show (Finset.univ : Finset (Fin 2048)).fold max ⊥ (y ∘ hr.lift (ix3 b h q)) = _
  have hf : (y ∘ hr.lift (ix3 b h q) : Fin 2048 → EReal) = fun k : Fin 2048 => s k := by
    funext k
    refine Eq.trans (congrArg y ?_) (hs k)
    funext a
    match a with
    | ⟨0, _⟩ => rfl
    | ⟨1, _⟩ => rfl
    | ⟨2, _⟩ => rfl
    | ⟨3, _⟩ => rfl
  exact congrArg (fun f : Fin 2048 → EReal => Finset.fold max ⊥ f (Finset.univ : Finset (Fin 2048))) hf

/-- A row's maximum, eight latent heads. -/
theorem max8 (y : FVec Ideal S32x8x2048x2048 .f32) (z : FVec Ideal S_ .f32) (hz : z (Shape.Idx.first h_S_) = ⊥)
    (b : Fin 32) (h : Fin 8) (q : Fin 2048) (s : ℕ → EReal) (hs : ∀ k : Fin 2048, y (ix4 b h q k) = s k) :
    Host.reduce FloatOps.maximumf y z reducesTo_S32x8x2048x2048_S32x8x2048_d3 h_S_ (ix3 b h q) = mx s 2048 := by
  have hr : S32x8x2048x2048.Reduces [3] S32x8x2048 := by decide
  rw [Host.reduce_eq_fold_single (FloatOps.maximumf (F := Ideal) (φ := .f32)) y z _ hr h_S_, hz, ← sup_eq_mx]
  show (Finset.univ : Finset (Fin 2048)).fold max ⊥ (y ∘ hr.lift (ix3 b h q)) = _
  have hf : (y ∘ hr.lift (ix3 b h q) : Fin 2048 → EReal) = fun k : Fin 2048 => s k := by
    funext k
    refine Eq.trans (congrArg y ?_) (hs k)
    funext a
    match a with
    | ⟨0, _⟩ => rfl
    | ⟨1, _⟩ => rfl
    | ⟨2, _⟩ => rfl
    | ⟨3, _⟩ => rfl
  exact congrArg (fun f : Fin 2048 → EReal => Finset.fold max ⊥ f (Finset.univ : Finset (Fin 2048))) hf

end Cert.Proof.RI

end
-- ==== Proof.RefIn.lean ====
/- The reference's queries, keys and values at an index of their arrays. -/
module

public import proofs.«01_k».proof.Proof.RefBase

@[expose] public section

set_option maxHeartbeats 400000

noncomputable section

namespace Cert.Proof.RI

open Idealize.ShloMosaic Idealize.ShloMosaic.ValueIdx
open Cert.ReferenceIdeal Cert.ReferenceIdeal.Gen Cert.ReferenceIdeal.Read
open Cert.Proof.Softmax Cert.Proof.Spec Cert.Proof.PI

/-- The differential queries. -/
theorem q5_at (x0 : Rows512) (b : Fin 32) (q : Fin 2048) (h : Fin 4) (mm : Fin 2) (d : Fin 64) :
    val_main_v14 (F := Ideal) x0 (ix5 b q h mm d) = x0 (ix2 (brow b q) (laneM h mm d)) := by
  rw [val_main_v14_apply, val_main_v13_apply]
  refine congrArg x0 (funext fun a => ?_)
  match a with
  | ⟨0, _⟩ => exact Fin.ext (by show ((((b.val * 2048 + q.val) * 4 + h.val) * 2 + mm.val) * 64 + d.val) / 512 = 2048 * b.val + q.val; omega)
  | ⟨1, _⟩ => exact Fin.ext (by show ((((b.val * 2048 + q.val) * 4 + h.val) * 2 + mm.val) * 64 + d.val) % 512 = 128 * h.val + 64 * mm.val + d.val; omega)

/-- The differential keys. -/
theorem k5_at (x1 : Keys) (b : Fin 32) (q : Fin 2048) (h : Fin 4) (mm : Fin 2) (d : Fin 64) :
    val_main_v17 (F := Ideal) x1 (ix5 b q h mm d) = x1 (ix4 b (kblk q) (laneM h mm d) (kin q)) := by
  rw [val_main_v17_apply, val_main_v16_apply, val_main_v15_apply]
  refine congrArg x1 (funext fun a => ?_)
  match a with
  | ⟨0, _⟩ => exact Fin.ext (by show ((((b.val * 2048 + q.val) * 4 + h.val) * 2 + mm.val) * 64 + d.val) / 1048576 = b.val; omega)
  | ⟨1, _⟩ => exact Fin.ext (by show ((((b.val * 2048 + q.val) * 4 + h.val) * 2 + mm.val) * 64 + d.val) / 262144 % 4 = q.val / 512 % 4; omega)
  | ⟨2, _⟩ => exact Fin.ext (by show ((((b.val * 2048 + q.val) * 4 + h.val) * 2 + mm.val) * 64 + d.val) % 512 = 128 * h.val + 64 * mm.val + d.val; omega)
  | ⟨3, _⟩ => exact Fin.ext (by show ((((b.val * 2048 + q.val) * 4 + h.val) * 2 + mm.val) * 64 + d.val) / 512 % 512 = q.val % 512; omega)

/-- A key's place read back from its number. -/
theorem kall_val (k : Fin 2048) : kall k.val = k := Fin.ext (by show k.val % 2048 = k.val; omega)

/-- The differential values. -/
theorem v4_at (x2 : Rows512) (b : Fin 32) (k : Fin 2048) (h : Fin 4) (c : Fin 128) :
    val_main_v19 (F := Ideal) x2 (ix4 b k h c) = valA x2 b h c k := by
  rw [val_main_v19_apply, val_main_v18_apply]
  unfold valA
  rw [kall_val]
  refine congrArg x2 (funext fun a => ?_)
  match a with
  | ⟨0, _⟩ => exact Fin.ext (by show (((b.val * 2048 + k.val) * 4 + h.val) * 128 + c.val) / 512 = 2048 * b.val + k.val; omega)
  | ⟨1, _⟩ => exact Fin.ext (by show (((b.val * 2048 + k.val) * 4 + h.val) * 128 + c.val) % 512 = 128 * h.val + c.val; omega)

/-- The latent queries. -/
theorem qL_at (x3 : Rows1024) (b : Fin 32) (q : Fin 2048) (h : Fin 8) (d : Fin 128) :
    val_main_v111 (F := Ideal) x3 (ix4 b q h d) = x3 (ix2 (brow b q) (laneQ h d)) := by
  rw [val_main_v111_apply, val_main_v110_apply]
  refine congrArg x3 (funext fun a => ?_)
  match a with
  | ⟨0, _⟩ => exact Fin.ext (by show (((b.val * 2048 + q.val) * 8 + h.val) * 128 + d.val) / 1024 = 2048 * b.val + q.val; omega)
  | ⟨1, _⟩ => exact Fin.ext (by show (((b.val * 2048 + q.val) * 8 + h.val) * 128 + d.val) % 1024 = 128 * h.val + d.val; omega)

/-- The latent keys. -/
theorem kL_at (x4 : Rows1024) (b : Fin 32) (q : Fin 2048) (h : Fin 8) (d : Fin 128) :
    val_main_v113 (F := Ideal) x4 (ix4 b q h d) = x4 (ix2 (brow b q) (laneQ h d)) := by
  rw [val_main_v113_apply, val_main_v112_apply]
  refine congrArg x4 (funext fun a => ?_)
  match a with
  | ⟨0, _⟩ => exact Fin.ext (by show (((b.val * 2048 + q.val) * 8 + h.val) * 128 + d.val) / 1024 = 2048 * b.val + q.val; omega)
  | ⟨1, _⟩ => exact Fin.ext (by show (((b.val * 2048 + q.val) * 8 + h.val) * 128 + d.val) % 1024 = 128 * h.val + d.val; omega)

/-- The latent values. -/
theorem vL_at (x5 : Rows512) (b : Fin 32) (k : Fin 2048) (h : Fin 8) (c : Fin 64) :
    val_main_v115 (F := Ideal) x5 (ix4 b k h c) = valB x5 b h c k := by
  rw [val_main_v115_apply, val_main_v114_apply]
  unfold valB
  rw [kall_val]
  refine congrArg x5 (funext fun a => ?_)
  match a with
  | ⟨0, _⟩ => exact Fin.ext (by show (((b.val * 2048 + k.val) * 8 + h.val) * 64 + c.val) / 512 = 2048 * b.val + k.val; omega)
  | ⟨1, _⟩ => exact Fin.ext (by show (((b.val * 2048 + k.val) * 8 + h.val) * 64 + c.val) % 512 = 64 * h.val + c.val; omega)

end Cert.Proof.RI

end
-- ==== Proof.RefA0.lean ====
/- The reference's first map of a differential head, entry by entry. -/
module

public import proofs.«01_k».proof.Proof.RefIn

@[expose] public section

set_option maxHeartbeats 400000

noncomputable section

namespace Cert.Proof.RI

open Idealize.ShloMosaic Idealize.ShloMosaic.ValueIdx
open Cert.ReferenceIdeal Cert.ReferenceIdeal.Gen Cert.ReferenceIdeal.Read
open Cert.Proof.Softmax Cert.Proof.Spec Cert.Proof.PI

/-- The queries, first map of a differential head. -/
theorem qA0 (x0 : Rows512) (b : Fin 32) (q : Fin 2048) (h : Fin 4) (d : Fin 64) :
    val_main_v34 (F := Ideal) x0 (ix4 b q h d) = x0 (ix2 (brow b q) (laneM h 0 d)) := by
  have e : idx_main_v34 (ix4 b q h d) = ix5 b q h 0 d := funext fun a => match a with
    | ⟨0, _⟩ => Fin.ext (by show (((b.val * 2048 + q.val) * 4 + h.val) * 64 + d.val) / 524288 = b.val; omega)
    | ⟨1, _⟩ => Fin.ext (by show (((b.val * 2048 + q.val) * 4 + h.val) * 64 + d.val) / 256 % 2048 = q.val; omega)
    | ⟨2, _⟩ => Fin.ext (by show (((b.val * 2048 + q.val) * 4 + h.val) * 64 + d.val) / 64 % 4 = h.val; omega)
    | ⟨3, _⟩ => rfl
    | ⟨4, _⟩ => Fin.ext (by show (((b.val * 2048 + q.val) * 4 + h.val) * 64 + d.val) % 64 = d.val; omega)
  have e' : idx_main_v33 (ix5 b q h 0 d) = ix5 b q h 0 d := funext fun a => match a with
    | ⟨0, _⟩ => rfl
    | ⟨1, _⟩ => rfl
    | ⟨2, _⟩ => rfl
    | ⟨3, _⟩ => rfl
    | ⟨4, _⟩ => rfl
  rw [val_main_v34_apply, val_main_v33_apply, e, e', q5_at]

/-- The keys, first map of a differential head. -/
theorem kA0 (x1 : Keys) (b : Fin 32) (q : Fin 2048) (h : Fin 4) (d : Fin 64) :
    val_main_v36 (F := Ideal) x1 (ix4 b q h d) = x1 (ix4 b (kblk q) (laneM h 0 d) (kin q)) := by
  have e : idx_main_v36 (ix4 b q h d) = ix5 b q h 0 d := funext fun a => match a with
    | ⟨0, _⟩ => Fin.ext (by show (((b.val * 2048 + q.val) * 4 + h.val) * 64 + d.val) / 524288 = b.val; omega)
    | ⟨1, _⟩ => Fin.ext (by show (((b.val * 2048 + q.val) * 4 + h.val) * 64 + d.val) / 256 % 2048 = q.val; omega)
    | ⟨2, _⟩ => Fin.ext (by show (((b.val * 2048 + q.val) * 4 + h.val) * 64 + d.val) / 64 % 4 = h.val; omega)
    | ⟨3, _⟩ => rfl
    | ⟨4, _⟩ => Fin.ext (by show (((b.val * 2048 + q.val) * 4 + h.val) * 64 + d.val) % 64 = d.val; omega)
  have e' : idx_main_v35 (ix5 b q h 0 d) = ix5 b q h 0 d := funext fun a => match a with
    | ⟨0, _⟩ => rfl
    | ⟨1, _⟩ => rfl
    | ⟨2, _⟩ => rfl
    | ⟨3, _⟩ => rfl
    | ⟨4, _⟩ => rfl
  rw [val_main_v36_apply, val_main_v35_apply, e, e', k5_at]

/-- The scores, first map of a differential head. -/
theorem rawA0 (x0 : Rows512) (x1 : Keys) (b : Fin 32) (h : Fin 4) (q k : Fin 2048) :
    val_main_v42 (F := Ideal) x0 x1 (ix4 b h q k) = scoreA x0 x1 b h 0 q k := by
  have hd : val_main_v37 (F := Ideal) x0 x1 (ix4 b h q k) = dotA x0 x1 b h 0 q k := by
    rw [val_main_v37_apply]
    refine Finset.sum_congr rfl fun d _ => ?_
    rw [← qA0 x0 b q h d, ← kA0 x1 b k h d]
    refine congrArg₂ (· * ·) (congrArg _ (funext fun a => ?_)) (congrArg _ (funext fun a => ?_))
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
      | ⟨3, _⟩ => rfl
  rw [val_main_v42_apply, val_main_v39_apply, hd, val_main_v38_apply, log2_at, val_main_v41_apply, val_main_v40_apply,
    val_main_v32_apply, val_main_v30_apply, val_main_v28_apply, slope_at, val_main_v31_apply, val_main_v29_apply, dist_at]
  rfl

/-- The scores with the later keys hidden, first map of a differential head. -/
theorem hidA0 (x0 : Rows512) (x1 : Keys) (b : Fin 32) (h : Fin 4) (q k : Fin 2048) :
    val_main_v43 (F := Ideal) x0 x1 (ix4 b h q k) = hide q (scoreA x0 x1 b h 0 q) k := by
  rw [val_main_v43_apply, val_main_call0_v1_apply, vis_at, val_main_call0_v2_apply, rawA0]
  show Scalar.select (if k.val ≤ q.val then 1#1 else 0#1) _ _ = if k.val ≤ q.val then _ else _
  split_ifs
  · rfl
  · exact PI.ofBits_negInf

/-- Their maximum, first map of a differential head. -/
theorem maxA0 (x0 : Rows512) (x1 : Keys) (b : Fin 32) (h : Fin 4) (q : Fin 2048) :
    val_main_v44 (F := Ideal) x0 x1 (ix3 b h q) = mx (hide q (scoreA x0 x1 b h 0 q)) 2048 := by
  unfold val_main_v44
  exact max4 _ _ PI.ofBits_negInf b h q _ (hidA0 x0 x1 b h q)

/-- The weights, first map of a differential head. -/
theorem wgtA0 (x0 : Rows512) (x1 : Keys) (b : Fin 32) (h : Fin 4) (q k : Fin 2048) :
    val_main_v49 (F := Ideal) x0 x1 (ix4 b h q k)
      = if k.val ≤ q.val then Ideal.exp (hide q (scoreA x0 x1 b h 0 q) k - mx (hide q (scoreA x0 x1 b h 0 q)) 2048) else 0 := by
  have hm : val_main_v46 (F := Ideal) x0 x1 (ix4 b h q k) = mx (hide q (scoreA x0 x1 b h 0 q)) 2048 := by
    rw [val_main_v46_apply, val_main_v45_apply, ← maxA0]
    refine congrArg _ (funext fun a => ?_)
    match a with
    | ⟨0, _⟩ => rfl
    | ⟨1, _⟩ => rfl
    | ⟨2, _⟩ => rfl
  rw [val_main_v49_apply, val_main_call1_v1_apply, vis_at, val_main_call1_v2_apply, val_main_v48_apply,
    val_main_v47_apply, hidA0, hm]
  show Scalar.select (if k.val ≤ q.val then 1#1 else 0#1) _ _ = if k.val ≤ q.val then _ else _
  split_ifs
  · rfl
  · exact Ideal.ofBits_zero_f32

/-- The values averaged by the weights, first map of a differential head. -/
theorem attA0 (x0 : Rows512) (x1 : Keys) (x2 : Rows512) (b : Fin 32) (h : Fin 4) (q : Fin 2048) (c : Fin 128) :
    val_main_v56 (F := Ideal) x0 x1 x2 (ix4 b h q c) = mapA x0 x1 x2 b h 0 q c := by
  have hnum : val_main_v52 (F := Ideal) x0 x1 x2 (ix4 b h q c)
      = ∑ k : Fin 2048, (if k.val ≤ q.val then Ideal.exp (hide q (scoreA x0 x1 b h 0 q) k - mx (hide q (scoreA x0 x1 b h 0 q)) 2048) else 0) * valA x2 b h c k := by
    rw [val_main_v52_apply]
    refine Finset.sum_congr rfl fun k _ => ?_
    rw [val_main_v51_apply, val_main_v50_apply, ← wgtA0, ← v4_at x2 b k h c]
    refine congrArg₂ (· * ·) (congrArg (val_main_v49 (F := Ideal) x0 x1) (funext fun a => ?_)) (congrArg _ (funext fun a => ?_))
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
      | ⟨3, _⟩ => rfl
  have hden : val_main_v55 (F := Ideal) x0 x1 (ix4 b h q c)
      = ∑ k : Fin 2048, if k.val ≤ q.val then Ideal.exp (hide q (scoreA x0 x1 b h 0 q) k - mx (hide q (scoreA x0 x1 b h 0 q)) 2048) else 0 := by
    rw [val_main_v55_apply, val_main_v54_apply, val_main_v53_apply]
    refine (congrArg (· + _) (Ideal.ofBits_zero_f32)).trans ((zero_add _).trans (Finset.sum_congr rfl fun k _ => ?_))
    rw [← wgtA0]
    refine congrArg _ (funext fun a => ?_)
    match a with
    | ⟨0, _⟩ => rfl
    | ⟨1, _⟩ => rfl
    | ⟨2, _⟩ => rfl
    | ⟨3, _⟩ => rfl
  rw [val_main_v56_apply, hnum, hden]
  rfl

end Cert.Proof.RI

end
-- ==== Proof.RefA1.lean ====
/- The reference's second map of a differential head, entry by entry. -/
module

public import proofs.«01_k».proof.Proof.RefA0

@[expose] public section

set_option maxHeartbeats 400000

noncomputable section

namespace Cert.Proof.RI

open Idealize.ShloMosaic Idealize.ShloMosaic.ValueIdx
open Cert.ReferenceIdeal Cert.ReferenceIdeal.Gen Cert.ReferenceIdeal.Read
open Cert.Proof.Softmax Cert.Proof.Spec Cert.Proof.PI

/-- The queries, second map of a differential head. -/
theorem qA1 (x0 : Rows512) (b : Fin 32) (q : Fin 2048) (h : Fin 4) (d : Fin 64) :
    val_main_v58 (F := Ideal) x0 (ix4 b q h d) = x0 (ix2 (brow b q) (laneM h 1 d)) := by
  have e : idx_main_v58 (ix4 b q h d) = ix5 b q h 0 d := funext fun a => match a with
    | ⟨0, _⟩ => Fin.ext (by show (((b.val * 2048 + q.val) * 4 + h.val) * 64 + d.val) / 524288 = b.val; omega)
    | ⟨1, _⟩ => Fin.ext (by show (((b.val * 2048 + q.val) * 4 + h.val) * 64 + d.val) / 256 % 2048 = q.val; omega)
    | ⟨2, _⟩ => Fin.ext (by show (((b.val * 2048 + q.val) * 4 + h.val) * 64 + d.val) / 64 % 4 = h.val; omega)
    | ⟨3, _⟩ => rfl
    | ⟨4, _⟩ => Fin.ext (by show (((b.val * 2048 + q.val) * 4 + h.val) * 64 + d.val) % 64 = d.val; omega)
  have e' : idx_main_v57 (ix5 b q h 0 d) = ix5 b q h 1 d := funext fun a => match a with
    | ⟨0, _⟩ => rfl
    | ⟨1, _⟩ => rfl
    | ⟨2, _⟩ => rfl
    | ⟨3, _⟩ => rfl
    | ⟨4, _⟩ => rfl
  rw [val_main_v58_apply, val_main_v57_apply, e, e', q5_at]

/-- The keys, second map of a differential head. -/
theorem kA1 (x1 : Keys) (b : Fin 32) (q : Fin 2048) (h : Fin 4) (d : Fin 64) :
    val_main_v60 (F := Ideal) x1 (ix4 b q h d) = x1 (ix4 b (kblk q) (laneM h 1 d) (kin q)) := by
  have e : idx_main_v60 (ix4 b q h d) = ix5 b q h 0 d := funext fun a => match a with
    | ⟨0, _⟩ => Fin.ext (by show (((b.val * 2048 + q.val) * 4 + h.val) * 64 + d.val) / 524288 = b.val; omega)
    | ⟨1, _⟩ => Fin.ext (by show (((b.val * 2048 + q.val) * 4 + h.val) * 64 + d.val) / 256 % 2048 = q.val; omega)
    | ⟨2, _⟩ => Fin.ext (by show (((b.val * 2048 + q.val) * 4 + h.val) * 64 + d.val) / 64 % 4 = h.val; omega)
    | ⟨3, _⟩ => rfl
    | ⟨4, _⟩ => Fin.ext (by show (((b.val * 2048 + q.val) * 4 + h.val) * 64 + d.val) % 64 = d.val; omega)
  have e' : idx_main_v59 (ix5 b q h 0 d) = ix5 b q h 1 d := funext fun a => match a with
    | ⟨0, _⟩ => rfl
    | ⟨1, _⟩ => rfl
    | ⟨2, _⟩ => rfl
    | ⟨3, _⟩ => rfl
    | ⟨4, _⟩ => rfl
  rw [val_main_v60_apply, val_main_v59_apply, e, e', k5_at]

/-- The scores, second map of a differential head. -/
theorem rawA1 (x0 : Rows512) (x1 : Keys) (b : Fin 32) (h : Fin 4) (q k : Fin 2048) :
    val_main_v66 (F := Ideal) x0 x1 (ix4 b h q k) = scoreA x0 x1 b h 1 q k := by
  have hd : val_main_v61 (F := Ideal) x0 x1 (ix4 b h q k) = dotA x0 x1 b h 1 q k := by
    rw [val_main_v61_apply]
    refine Finset.sum_congr rfl fun d _ => ?_
    rw [← qA1 x0 b q h d, ← kA1 x1 b k h d]
    refine congrArg₂ (· * ·) (congrArg _ (funext fun a => ?_)) (congrArg _ (funext fun a => ?_))
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
      | ⟨3, _⟩ => rfl
  rw [val_main_v66_apply, val_main_v63_apply, hd, val_main_v62_apply, log2_at, val_main_v65_apply, val_main_v64_apply,
    val_main_v32_apply, val_main_v30_apply, val_main_v28_apply, slope_at, val_main_v31_apply, val_main_v29_apply, dist_at]
  rfl

/-- The scores with the later keys hidden, second map of a differential head. -/
theorem hidA1 (x0 : Rows512) (x1 : Keys) (b : Fin 32) (h : Fin 4) (q k : Fin 2048) :
    val_main_v67 (F := Ideal) x0 x1 (ix4 b h q k) = hide q (scoreA x0 x1 b h 1 q) k := by
  rw [val_main_v67_apply, val_main_call2_v1_apply, vis_at, val_main_call2_v2_apply, rawA1]
  show Scalar.select (if k.val ≤ q.val then 1#1 else 0#1) _ _ = if k.val ≤ q.val then _ else _
  split_ifs
  · rfl
  · exact PI.ofBits_negInf

/-- Their maximum, second map of a differential head. -/
theorem maxA1 (x0 : Rows512) (x1 : Keys) (b : Fin 32) (h : Fin 4) (q : Fin 2048) :
    val_main_v68 (F := Ideal) x0 x1 (ix3 b h q) = mx (hide q (scoreA x0 x1 b h 1 q)) 2048 := by
  unfold val_main_v68
  exact max4 _ _ PI.ofBits_negInf b h q _ (hidA1 x0 x1 b h q)

/-- The weights, second map of a differential head. -/
theorem wgtA1 (x0 : Rows512) (x1 : Keys) (b : Fin 32) (h : Fin 4) (q k : Fin 2048) :
    val_main_v73 (F := Ideal) x0 x1 (ix4 b h q k)
      = if k.val ≤ q.val then Ideal.exp (hide q (scoreA x0 x1 b h 1 q) k - mx (hide q (scoreA x0 x1 b h 1 q)) 2048) else 0 := by
  have hm : val_main_v70 (F := Ideal) x0 x1 (ix4 b h q k) = mx (hide q (scoreA x0 x1 b h 1 q)) 2048 := by
    rw [val_main_v70_apply, val_main_v69_apply, ← maxA1]
    refine congrArg _ (funext fun a => ?_)
    match a with
    | ⟨0, _⟩ => rfl
    | ⟨1, _⟩ => rfl
    | ⟨2, _⟩ => rfl
  rw [val_main_v73_apply, val_main_call3_v1_apply, vis_at, val_main_call3_v2_apply, val_main_v72_apply,
    val_main_v71_apply, hidA1, hm]
  show Scalar.select (if k.val ≤ q.val then 1#1 else 0#1) _ _ = if k.val ≤ q.val then _ else _
  split_ifs
  · rfl
  · exact Ideal.ofBits_zero_f32

/-- The values averaged by the weights, second map of a differential head. -/
theorem attA1 (x0 : Rows512) (x1 : Keys) (x2 : Rows512) (b : Fin 32) (h : Fin 4) (q : Fin 2048) (c : Fin 128) :
    val_main_v80 (F := Ideal) x0 x1 x2 (ix4 b h q c) = mapA x0 x1 x2 b h 1 q c := by
  have hnum : val_main_v76 (F := Ideal) x0 x1 x2 (ix4 b h q c)
      = ∑ k : Fin 2048, (if k.val ≤ q.val then Ideal.exp (hide q (scoreA x0 x1 b h 1 q) k - mx (hide q (scoreA x0 x1 b h 1 q)) 2048) else 0) * valA x2 b h c k := by
    rw [val_main_v76_apply]
    refine Finset.sum_congr rfl fun k _ => ?_
    rw [val_main_v75_apply, val_main_v74_apply, ← wgtA1, ← v4_at x2 b k h c]
    refine congrArg₂ (· * ·) (congrArg (val_main_v73 (F := Ideal) x0 x1) (funext fun a => ?_)) (congrArg _ (funext fun a => ?_))
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
      | ⟨3, _⟩ => rfl
  have hden : val_main_v79 (F := Ideal) x0 x1 (ix4 b h q c)
      = ∑ k : Fin 2048, if k.val ≤ q.val then Ideal.exp (hide q (scoreA x0 x1 b h 1 q) k - mx (hide q (scoreA x0 x1 b h 1 q)) 2048) else 0 := by
    rw [val_main_v79_apply, val_main_v78_apply, val_main_v77_apply]
    refine (congrArg (· + _) (Ideal.ofBits_zero_f32)).trans ((zero_add _).trans (Finset.sum_congr rfl fun k _ => ?_))
    rw [← wgtA1]
    refine congrArg _ (funext fun a => ?_)
    match a with
    | ⟨0, _⟩ => rfl
    | ⟨1, _⟩ => rfl
    | ⟨2, _⟩ => rfl
    | ⟨3, _⟩ => rfl
  rw [val_main_v80_apply, hnum, hden]
  rfl

end Cert.Proof.RI

end
-- ==== Proof.RefB.lean ====
/- The reference's latent heads, entry by entry. -/
module

public import proofs.«01_k».proof.Proof.RefA1

@[expose] public section

set_option maxHeartbeats 400000

noncomputable section

namespace Cert.Proof.RI

open Idealize.ShloMosaic Idealize.ShloMosaic.ValueIdx
open Cert.ReferenceIdeal Cert.ReferenceIdeal.Gen Cert.ReferenceIdeal.Read
open Cert.Proof.Softmax Cert.Proof.Spec Cert.Proof.PI

/-- The scores, a latent head. -/
theorem rawB (x3 x4 : Rows1024) (b : Fin 32) (h : Fin 8) (q k : Fin 2048) :
    val_main_v118 (F := Ideal) x3 x4 (ix4 b h q k) = scoreB x3 x4 b h q k := by
  have hd : val_main_v116 (F := Ideal) x3 x4 (ix4 b h q k)
      = ∑ d : Fin 128, x3 (ix2 (brow b q) (laneQ h d)) * x4 (ix2 (brow b (kall k)) (laneQ h d)) := by
    rw [val_main_v116_apply, kall_val]
    refine Finset.sum_congr rfl fun d _ => ?_
    rw [← qL_at x3 b q h d, ← kL_at x4 b k h d]
    refine congrArg₂ (· * ·) (congrArg _ (funext fun a => ?_)) (congrArg _ (funext fun a => ?_))
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
      | ⟨3, _⟩ => rfl
  rw [val_main_v118_apply, hd, val_main_v117_apply, log2_at]
  rfl

/-- The scores with the later keys hidden, a latent head. -/
theorem hidB (x3 x4 : Rows1024) (b : Fin 32) (h : Fin 8) (q k : Fin 2048) :
    val_main_v119 (F := Ideal) x3 x4 (ix4 b h q k) = hide q (scoreB x3 x4 b h q) k := by
  rw [val_main_v119_apply, val_main_call4_v1_apply, vis_at, val_main_call4_v2_apply, rawB]
  show Scalar.select (if k.val ≤ q.val then 1#1 else 0#1) _ _ = if k.val ≤ q.val then _ else _
  split_ifs
  · rfl
  · exact PI.ofBits_negInf

/-- Their maximum, a latent head. -/
theorem maxB (x3 x4 : Rows1024) (b : Fin 32) (h : Fin 8) (q : Fin 2048) :
    val_main_v120 (F := Ideal) x3 x4 (ix3 b h q) = mx (hide q (scoreB x3 x4 b h q)) 2048 := by
  unfold val_main_v120
  exact max8 _ _ PI.ofBits_negInf b h q _ (hidB x3 x4 b h q)

/-- The weights, a latent head. -/
theorem wgtB (x3 x4 : Rows1024) (b : Fin 32) (h : Fin 8) (q k : Fin 2048) :
    val_main_v125 (F := Ideal) x3 x4 (ix4 b h q k)
      = if k.val ≤ q.val then Ideal.exp (hide q (scoreB x3 x4 b h q) k - mx (hide q (scoreB x3 x4 b h q)) 2048) else 0 := by
  have hm : val_main_v122 (F := Ideal) x3 x4 (ix4 b h q k) = mx (hide q (scoreB x3 x4 b h q)) 2048 := by
    rw [val_main_v122_apply, val_main_v121_apply, ← maxB]
    refine congrArg _ (funext fun a => ?_)
    match a with
    | ⟨0, _⟩ => rfl
    | ⟨1, _⟩ => rfl
    | ⟨2, _⟩ => rfl
  rw [val_main_v125_apply, val_main_call5_v1_apply, vis_at, val_main_call5_v2_apply, val_main_v124_apply,
    val_main_v123_apply, hidB, hm]
  show Scalar.select (if k.val ≤ q.val then 1#1 else 0#1) _ _ = if k.val ≤ q.val then _ else _
  split_ifs
  · rfl
  · exact Ideal.ofBits_zero_f32

/-- The values averaged by the weights, a latent head. -/
theorem attB (x3 x4 : Rows1024) (x5 : Rows512) (b : Fin 32) (h : Fin 8) (q : Fin 2048) (c : Fin 64) :
    val_main_v132 (F := Ideal) x3 x4 x5 (ix4 b h q c) = mapB x3 x4 x5 b h q c := by
  have hnum : val_main_v128 (F := Ideal) x3 x4 x5 (ix4 b h q c)
      = ∑ k : Fin 2048, (if k.val ≤ q.val then Ideal.exp (hide q (scoreB x3 x4 b h q) k - mx (hide q (scoreB x3 x4 b h q)) 2048) else 0) * valB x5 b h c k := by
    rw [val_main_v128_apply]
    refine Finset.sum_congr rfl fun k _ => ?_
    rw [val_main_v127_apply, val_main_v126_apply, ← wgtB, ← vL_at x5 b k h c]
    refine congrArg₂ (· * ·) (congrArg (val_main_v125 (F := Ideal) x3 x4) (funext fun a => ?_)) (congrArg _ (funext fun a => ?_))
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
      | ⟨3, _⟩ => rfl
  have hden : val_main_v131 (F := Ideal) x3 x4 (ix4 b h q c)
      = ∑ k : Fin 2048, if k.val ≤ q.val then Ideal.exp (hide q (scoreB x3 x4 b h q) k - mx (hide q (scoreB x3 x4 b h q)) 2048) else 0 := by
    rw [val_main_v131_apply, val_main_v130_apply, val_main_v129_apply]
    refine (congrArg (· + _) (Ideal.ofBits_zero_f32)).trans ((zero_add _).trans (Finset.sum_congr rfl fun k _ => ?_))
    rw [← wgtB]
    refine congrArg _ (funext fun a => ?_)
    match a with
    | ⟨0, _⟩ => rfl
    | ⟨1, _⟩ => rfl
    | ⟨2, _⟩ => rfl
    | ⟨3, _⟩ => rfl
  rw [val_main_v132_apply, hnum, hden]
  rfl

end Cert.Proof.RI

end
-- ==== Proof.RefOut.lean ====
/- The reference's result, entry by entry: the differential heads normalised, then the latent heads. -/
module

public import proofs.«01_k».proof.Proof.RefB

@[expose] public section

set_option maxHeartbeats 400000

noncomputable section

namespace Cert.Proof.Spec

open Idealize.ShloMosaic Idealize.ShloMosaic.ValueIdx
open Cert.Proof.Softmax Cert.Proof.PI

/-- Four vectors of 64 numbers, a row each. -/
abbrev Row64 : Type := (⟨2, ![1, 64]⟩ : Shape).Idx → EReal
/-- A row of 128 numbers. -/
abbrev Row128 : Type := (⟨2, ![1, 128]⟩ : Shape).Idx → EReal

/-- How much of the second map is taken from the first. -/
def lam (x6 x7 x8 x9 : Row64) : EReal :=
  lamS (fun j => x6 (ix2 0 j)) (fun j => x7 (ix2 0 j)) (fun j => x8 (ix2 0 j)) (fun j => x9 (ix2 0 j))

/-- A differential head: the first map less a part of the second, normalised over the head. -/
def headA (x0 : Rows512) (x1 : Keys) (x2 : Rows512) (x6 x7 x8 x9 : Row64) (x10 : Row128) (b : Fin 32) (h : Fin 4) (q : Fin 2048)
    (c : Fin 128) : EReal :=
  normed (fun d => mapA x0 x1 x2 b h 0 q d - lam x6 x7 x8 x9 * mapA x0 x1 x2 b h 1 q d) (x10 (ix2 0 c)) c

end Cert.Proof.Spec

namespace Cert.Proof.RI

open Idealize.ShloMosaic Idealize.ShloMosaic.ValueIdx
open Cert.ReferenceIdeal Cert.ReferenceIdeal.Gen Cert.ReferenceIdeal.Read
open Cert.Proof.Softmax Cert.Proof.Spec Cert.Proof.PI

/-- The part of the second map taken away. -/
theorem lam_at (x6 x7 x8 x9 : Row64) (i : S_.Idx) : val_main_v88 (F := Ideal) x6 x7 x8 x9 i = lam x6 x7 x8 x9 := by
  rw [val_main_v88_apply, val_main_v87_apply, val_main_v83_apply, val_main_v86_apply, val_main_v82_apply, val_main_v85_apply,
    sum_idx2, sum_idx2, Fin.sum_univ_one, Fin.sum_univ_one]
  have e : ∀ x : EReal, Ideal.ofBits .f32 0x00000000#32 + x = x := fun x => by rw [Ideal.ofBits_zero_f32, zero_add]
  show Ideal.exp (Ideal.ofBits .f32 0x00000000#32 + _) - Ideal.exp (Ideal.ofBits .f32 0x00000000#32 + _) + _ = _
  rw [e, e]
  rfl

/-- The difference of the two maps. -/
theorem diff_at (x0 : Rows512) (x1 : Keys) (x2 : Rows512) (x6 x7 x8 x9 : Row64) (b : Fin 32) (h : Fin 4) (q : Fin 2048) (c : Fin 128) :
    val_main_v91 (F := Ideal) x0 x1 x2 x6 x7 x8 x9 (ix4 b h q c)
      = mapA x0 x1 x2 b h 0 q c - lam x6 x7 x8 x9 * mapA x0 x1 x2 b h 1 q c := by
  rw [val_main_v91_apply, val_main_v90_apply, val_main_v89_apply, lam_at, attA0, attA1]
  rfl

/-- A differential head. -/
theorem headA_at (x0 : Rows512) (x1 : Keys) (x2 : Rows512) (x6 x7 x8 x9 : Row64) (x10 : Row128) (b : Fin 32) (h : Fin 4) (q : Fin 2048)
    (c : Fin 128) :
    val_main_v107 (F := Ideal) x0 x1 x2 x6 x7 x8 x9 x10 (ix4 b h q c) = headA x0 x1 x2 x6 x7 x8 x9 x10 b h q c := by
  have hs : val_main_v93 (F := Ideal) x0 x1 x2 x6 x7 x8 x9 (ix3 b h q)
      = ∑ d : Fin 128, (mapA x0 x1 x2 b h 0 q d - lam x6 x7 x8 x9 * mapA x0 x1 x2 b h 1 q d)
          * (mapA x0 x1 x2 b h 0 q d - lam x6 x7 x8 x9 * mapA x0 x1 x2 b h 1 q d) := by
    rw [val_main_v93_apply]
    refine (congrArg (· + _) Ideal.ofBits_zero_f32).trans ((zero_add _).trans (Finset.sum_congr rfl fun d _ => ?_))
    rw [val_main_v92_apply, ← diff_at x0 x1 x2 x6 x7 x8 x9 b h q d]
    have e : idx_main_v93 (ix3 b h q) d = ix4 b h q d := funext fun a => match a with
      | ⟨0, _⟩ => rfl
      | ⟨1, _⟩ => rfl
      | ⟨2, _⟩ => rfl
      | ⟨3, _⟩ => rfl
    rw [e]
    rfl
  have hr : idx_main_v94 (idx_main_v100 (ix4 b h q c)) = ix3 b h q := funext fun a => match a with
      | ⟨0, _⟩ => rfl
      | ⟨1, _⟩ => rfl
      | ⟨2, _⟩ => rfl
  have hg : idx_main_v102 (idx_main_v103 (idx_main_v104 (ix4 b h q c))) = ix2 0 c := funext fun a => match a with
      | ⟨0, _⟩ => rfl
      | ⟨1, _⟩ => Fin.ext (by show c.val % 128 = c.val; omega)
  rw [val_main_v107_apply, val_main_v105_apply, val_main_v101_apply, diff_at, val_main_v100_apply, val_main_v99_apply, val_main_v98_apply,
    val_main_v96_apply, val_main_v94_apply, hr, hs, val_main_v95_apply, val_main_v97_apply, val_main_v104_apply, val_main_v103_apply,
    val_main_v102_apply, hg, val_main_v106_apply]
  rfl

/-- The result's columns before 512 are the differential heads. -/
theorem left_at (x0 : Rows512) (x1 : Keys) (x2 : Rows512) (x3 x4 : Rows1024) (x5 : Rows512) (x6 x7 x8 x9 : Row64) (x10 : Row128)
    (b : Fin 32) (h : Fin 4) (q : Fin 2048) (c : Fin 128) (l : Fin 1024) (hl : l.val = 128 * h.val + c.val) :
    val_main_v136 (F := Ideal) x0 x1 x2 x3 x4 x5 x6 x7 x8 x9 x10 (ix2 (brow b q) l) = headA x0 x1 x2 x6 x7 x8 x9 x10 b h q c := by
  rw [val_main_v136_apply]
  refine Eq.trans ?_ (headA_at x0 x1 x2 x6 x7 x8 x9 x10 b h q c)
  unfold val_main_v135
  refine (concatenate_pair_apply_left (s₁ := S65536x512) (s₂ := S65536x512) (t := S65536x1024) 1 _ _ _ (ix2 (brow b q) l) rfl (ix2 (brow b q) (laneA h c)) (fun a => ?_)).trans ?_
  · match a with
    | ⟨0, _⟩ => rfl
    | ⟨1, _⟩ => exact hl.symm
  · rw [val_main_v109_apply, val_main_v108_apply]
    refine congrArg _ (funext fun a => ?_)
    match a with
    | ⟨0, _⟩ => exact Fin.ext (by show ((2048 * b.val + q.val) * 512 + (128 * h.val + c.val)) / 1048576 = b.val; omega)
    | ⟨1, _⟩ => exact Fin.ext (by show ((2048 * b.val + q.val) * 512 + (128 * h.val + c.val)) / 128 % 4 = h.val; omega)
    | ⟨2, _⟩ => exact Fin.ext (by show ((2048 * b.val + q.val) * 512 + (128 * h.val + c.val)) / 512 % 2048 = q.val; omega)
    | ⟨3, _⟩ => exact Fin.ext (by show ((2048 * b.val + q.val) * 512 + (128 * h.val + c.val)) % 128 = c.val; omega)

/-- The result's columns from 512 on are the latent heads. -/
theorem right_at (x0 : Rows512) (x1 : Keys) (x2 : Rows512) (x3 x4 : Rows1024) (x5 : Rows512) (x6 x7 x8 x9 : Row64) (x10 : Row128)
    (b : Fin 32) (h : Fin 8) (q : Fin 2048) (c : Fin 64) (l : Fin 1024) (hl : l.val = 512 + (64 * h.val + c.val)) :
    val_main_v136 (F := Ideal) x0 x1 x2 x3 x4 x5 x6 x7 x8 x9 x10 (ix2 (brow b q) l) = mapB x3 x4 x5 b h q c := by
  rw [val_main_v136_apply]
  refine Eq.trans ?_ (attB x3 x4 x5 b h q c)
  unfold val_main_v135
  refine (concatenate_pair_apply_right (s₁ := S65536x512) (s₂ := S65536x512) (t := S65536x1024) 1 _ _ _ (ix2 (brow b q) l) rfl rfl (ix2 (brow b q) (laneV h c)) (fun a ha => ?_) ?_).trans ?_
  · match a with
    | ⟨0, _⟩ => rfl
    | ⟨1, _⟩ => exact absurd rfl ha
  · show (64 * h.val + c.val) + 512 = l.val
    omega
  · rw [val_main_v134_apply, val_main_v133_apply]
    refine congrArg _ (funext fun a => ?_)
    match a with
    | ⟨0, _⟩ => exact Fin.ext (by show ((2048 * b.val + q.val) * 512 + (64 * h.val + c.val)) / 1048576 = b.val; omega)
    | ⟨1, _⟩ => exact Fin.ext (by show ((2048 * b.val + q.val) * 512 + (64 * h.val + c.val)) / 64 % 8 = h.val; omega)
    | ⟨2, _⟩ => exact Fin.ext (by show ((2048 * b.val + q.val) * 512 + (64 * h.val + c.val)) / 512 % 2048 = q.val; omega)
    | ⟨3, _⟩ => exact Fin.ext (by show ((2048 * b.val + q.val) * 512 + (64 * h.val + c.val)) % 64 = c.val; omega)

end Cert.Proof.RI

end
-- ==== Proof.KerOut.lean ====
/- The kernel's result, entry by entry: the same heads the reference computes. -/
module

public import proofs.«01_k».proof.Proof.KerRow
public import proofs.«01_k».proof.Proof.Blk
public import proofs.«01_k».proof.Proof.RefOut

@[expose] public section

set_option maxHeartbeats 400000

noncomputable section

namespace Cert.Proof.PI

open Idealize.ShloMosaic Idealize.ShloMosaic.TcCoe Idealize.ShloMosaic.ValueIdx
open Cert.KernelIdeal Cert.KernelIdeal.Gen Cert.KernelIdeal.Value
open Cert.Proof.Softmax Cert.Proof.Spec
open Idealize.SL Idealize.SL.Sem

variable (m : (ℓ : Loc nD τ sig) → Buf (Elt Ideal) ℓ)

/-- A point's row is its query's row in the batch. -/
theorem qrow_eq (t : Fin cfg0.N) (r : Fin 512) : qrow t r = brow (bat t) (place (sub t.val) r) :=
  Fin.ext (by show 512 * t.val + r.val = 2048 * (t.val / 4) + (512 * (t.val % 4) + r.val); omega)

/-- A differential head's columns of the kernel's result. -/
theorem ker_left (c : Dev nD) (f0 : Real' (m ((c.tc : Thread nD τ).loc main_arg0) : Rows512))
    (f1 : Real' (m ((c.tc : Thread nD τ).loc main_arg1) : Keys)) (t : Fin cfg0.N) (h : Fin 4) (r : Fin 512) (e : Fin 128)
    (l : Fin 1024) (hl : l.val = 128 * h.val + e.val) :
    Value.G11 m c (ix2 (qrow t r) l)
      = headA (m ((c.tc : Thread nD τ).loc main_arg0)) (m ((c.tc : Thread nD τ).loc main_arg1)) (m ((c.tc : Thread nD τ).loc main_arg2))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (bat t) h (place (sub t.val) r) e := by
  have hk : l = tlane ⟨h.val, by omega⟩ e := Fin.ext hl
  have hq : ∀ mm : Fin 2, ∀ d : Fin 128, quo (finA (iblk m c 0 t) (iblk m c 1 t) (iblk m c 2 t) (sub t.val) h) (ix2 (half mm r) d)
      = mapA (m ((c.tc : Thread nD τ).loc main_arg0)) (m ((c.tc : Thread nD τ).loc main_arg1)) (m ((c.tc : Thread nD τ).loc main_arg2))
          (bat t) h mm (place (sub t.val) r) d := fun mm d =>
    quoA _ _ _ _ _ _ (bat t) (sub t.val) h mm r d (fun l => (blk0 m c t r l).trans (by rw [qrow_eq])) (fun j l k => blk1 m c t j l k)
      (fun k l => blk2 m c t k l) f0 f1
  rw [G11_apply m c t r l _ rfl rfl, hk, blockOut_apply]
  unfold heads
  rw [dif_pos (by show h.val < 4; exact h.isLt), outA_apply, lamOf_apply]
  unfold headA
  have hlam : lamS (fun j => (iblk m c 6 t : Vec Ideal S1x64 .f32) (ix2 0 j)) (fun j => (iblk m c 7 t : Vec Ideal S1x64 .f32) (ix2 0 j))
      (fun j => (iblk m c 8 t : Vec Ideal S1x64 .f32) (ix2 0 j)) (fun j => (iblk m c 9 t : Vec Ideal S1x64 .f32) (ix2 0 j))
      = lam (m ((c.tc : Thread nD τ).loc main_arg6)) (m ((c.tc : Thread nD τ).loc main_arg7)) (m ((c.tc : Thread nD τ).loc main_arg8))
          (m ((c.tc : Thread nD τ).loc main_arg9)) := by
    unfold lam
    rw [funext (blk6 m c t 0), funext (blk7 m c t 0), funext (blk8 m c t 0), funext (blk9 m c t 0)]
  rw [hlam, blk10 m c t 0 e]
  refine congrArg (fun f => normed f _ e) (funext fun d => ?_)
  rw [← half_zero, ← half_one]
  exact congrArg₂ (fun a b => a - _ * b) (hq 0 d) (hq 1 d)

/-- A latent head's columns of the kernel's result. -/
theorem ker_right (c : Dev nD) (f3 : Real' (m ((c.tc : Thread nD τ).loc main_arg3) : Rows1024))
    (f4 : Real' (m ((c.tc : Thread nD τ).loc main_arg4) : Rows1024)) (t : Fin cfg0.N) (h : Fin 4) (mm : Fin 2) (r : Fin 512) (e : Fin 64)
    (l : Fin 1024) (hl : l.val = 512 + (128 * h.val + (64 * mm.val + e.val))) :
    Value.G11 m c (ix2 (qrow t r) l)
      = mapB (m ((c.tc : Thread nD τ).loc main_arg3)) (m ((c.tc : Thread nD τ).loc main_arg4)) (m ((c.tc : Thread nD τ).loc main_arg5))
          (bat t) (lhead h mm) (place (sub t.val) r) e := by
  have hk : l = tlane ⟨4 + h.val, by omega⟩ ⟨64 * mm.val + e.val, by omega⟩ :=
    Fin.ext (by show l.val = 128 * (4 + h.val) + (64 * mm.val + e.val); omega)
  have hq : quo (finB (iblk m c 3 t) (iblk m c 4 t) (iblk m c 5 t) (sub t.val) h) (ix2 (half mm r) ⟨64 * mm.val + e.val, by omega⟩)
      = mapB (m ((c.tc : Thread nD τ).loc main_arg3)) (m ((c.tc : Thread nD τ).loc main_arg4)) (m ((c.tc : Thread nD τ).loc main_arg5))
          (bat t) (lhead h mm) (place (sub t.val) r) e :=
    quoB _ _ _ _ _ _ (bat t) (sub t.val) h mm r e _ rfl (fun l => (blk3 m c t r l).trans (by rw [qrow_eq])) (fun k l => blk4 m c t k l)
      (fun k l => blk5 m c t k l) f3 f4
  rw [G11_apply m c t r l _ rfl rfl, hk, blockOut_apply]
  unfold heads
  have hh : (⟨4 + h.val - 4, by omega⟩ : Fin 4) = h := Fin.ext (by show 4 + h.val - 4 = h.val; omega)
  rw [dif_neg (by show ¬ 4 + h.val < 4; omega), hh, outB_apply, ← hq]
  have he := e.isLt
  by_cases hm : mm = 0
  · subst hm
    rw [if_pos (by show 64 * 0 + e.val < 64; omega), ← half_zero]
  · have hm1 : mm = 1 := Fin.ext (by have := mm.isLt; have h0 : mm.val ≠ 0 := fun hv => hm (Fin.ext hv); show mm.val = 1; omega)
    subst hm1
    rw [if_neg (by show ¬ 64 * 1 + e.val < 64; omega), ← half_one]

end Cert.Proof.PI

end
-- ==== Proof.Pre.lean ====
/- What the precondition says: every query and every key is a real number. -/
module

public import proofs.«01_k».proof.Proof.KerRow
public import proofs.«01_k».proof.Proof.Claims

@[expose] public section

set_option maxHeartbeats 400000

noncomputable section

namespace Cert.Proof

open Idealize.ShloMosaic Idealize.ShloMosaic.ValueIdx
open Cert.Proof.Spec Cert.Proof.PI

/-- A value whose magnitude is below infinity is a real number. -/
theorem real_of_test (x : EReal) (h : FloatOps.cmpf (F := Ideal) (φ := .f32) .olt (FloatOps.hostAbsf (F := Ideal) (φ := .f32) x)
    (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x using EReal.rec with
  | bot => exact absurd h (by decide +kernel)
  | top => exact absurd h (by decide +kernel)
  | coe r => exact ⟨r, rfl⟩

/-- The first of the four tests holds everywhere. -/
theorem piece0 (A B : Cert.Pre_finite_scores.S65536x512.Idx → BitVec 1) (C D : Cert.Pre_finite_scores.S65536x1024.Idx → BitVec 1)
    (h : Shape.Concatenates [Cert.Pre_finite_scores.S65536x512, Cert.Pre_finite_scores.S65536x512, Cert.Pre_finite_scores.S65536x1024, Cert.Pre_finite_scores.S65536x1024] Cert.Pre_finite_scores.S65536x3072 1)
    (hp : concatenate Cert.Pre_finite_scores.S65536x3072 1 [⟨Cert.Pre_finite_scores.S65536x512, A⟩, ⟨Cert.Pre_finite_scores.S65536x512, B⟩, ⟨Cert.Pre_finite_scores.S65536x1024, C⟩, ⟨Cert.Pre_finite_scores.S65536x1024, D⟩] h = fun _ => 1#1)
    (r : Fin 65536) (l : Fin 512) : A (ix2 r l) = 1#1 := by
  have e := congrFun hp (ix2 r ⟨0 + l.val, by omega⟩)
  refine Eq.trans (Eq.symm ?_) e
  refine concatenate_apply_piece (t := Cert.Pre_finite_scores.S65536x3072) 1
    [⟨Cert.Pre_finite_scores.S65536x512, A⟩, ⟨Cert.Pre_finite_scores.S65536x512, B⟩, ⟨Cert.Pre_finite_scores.S65536x1024, C⟩, ⟨Cert.Pre_finite_scores.S65536x1024, D⟩]
    h _ 0 (show 0 < 4 by decide) Cert.Pre_finite_scores.S65536x512 A rfl rfl 0 rfl (ix2 r l) (fun a ha => ?_) rfl
  match a with
  | ⟨0, _⟩ => rfl
  | ⟨1, _⟩ => exact absurd rfl ha

/-- The second of the four tests holds everywhere. -/
theorem piece1 (A B : Cert.Pre_finite_scores.S65536x512.Idx → BitVec 1) (C D : Cert.Pre_finite_scores.S65536x1024.Idx → BitVec 1)
    (h : Shape.Concatenates [Cert.Pre_finite_scores.S65536x512, Cert.Pre_finite_scores.S65536x512, Cert.Pre_finite_scores.S65536x1024, Cert.Pre_finite_scores.S65536x1024] Cert.Pre_finite_scores.S65536x3072 1)
    (hp : concatenate Cert.Pre_finite_scores.S65536x3072 1 [⟨Cert.Pre_finite_scores.S65536x512, A⟩, ⟨Cert.Pre_finite_scores.S65536x512, B⟩, ⟨Cert.Pre_finite_scores.S65536x1024, C⟩, ⟨Cert.Pre_finite_scores.S65536x1024, D⟩] h = fun _ => 1#1)
    (r : Fin 65536) (l : Fin 512) : B (ix2 r l) = 1#1 := by
  have e := congrFun hp (ix2 r ⟨512 + l.val, by omega⟩)
  refine Eq.trans (Eq.symm ?_) e
  refine concatenate_apply_piece (t := Cert.Pre_finite_scores.S65536x3072) 1
    [⟨Cert.Pre_finite_scores.S65536x512, A⟩, ⟨Cert.Pre_finite_scores.S65536x512, B⟩, ⟨Cert.Pre_finite_scores.S65536x1024, C⟩, ⟨Cert.Pre_finite_scores.S65536x1024, D⟩]
    h _ 1 (show 1 < 4 by decide) Cert.Pre_finite_scores.S65536x512 B rfl rfl 512 rfl (ix2 r l) (fun a ha => ?_) rfl
  match a with
  | ⟨0, _⟩ => rfl
  | ⟨1, _⟩ => exact absurd rfl ha

/-- The third of the four tests holds everywhere. -/
theorem piece2 (A B : Cert.Pre_finite_scores.S65536x512.Idx → BitVec 1) (C D : Cert.Pre_finite_scores.S65536x1024.Idx → BitVec 1)
    (h : Shape.Concatenates [Cert.Pre_finite_scores.S65536x512, Cert.Pre_finite_scores.S65536x512, Cert.Pre_finite_scores.S65536x1024, Cert.Pre_finite_scores.S65536x1024] Cert.Pre_finite_scores.S65536x3072 1)
    (hp : concatenate Cert.Pre_finite_scores.S65536x3072 1 [⟨Cert.Pre_finite_scores.S65536x512, A⟩, ⟨Cert.Pre_finite_scores.S65536x512, B⟩, ⟨Cert.Pre_finite_scores.S65536x1024, C⟩, ⟨Cert.Pre_finite_scores.S65536x1024, D⟩] h = fun _ => 1#1)
    (r : Fin 65536) (l : Fin 1024) : C (ix2 r l) = 1#1 := by
  have e := congrFun hp (ix2 r ⟨1024 + l.val, by omega⟩)
  refine Eq.trans (Eq.symm ?_) e
  refine concatenate_apply_piece (t := Cert.Pre_finite_scores.S65536x3072) 1
    [⟨Cert.Pre_finite_scores.S65536x512, A⟩, ⟨Cert.Pre_finite_scores.S65536x512, B⟩, ⟨Cert.Pre_finite_scores.S65536x1024, C⟩, ⟨Cert.Pre_finite_scores.S65536x1024, D⟩]
    h _ 2 (show 2 < 4 by decide) Cert.Pre_finite_scores.S65536x1024 C rfl rfl 1024 rfl (ix2 r l) (fun a ha => ?_) rfl
  match a with
  | ⟨0, _⟩ => rfl
  | ⟨1, _⟩ => exact absurd rfl ha

/-- The last of the four tests holds everywhere. -/
theorem piece3 (A B : Cert.Pre_finite_scores.S65536x512.Idx → BitVec 1) (C D : Cert.Pre_finite_scores.S65536x1024.Idx → BitVec 1)
    (h : Shape.Concatenates [Cert.Pre_finite_scores.S65536x512, Cert.Pre_finite_scores.S65536x512, Cert.Pre_finite_scores.S65536x1024, Cert.Pre_finite_scores.S65536x1024] Cert.Pre_finite_scores.S65536x3072 1)
    (hp : concatenate Cert.Pre_finite_scores.S65536x3072 1 [⟨Cert.Pre_finite_scores.S65536x512, A⟩, ⟨Cert.Pre_finite_scores.S65536x512, B⟩, ⟨Cert.Pre_finite_scores.S65536x1024, C⟩, ⟨Cert.Pre_finite_scores.S65536x1024, D⟩] h = fun _ => 1#1)
    (r : Fin 65536) (l : Fin 1024) : D (ix2 r l) = 1#1 := by
  have e := congrFun hp (ix2 r ⟨2048 + l.val, by omega⟩)
  refine Eq.trans (Eq.symm ?_) e
  refine concatenate_apply_piece (t := Cert.Pre_finite_scores.S65536x3072) 1
    [⟨Cert.Pre_finite_scores.S65536x512, A⟩, ⟨Cert.Pre_finite_scores.S65536x512, B⟩, ⟨Cert.Pre_finite_scores.S65536x1024, C⟩, ⟨Cert.Pre_finite_scores.S65536x1024, D⟩]
    h _ 3 (show 3 < 4 by decide) Cert.Pre_finite_scores.S65536x1024 D rfl rfl 2048 rfl (ix2 r l) (fun a ha => ?_) rfl
  match a with
  | ⟨0, _⟩ => rfl
  | ⟨1, _⟩ => exact absurd rfl ha

section
variable (x0 : Rows512) (x1 : Keys) (x2 : Rows512) (x3 x4 : Rows1024) (x5 : Rows512)
  (x6 x7 x8 x9 : (⟨2, ![1, 64]⟩ : Shape).Idx → EReal) (x10 : (⟨2, ![1, 128]⟩ : Shape).Idx → EReal)
  (hp : @Cert.Pre_finite_scores.fn preFacts Ideal _ x0 x1 x2 x3 x4 x5 x6 x7 x8 x9 x10 = fun _ => 1#1)
include hp

/-- The differential queries are real. -/
theorem real0 : Real' x0 := fun i => by
  rw [eq_ix2 i]
  exact real_of_test _ (piece0 _ _ _ _ preFacts.concatenates_S65536x512_S65536x512_S65536x1024_S65536x1024_S65536x3072_d1 hp (i 0) (i 1))

/-- The latent queries are real. -/
theorem real3 : Real' x3 := fun i => by
  rw [eq_ix2 i]
  exact real_of_test _ (piece2 _ _ _ _ preFacts.concatenates_S65536x512_S65536x512_S65536x1024_S65536x1024_S65536x3072_d1 hp (i 0) (i 1))

/-- The latent keys are real. -/
theorem real4 : Real' x4 := fun i => by
  rw [eq_ix2 i]
  exact real_of_test _ (piece3 _ _ _ _ preFacts.concatenates_S65536x512_S65536x512_S65536x1024_S65536x1024_S65536x3072_d1 hp (i 0) (i 1))

/-- The differential keys are real. -/
theorem real1 : Real' x1 := fun i => by
  have h0 : (i 0).val < 32 := (i 0).isLt
  have h1 : (i 1).val < 4 := (i 1).isLt
  have h2 : (i 2).val < 512 := (i 2).isLt
  have h3 : (i 3).val < 512 := (i 3).isLt
  refine real_of_test _ (Eq.trans (Eq.symm ?_) (piece1 _ _ _ _ preFacts.concatenates_S65536x512_S65536x512_S65536x1024_S65536x1024_S65536x3072_d1 hp ⟨2048 * (i 0).val + 512 * (i 1).val + (i 2).val, by omega⟩ ⟨(i 3).val, h3⟩))
  refine shapeCast_apply _ _ _ i ?_
  rw [Shape.rowMajor_val_two, Shape.rowMajor_val_four]
  show (((i 0).val * 4 + (i 1).val) * 512 + (i 2).val) * 512 + (i 3).val = (2048 * (i 0).val + 512 * (i 1).val + (i 2).val) * 512 + (i 3).val
  omega

end

end Cert.Proof

end
-- ==== Proof.Value.lean ====
/- The kernel computes the reference's values: the two results agree entry by entry. -/
module

public import proofs.«01_k».proof.Proof.KerOut
public import proofs.«01_k».proof.Proof.Pre
public import proofs.«01_k».proof.Proof.Gen.KernelIdeal.Value
public import proofs.«01_k».proof.Proof.Gen.ReferenceIdeal.Read

@[expose] public section

set_option maxHeartbeats 400000

noncomputable section

namespace Cert.Proof

open Idealize.ShloMosaic Idealize.ShloMosaic.TcCoe Idealize.ShloMosaic.ValueIdx Idealize.SL.Sem
open Cert.Proof.Spec Cert.Proof.PI

section
open Cert.KernelIdeal Cert.KernelIdeal.Gen Cert.KernelIdeal.Value

/-- The reference's result and the kernel's are the same array when the queries and the keys are real. -/
theorem result_eq (m : (ℓ : Loc nD τ sig) → Buf (Elt Ideal) ℓ) (c : Dev nD)
    (f0 : Real' (m ((c.tc : Thread nD τ).loc main_arg0) : Rows512)) (f1 : Real' (m ((c.tc : Thread nD τ).loc main_arg1) : Keys))
    (f3 : Real' (m ((c.tc : Thread nD τ).loc main_arg3) : Rows1024)) (f4 : Real' (m ((c.tc : Thread nD τ).loc main_arg4) : Rows1024)) :
    Cert.ReferenceIdeal.Read.val_main_v136 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      = G11 m c := by
  funext i
  have hR : (i 0).val < 65536 := (i 0).isLt
  have hl : (i 1).val < 1024 := (i 1).isLt
  have hN : (i 0).val / 512 < cfg0.N := by show (i 0).val / 512 < 128; omega
  have hi : i = ix2 (qrow ⟨(i 0).val / 512, hN⟩ ⟨(i 0).val % 512, by omega⟩) (i 1) := by
    funext a
    match a with
    | ⟨0, _⟩ => exact Fin.ext (by show (i 0).val = 512 * ((i 0).val / 512) + (i 0).val % 512; omega)
    | ⟨1, _⟩ => rfl
  rw [hi]
  generalize (⟨(i 0).val / 512, hN⟩ : Fin cfg0.N) = t
  generalize (⟨(i 0).val % 512, _⟩ : Fin 512) = r
  generalize hj : (i 1 : Fin 1024) = l
  by_cases h : l.val < 512
  · refine Eq.trans ?_ (ker_left m c f0 f1 t ⟨l.val / 128, by omega⟩ r ⟨l.val % 128, by omega⟩ l
      (by show l.val = 128 * (l.val / 128) + l.val % 128; omega)).symm
    rw [qrow_eq]
    exact RI.left_at _ _ _ _ _ _ _ _ _ _ _ (bat t) ⟨l.val / 128, by omega⟩ (place (sub t.val) r) ⟨l.val % 128, by omega⟩ l
      (by show l.val = 128 * (l.val / 128) + l.val % 128; omega)
  · have hlt : l.val < 1024 := l.isLt
    refine Eq.trans ?_ (ker_right m c f3 f4 t ⟨(l.val - 512) / 128, by omega⟩ ⟨(l.val - 512) / 64 % 2, by omega⟩ r
      ⟨(l.val - 512) % 64, by omega⟩ l
      (by show l.val = 512 + (128 * ((l.val - 512) / 128) + (64 * ((l.val - 512) / 64 % 2) + (l.val - 512) % 64)); omega)).symm
    rw [qrow_eq]
    exact RI.right_at _ _ _ _ _ _ _ _ _ _ _ (bat t) _ (place (sub t.val) r) _ l
      (by show l.val = 512 + (64 * (2 * ((l.val - 512) / 128) + (l.val - 512) / 64 % 2) + (l.val - 512) % 64); omega)

end

/-- The kernel and the reference give the same result on finite queries and keys. -/
theorem algebraic : Cert.algebraic_KernelIdeal_ReferenceIdeal_pre_finite_scores (hPre_finite_scores := preFacts) := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v136_eq, e0, e1, e2, e3, e4, e5, e6, e7, e8, e9, e10]
  exact result_eq m c (real0 _ _ _ _ _ _ _ _ _ _ _ (hpre c)) (real1 _ _ _ _ _ _ _ _ _ _ _ (hpre c))
    (real3 _ _ _ _ _ _ _ _ _ _ _ (hpre c)) (real4 _ _ _ _ _ _ _ _ _ _ _ (hpre c))

end Cert.Proof

end
-- ==== Proof.TailSpec.lean ====
/- What the tail of the layer computes for one row: the residual of the output projection and that of the squared-relu
   feed-forward part, each normalised by its root mean square. -/
module

public import Idealize.ShloMosaic.PureOps.Ideal

@[expose] public section

noncomputable section

namespace Cert.Proof.Tail

open Idealize.ShloMosaic

/-- The root mean square norm of a row at a place, with that place's gain. -/
def norm (v : Fin 1024 → EReal) (g : EReal) (c : Fin 1024) : EReal :=
  v c * Ideal.rsqrt (Ideal.div (∑ d : Fin 1024, v d * v d) (Ideal.ofBits .f32 0x44800000#32) + Ideal.ofBits .f32 0x358637BD#32) * g

/-- The row after the first residual: the attention's row through the output projection, normalised, added to the input. -/
def mid (x o : Fin 1024 → EReal) (w : Fin 1024 → Fin 1024 → EReal) (g : Fin 1024 → EReal) (c : Fin 1024) : EReal :=
  x c + norm (fun e => ∑ k : Fin 1024, o k * w k e) (g c) c

/-- The squared positive part of a row's product with a column. -/
def act (v : Fin 1024 → EReal) (w : Fin 1024 → EReal) : EReal :=
  max (∑ k : Fin 1024, v k * w k) (Ideal.ofBits .f32 0x00000000#32) * max (∑ k : Fin 1024, v k * w k) (Ideal.ofBits .f32 0x00000000#32)

/-- The feed-forward part's hidden row, from the row after the first residual. -/
def hidden (y : Fin 1024 → EReal) (g : Fin 1024 → EReal) (up : Fin 1024 → Fin 4096 → EReal) (f : Fin 4096) : EReal :=
  act (fun k => norm y (g k) k) (fun k => up k f)

/-- The row after the second residual. -/
def fin (y : Fin 1024 → EReal) (g2 : Fin 1024 → EReal) (up : Fin 1024 → Fin 4096 → EReal) (down : Fin 4096 → Fin 1024 → EReal)
    (g3 : Fin 1024 → EReal) (c : Fin 1024) : EReal :=
  y c + norm (fun e => ∑ f : Fin 4096, hidden y g2 up f * down f e) (g3 c) c

/-- Place `k` of the `j`-th quarter of the hidden row. -/
def part (j : Fin 4) (k : Fin 1024) : Fin 4096 := ⟨1024 * j.val + k.val, by omega⟩

/-- A sum over the hidden row is the sum of the sums over its quarters. -/
theorem sum_parts (f : Fin 4096 → EReal) :
    ∑ i, f i = ∑ k, f (part 0 k) + ∑ k, f (part 1 k) + ∑ k, f (part 2 k) + ∑ k, f (part 3 k) := by
  show ∑ i : Fin (1024 + 1024 + 1024 + 1024), f i = _
  rw [Fin.sum_univ_add, Fin.sum_univ_add, Fin.sum_univ_add]
  refine congrArg₂ _ (congrArg₂ _ (congrArg₂ _ ?_ ?_) ?_) ?_ <;>
    exact Finset.sum_congr rfl fun k _ => congrArg f (Fin.ext (by simp [part] <;> omega))

end Cert.Proof.Tail

end
-- ==== Proof.TailKer.lean ====
/- What the tail's kernel computes of one block of 512 rows, row by row. -/
module

public import proofs.«01_k».proof.Proof.TailSpec
public import proofs.«01_k».proof.Proof.Step
public import proofs.«01_k».proof.Proof.Gen.TailIdeal.Value
public import Idealize.ShloMosaic.Lib.Pipeline.ValueKit.Tiles

@[expose] public section

set_option maxHeartbeats 400000

noncomputable section

namespace Cert.Proof.Tail.PI

open Idealize.ShloMosaic Idealize.ShloMosaic.TcCoe Idealize.ShloMosaic.ValueIdx
open Cert.TailIdeal Cert.TailIdeal.Gen
open Cert.Proof.PI (col_apply)

/-- The product of a block of rows with a square of weights. -/
def prod (a : FVec Ideal S512x1024 .bf16) (b : Vec Ideal S1024x1024 .bf16) : FVec Ideal S512x1024 .f32 :=
  matmul (φ₂ := .bf16) dot_S512x1024_S1024x1024_S512x1024_1_0_0_1_n_n none a b (constant S512x1024 .f32 0x00000000#32)

/-- A product at a row and a lane. -/
theorem prod_apply (a : FVec Ideal S512x1024 .bf16) (b : Vec Ideal S1024x1024 .bf16) (r : Fin 512) (c : Fin 1024) :
    prod a b (ix2 r c) = ∑ k : Fin 1024, a (ix2 r k) * b (ix2 k c) := by
  show FloatOps.matmul (φ₂ := .bf16) (DotDims.plain 512 1024 1024) none a b (constant S512x1024 .f32 0x00000000#32) (ix2 r c) = _
  rw [Ideal.matmul_plain_apply, show constant (F := Ideal) S512x1024 .f32 0x00000000#32 (ix2 r c) = (0 : EReal) from Ideal.ofBits_zero_f32, zero_add]

/-- The root mean square norm of a block's rows. -/
def rms (v : FVec Ideal S512x1024 .f32) (g : Vec Ideal S1x1024 .f32) : FVec Ideal S512x1024 .f32 :=
  mulf (mulf v (broadcastTo S512x1024 (rsqrt (addf (divf (shapeCast S512x1 (multiReduction .add [1] S512 (mulf v v) 0x00000000#32
      reduces_S512x1024_S512 (.inl rfl) rfl) shapeCasts_S512_S512x1) (broadcast S512x1 (Scalar.ofBits .f32 0x44800000#32)))
      (broadcast S512x1 (Scalar.ofBits .f32 0x358637BD#32)))) broadcasts_S512x1_S512x1024))
    (broadcastTo S512x1024 g broadcasts_S1x1024_S512x1024)

/-- A lane put beside a row. -/
theorem lift_lane (r : Fin 512) (j : Fin 1024) : reduces_S512x1024_S512.lift (ix1 r) j = ix2 r j := by
  funext a
  match a with
  | ⟨0, _⟩ => rfl
  | ⟨1, _⟩ => rfl

/-- The norm of a block's rows, at a row and a lane. -/
theorem rms_apply (v : FVec Ideal S512x1024 .f32) (g : Vec Ideal S1x1024 .f32) (r : Fin 512) (c : Fin 1024) :
    rms v g (ix2 r c) = norm (fun d => v (ix2 r d)) (g (ix2 0 c)) c := by
  have hs : shapeCast S512x1 (multiReduction (F := Ideal) .add [1] S512 (mulf v v) 0x00000000#32 reduces_S512x1024_S512 (.inl rfl) rfl)
      shapeCasts_S512_S512x1 (ix2 r 0) = ∑ d : Fin 1024, v (ix2 r d) * v (ix2 r d) := by
    rw [shapeCast_a_a1_apply]
    refine (Ideal.multiReduction_add_single _ _ _ _ _ _).trans ?_
    exact Finset.sum_congr rfl fun j _ => congrArg (mulf v v) (lift_lane r j)
  show v (ix2 r c) * broadcastTo S512x1024 _ broadcasts_S512x1_S512x1024 (ix2 r c) * broadcastTo S512x1024 g broadcasts_S1x1024_S512x1024 (ix2 r c) = _
  rw [col_apply, broadcastTo_1b_ab_apply]
  show v (ix2 r c) * Ideal.rsqrt (Ideal.div (shapeCast S512x1 _ shapeCasts_S512_S512x1 (ix2 r 0)) (Ideal.ofBits .f32 0x44800000#32)
    + Ideal.ofBits .f32 0x358637BD#32) * _ = _
  rw [hs]
  rfl

/-- The squared positive part of a block's product with a square of weights. -/
def sq (a : FVec Ideal S512x1024 .bf16) (b : Vec Ideal S1024x1024 .bf16) : FVec Ideal S512x1024 .f32 :=
  mulf (maximumf (prod a b) (broadcast S512x1024 (Scalar.ofBits .f32 0x00000000#32))) (maximumf (prod a b) (broadcast S512x1024 (Scalar.ofBits .f32 0x00000000#32)))

/-- The squared positive part at a row and a lane. -/
theorem sq_apply (a : FVec Ideal S512x1024 .bf16) (b : Vec Ideal S1024x1024 .bf16) (r : Fin 512) (c : Fin 1024) :
    sq a b (ix2 r c) = act (fun k => a (ix2 r k)) (fun k => b (ix2 k c)) := by
  show max (prod a b (ix2 r c)) _ * max (prod a b (ix2 r c)) _ = _
  rw [prod_apply]
  rfl

/-- A quarter's part of the product with the second weights. -/
def chunk (a : FVec Ideal S512x1024 .bf16) (b d : Vec Ideal S1024x1024 .bf16) : FVec Ideal S512x1024 .f32 :=
  prod (truncf .bf16 (sq a b) bitsLt_bf16_f32) d

/-- A quarter's part at a row and a lane. -/
theorem chunk_apply (a : FVec Ideal S512x1024 .bf16) (b d : Vec Ideal S1024x1024 .bf16) (r : Fin 512) (c : Fin 1024) :
    chunk a b d (ix2 r c) = ∑ k : Fin 1024, act (fun l => a (ix2 r l)) (fun l => b (ix2 l k)) * d (ix2 k c) := by
  unfold chunk
  rw [prod_apply]
  exact Finset.sum_congr rfl fun k _ => congrArg (· * _) (sq_apply a b r k)

/-- The four quarters added up. -/
def ffn (a : FVec Ideal S512x1024 .bf16) (b0 d0 b1 d1 b2 d2 b3 d3 : Vec Ideal S1024x1024 .bf16) : FVec Ideal S512x1024 .f32 :=
  addf (addf (addf (addf (broadcast S512x1024 (Scalar.ofBits .f32 0x00000000#32)) (chunk a b0 d0)) (chunk a b1 d1)) (chunk a b2 d2)) (chunk a b3 d3)

/-- A block after the first residual. -/
def res (x : Vec Ideal S512x1024 .f32) (o : Vec Ideal S512x1024 .bf16) (w : Vec Ideal S1024x1024 .bf16) (g : Vec Ideal S1x1024 .f32) :
    FVec Ideal S512x1024 .f32 :=
  addf x (rms (prod o w) g)

/-- A block after the first residual, at a row and a lane. -/
theorem res_apply (x : Vec Ideal S512x1024 .f32) (o : Vec Ideal S512x1024 .bf16) (w : Vec Ideal S1024x1024 .bf16) (g : Vec Ideal S1x1024 .f32)
    (r : Fin 512) (c : Fin 1024) :
    res x o w g (ix2 r c) = mid (fun k => x (ix2 r k)) (fun k => o (ix2 r k)) (fun k e => w (ix2 k e)) (fun e => g (ix2 0 e)) c := by
  show x (ix2 r c) + rms (prod o w) g (ix2 r c) = _
  rw [rms_apply, funext (prod_apply o w r)]
  rfl

/-- The `j`-th quarter of the first weights' columns. -/
def up (x5 : Vec Ideal S1024x4096 .bf16) (j : Fin 4) : Vec Ideal S1024x1024 .bf16 := fun i => x5 (ix2 (i 0) (part j (i 1)))
/-- The `j`-th quarter of the second weights' rows. -/
def down (x6 : Vec Ideal S4096x1024 .bf16) (j : Fin 4) : Vec Ideal S1024x1024 .bf16 := fun i => x6 (ix2 (part j (i 0)) (i 1))

/-- The block that the body leaves, from its operands' blocks. -/
theorem out_eq (x0 : Vec Ideal S512x1024 .f32) (x1 : Vec Ideal S512x1024 .bf16) (x2 : Vec Ideal S1024x1024 .bf16) (x3 x4 : Vec Ideal S1x1024 .f32)
    (x5 : Vec Ideal S1024x4096 .bf16) (x6 : Vec Ideal S4096x1024 .bf16) (x7 : Vec Ideal S1x1024 .f32) :
    out0_8 x0 x1 x2 x3 x4 x5 x6 x7
      = addf (res x0 x1 x2 x3) (rms (ffn (truncf .bf16 (rms (res x0 x1 x2 x3) x4) bitsLt_bf16_f32) (up x5 0) (down x6 0) (up x5 1) (down x6 1)
          (up x5 2) (down x6 2) (up x5 3) (down x6 3)) x7) := by
  have z : ∀ a : Fin 2, (![0, 0] : Fin 2 → Nat) a = 0 := by decide
  have u0 : View.ld x5 r0_3 = up x5 0 := funext fun i => View.ld_unit_apply_of x5 _ _ _ i _ fun a => match a with
    | ⟨0, _⟩ => by show (i 0).val = 0 + (i 0).val; omega
    | ⟨1, _⟩ => by show 1024 * 0 + (i 1).val = 0 + (i 1).val; omega
  have u1 : View.ld x5 r0_5 = up x5 1 := funext fun i => View.ld_unit_apply_of x5 _ _ _ i _ fun a => match a with
    | ⟨0, _⟩ => by show (i 0).val = 0 + (i 0).val; omega
    | ⟨1, _⟩ => by show 1024 * 1 + (i 1).val = 1024 + (i 1).val; omega
  have u2 : View.ld x5 r0_7 = up x5 2 := funext fun i => View.ld_unit_apply_of x5 _ _ _ i _ fun a => match a with
    | ⟨0, _⟩ => by show (i 0).val = 0 + (i 0).val; omega
    | ⟨1, _⟩ => by show 1024 * 2 + (i 1).val = 2048 + (i 1).val; omega
  have u3 : View.ld x5 r0_9 = up x5 3 := funext fun i => View.ld_unit_apply_of x5 _ _ _ i _ fun a => match a with
    | ⟨0, _⟩ => by show (i 0).val = 0 + (i 0).val; omega
    | ⟨1, _⟩ => by show 1024 * 3 + (i 1).val = 3072 + (i 1).val; omega
  have d0 : View.ld x6 r0_4 = down x6 0 := funext fun i => View.ld_unit_apply_of x6 _ _ _ i _ fun a => match a with
    | ⟨0, _⟩ => by show 1024 * 0 + (i 0).val = 0 + (i 0).val; omega
    | ⟨1, _⟩ => by show (i 1).val = 0 + (i 1).val; omega
  have d1 : View.ld x6 r0_6 = down x6 1 := funext fun i => View.ld_unit_apply_of x6 _ _ _ i _ fun a => match a with
    | ⟨0, _⟩ => by show 1024 * 1 + (i 0).val = 1024 + (i 0).val; omega
    | ⟨1, _⟩ => by show (i 1).val = 0 + (i 1).val; omega
  have d2 : View.ld x6 r0_8 = down x6 2 := funext fun i => View.ld_unit_apply_of x6 _ _ _ i _ fun a => match a with
    | ⟨0, _⟩ => by show 1024 * 2 + (i 0).val = 2048 + (i 0).val; omega
    | ⟨1, _⟩ => by show (i 1).val = 0 + (i 1).val; omega
  have d3 : View.ld x6 r0_10 = down x6 3 := funext fun i => View.ld_unit_apply_of x6 _ _ _ i _ fun a => match a with
    | ⟨0, _⟩ => by show 1024 * 3 + (i 0).val = 3072 + (i 0).val; omega
    | ⟨1, _⟩ => by show (i 1).val = 0 + (i 1).val; omega
  unfold out0_8 k0_pay10 k0_pay9 k0_pay8
  rw [View.canon_cons_unit_lit _ _ _ z, u0, u1, u2, u3, d0, d1, d2, d3, View.ld_unit_lit _ x0 z, View.ld_unit_lit _ x1 z, View.ld_unit_lit _ x2 z,
    View.ld_unit_lit _ x3 z, View.ld_unit_lit _ x4 z, View.ld_unit_lit _ x7 z]
  rfl

/-- The block that the body leaves, at a row and a lane. -/
theorem out_apply (x0 : Vec Ideal S512x1024 .f32) (x1 : Vec Ideal S512x1024 .bf16) (x2 : Vec Ideal S1024x1024 .bf16) (x3 x4 : Vec Ideal S1x1024 .f32)
    (x5 : Vec Ideal S1024x4096 .bf16) (x6 : Vec Ideal S4096x1024 .bf16) (x7 : Vec Ideal S1x1024 .f32) (r : Fin 512) (c : Fin 1024) :
    out0_8 x0 x1 x2 x3 x4 x5 x6 x7 (ix2 r c)
      = fin (mid (fun k => x0 (ix2 r k)) (fun k => x1 (ix2 r k)) (fun k e => x2 (ix2 k e)) (fun e => x3 (ix2 0 e))) (fun e => x4 (ix2 0 e))
          (fun k f => x5 (ix2 k f)) (fun f e => x6 (ix2 f e)) (fun e => x7 (ix2 0 e)) c := by
  have hn : ∀ k : Fin 1024, rms (res x0 x1 x2 x3) x4 (ix2 r k)
      = norm (mid (fun k => x0 (ix2 r k)) (fun k => x1 (ix2 r k)) (fun k e => x2 (ix2 k e)) (fun e => x3 (ix2 0 e))) (x4 (ix2 0 k)) k := fun k => by
    rw [rms_apply, funext (res_apply x0 x1 x2 x3 r)]
  have hc : ∀ (j : Fin 4) (e : Fin 1024), chunk (truncf .bf16 (rms (res x0 x1 x2 x3) x4) bitsLt_bf16_f32) (up x5 j) (down x6 j) (ix2 r e)
      = ∑ k, hidden (mid (fun k => x0 (ix2 r k)) (fun k => x1 (ix2 r k)) (fun k e => x2 (ix2 k e)) (fun e => x3 (ix2 0 e))) (fun e => x4 (ix2 0 e))
          (fun k f => x5 (ix2 k f)) (part j k) * x6 (ix2 (part j k) e) := fun j e => by
    rw [chunk_apply]
    refine Finset.sum_congr rfl fun k _ => congrArg (· * _) ?_
    unfold hidden
    exact congrArg (fun f => act f _) (funext hn)
  have hf : ∀ e : Fin 1024, ffn (truncf .bf16 (rms (res x0 x1 x2 x3) x4) bitsLt_bf16_f32) (up x5 0) (down x6 0) (up x5 1) (down x6 1)
          (up x5 2) (down x6 2) (up x5 3) (down x6 3) (ix2 r e)
      = ∑ f, hidden (mid (fun k => x0 (ix2 r k)) (fun k => x1 (ix2 r k)) (fun k e => x2 (ix2 k e)) (fun e => x3 (ix2 0 e))) (fun e => x4 (ix2 0 e))
          (fun k f => x5 (ix2 k f)) f * x6 (ix2 f e) := fun e => by
    rw [sum_parts, ← hc 0 e, ← hc 1 e, ← hc 2 e, ← hc 3 e]
    show Ideal.ofBits .f32 0x00000000#32 + _ + _ + _ + _ = _
    rw [Ideal.ofBits_zero_f32, zero_add]
  rw [out_eq]
  show res x0 x1 x2 x3 (ix2 r c) + rms _ x7 (ix2 r c) = _
  rw [res_apply, rms_apply, funext hf]
  rfl

end Cert.Proof.Tail.PI

end
-- ==== Proof.TailRef.lean ====
/- The reference's tail of the layer, entry by entry. -/
module

public import proofs.«01_k».proof.Proof.TailSpec
public import proofs.«01_k».proof.Proof.Gen.TailReferenceIdeal.Read

@[expose] public section

set_option maxHeartbeats 400000

noncomputable section

namespace Cert.Proof.Tail.RI

open Idealize.ShloMosaic Idealize.ShloMosaic.ValueIdx
open Cert.TailReferenceIdeal Cert.TailReferenceIdeal.Gen Cert.TailReferenceIdeal.Read

variable (x0 : S65536x1024.Idx → EReal) (x1 : S65536x1024.Idx → EReal) (x2 : S1024x1024.Idx → EReal) (x3 x4 : S1x1024.Idx → EReal)
  (x5 : S1024x4096.Idx → EReal) (x6 : S4096x1024.Idx → EReal) (x7 : S1x1024.Idx → EReal)

/-- A sum that starts at the zero constant. -/
theorem zero_sum (x : EReal) : Ideal.ofBits .f32 0x00000000#32 + x = x := by rw [Ideal.ofBits_zero_f32, zero_add]

/-- The output projection. -/
theorem proj_at (r : Fin 65536) (c : Fin 1024) :
    val_main_v2 (F := Ideal) x1 x2 (ix2 r c) = ∑ k : Fin 1024, x1 (ix2 r k) * x2 (ix2 k c) := by
  rw [val_main_v2_apply]
  refine Finset.sum_congr rfl fun k _ => ?_
  have e1 : lidx_main_v2 (ix2 r c) k = ix2 r k := funext fun a => match a with
    | ⟨0, _⟩ => rfl
    | ⟨1, _⟩ => rfl
  have e2 : ridx_main_v2 (ix2 r c) k = ix2 k c := funext fun a => match a with
    | ⟨0, _⟩ => rfl
    | ⟨1, _⟩ => rfl
  rw [e1, e2]
  rfl

/-- The rows after the first residual. -/
theorem mid_at (r : Fin 65536) (c : Fin 1024) :
    val_main_v15 (F := Ideal) x0 x1 x2 x3 (ix2 r c)
      = mid (fun k => x0 (ix2 r k)) (fun k => x1 (ix2 r k)) (fun k e => x2 (ix2 k e)) (fun e => x3 (ix2 0 e)) c := by
  have hs : val_main_v4 (F := Ideal) x1 x2 (ix1 r)
      = ∑ d : Fin 1024, (∑ k : Fin 1024, x1 (ix2 r k) * x2 (ix2 k d)) * (∑ k : Fin 1024, x1 (ix2 r k) * x2 (ix2 k d)) := by
    rw [val_main_v4_apply]
    refine (zero_sum _).trans (Finset.sum_congr rfl fun d _ => ?_)
    have e : idx_main_v4 (ix1 r) d = ix2 r d := funext fun a => match a with
      | ⟨0, _⟩ => rfl
      | ⟨1, _⟩ => rfl
    rw [e, val_main_v3_apply, proj_at]
    rfl
  have hr : idx_main_v5 (idx_main_v11 (ix2 r c)) = ix1 r := funext fun a => match a with
    | ⟨0, _⟩ => rfl
  have hg : idx_main_v13 (ix2 r c) = ix2 0 c := funext fun a => match a with
    | ⟨0, _⟩ => rfl
    | ⟨1, _⟩ => rfl
  rw [val_main_v15_apply, val_main_v14_apply, val_main_v12_apply, proj_at, val_main_v13_apply, hg, val_main_v11_apply, val_main_v10_apply,
    val_main_v9_apply, val_main_v7_apply, val_main_v5_apply, hr, hs, val_main_v6_apply, val_main_cst_0_apply, val_main_v8_apply, val_main_cst_1_apply]
  rfl

/-- The rows after the first residual, normalised. -/
theorem norm_at (r : Fin 65536) (c : Fin 1024) :
    val_main_v27 (F := Ideal) x0 x1 x2 x3 x4 (ix2 r c)
      = norm (mid (fun k => x0 (ix2 r k)) (fun k => x1 (ix2 r k)) (fun k e => x2 (ix2 k e)) (fun e => x3 (ix2 0 e))) (x4 (ix2 0 c)) c := by
  have hs : val_main_v17 (F := Ideal) x0 x1 x2 x3 (ix1 r)
      = ∑ d : Fin 1024, mid (fun k => x0 (ix2 r k)) (fun k => x1 (ix2 r k)) (fun k e => x2 (ix2 k e)) (fun e => x3 (ix2 0 e)) d
          * mid (fun k => x0 (ix2 r k)) (fun k => x1 (ix2 r k)) (fun k e => x2 (ix2 k e)) (fun e => x3 (ix2 0 e)) d := by
    rw [val_main_v17_apply]
    refine (zero_sum _).trans (Finset.sum_congr rfl fun d _ => ?_)
    have e : idx_main_v17 (ix1 r) d = ix2 r d := funext fun a => match a with
      | ⟨0, _⟩ => rfl
      | ⟨1, _⟩ => rfl
    rw [e, val_main_v16_apply, mid_at]
    rfl
  have hr : idx_main_v18 (idx_main_v24 (ix2 r c)) = ix1 r := funext fun a => match a with
    | ⟨0, _⟩ => rfl
  have hg : idx_main_v26 (ix2 r c) = ix2 0 c := funext fun a => match a with
    | ⟨0, _⟩ => rfl
    | ⟨1, _⟩ => rfl
  rw [val_main_v27_apply, val_main_v25_apply, mid_at, val_main_v26_apply, hg, val_main_v24_apply, val_main_v23_apply,
    val_main_v22_apply, val_main_v20_apply, val_main_v18_apply, hr, hs, val_main_v19_apply, val_main_cst_3_apply, val_main_v21_apply, val_main_cst_4_apply]
  rfl

/-- The hidden rows. -/
theorem hidden_at (r : Fin 65536) (f : Fin 4096) :
    val_main_v31 (F := Ideal) x0 x1 x2 x3 x4 x5 (ix2 r f)
      = hidden (mid (fun k => x0 (ix2 r k)) (fun k => x1 (ix2 r k)) (fun k e => x2 (ix2 k e)) (fun e => x3 (ix2 0 e))) (fun e => x4 (ix2 0 e))
          (fun k f => x5 (ix2 k f)) f := by
  have hd : val_main_v29 (F := Ideal) x0 x1 x2 x3 x4 x5 (ix2 r f)
      = ∑ k : Fin 1024, norm (mid (fun k => x0 (ix2 r k)) (fun k => x1 (ix2 r k)) (fun k e => x2 (ix2 k e)) (fun e => x3 (ix2 0 e))) (x4 (ix2 0 k)) k
          * x5 (ix2 k f) := by
    rw [val_main_v29_apply]
    refine Finset.sum_congr rfl fun k _ => ?_
    have e1 : lidx_main_v29 (ix2 r f) k = ix2 r k := funext fun a => match a with
      | ⟨0, _⟩ => rfl
      | ⟨1, _⟩ => rfl
    have e2 : ridx_main_v29 (ix2 r f) k = ix2 k f := funext fun a => match a with
      | ⟨0, _⟩ => rfl
      | ⟨1, _⟩ => rfl
    rw [e1, e2, norm_at]
    rfl
  rw [val_main_v31_apply, val_main_v30_apply, hd, val_main_call0_v0_apply, val_main_call0_cst_apply]
  rfl

/-- The reference's result. -/
theorem out_at (r : Fin 65536) (c : Fin 1024) :
    val_main_v46 (F := Ideal) x0 x1 x2 x3 x4 x5 x6 x7 (ix2 r c)
      = fin (mid (fun k => x0 (ix2 r k)) (fun k => x1 (ix2 r k)) (fun k e => x2 (ix2 k e)) (fun e => x3 (ix2 0 e))) (fun e => x4 (ix2 0 e))
          (fun k f => x5 (ix2 k f)) (fun f e => x6 (ix2 f e)) (fun e => x7 (ix2 0 e)) c := by
  have hd : ∀ e : Fin 1024, val_main_v33 (F := Ideal) x0 x1 x2 x3 x4 x5 x6 (ix2 r e)
      = ∑ f : Fin 4096, hidden (mid (fun k => x0 (ix2 r k)) (fun k => x1 (ix2 r k)) (fun k e => x2 (ix2 k e)) (fun e => x3 (ix2 0 e))) (fun e => x4 (ix2 0 e))
          (fun k f => x5 (ix2 k f)) f * x6 (ix2 f e) := by
    intro e
    rw [val_main_v33_apply]
    refine Finset.sum_congr rfl fun f _ => ?_
    have e1 : lidx_main_v33 (ix2 r e) f = ix2 r f := funext fun a => match a with
      | ⟨0, _⟩ => rfl
      | ⟨1, _⟩ => rfl
    have e2 : ridx_main_v33 (ix2 r e) f = ix2 f e := funext fun a => match a with
      | ⟨0, _⟩ => rfl
      | ⟨1, _⟩ => rfl
    rw [e1, e2, hidden_at]
    rfl
  have hs : val_main_v35 (F := Ideal) x0 x1 x2 x3 x4 x5 x6 (ix1 r)
      = ∑ d : Fin 1024, val_main_v33 (F := Ideal) x0 x1 x2 x3 x4 x5 x6 (ix2 r d) * val_main_v33 (F := Ideal) x0 x1 x2 x3 x4 x5 x6 (ix2 r d) := by
    rw [val_main_v35_apply]
    refine (zero_sum _).trans (Finset.sum_congr rfl fun d _ => ?_)
    have e : idx_main_v35 (ix1 r) d = ix2 r d := funext fun a => match a with
      | ⟨0, _⟩ => rfl
      | ⟨1, _⟩ => rfl
    rw [e, val_main_v34_apply]
    rfl
  have hr : idx_main_v36 (idx_main_v42 (ix2 r c)) = ix1 r := funext fun a => match a with
    | ⟨0, _⟩ => rfl
  have hg : idx_main_v44 (ix2 r c) = ix2 0 c := funext fun a => match a with
    | ⟨0, _⟩ => rfl
    | ⟨1, _⟩ => rfl
  rw [val_main_v46_apply, mid_at, val_main_v45_apply, val_main_v43_apply, val_main_v44_apply, hg, val_main_v42_apply, val_main_v41_apply,
    val_main_v40_apply, val_main_v38_apply, val_main_v36_apply, hr, hs, val_main_v37_apply, val_main_cst_6_apply, val_main_v39_apply, val_main_cst_7_apply]
  unfold fin
  rw [← funext hd]
  rfl

end Cert.Proof.Tail.RI

end
-- ==== Proof.TailValue.lean ====
/- The tail's array after the kernel's run is the reference's, and the equality of the two runs. -/
module

public import proofs.«01_k».proof.Proof.TailKer
public import proofs.«01_k».proof.Proof.TailRef
public import proofs.«01_k».proof.Defs
public import proofs.«01_k».proof.Proof.Gen.Tail.Frame
public import proofs.«01_k».proof.Proof.Gen.TailReferenceIdeal.Run

@[expose] public section

set_option maxHeartbeats 400000

noncomputable section

namespace Cert.Proof.Tail.PI

open Idealize.ShloMosaic Idealize.ShloMosaic.TcCoe Idealize.ShloMosaic.Tactic Idealize.ShloMosaic.ValueIdx
open Cert.TailIdeal Cert.TailIdeal.Gen Cert.TailIdeal.Value
open Idealize.SL Idealize.SL.Sem

variable (m : (ℓ : Loc nD τ sig) → Buf (Elt Ideal) ℓ)

/-- There are 128 grid points. -/
theorem lt_points (t : Fin cfg0.N) : t.val < 128 := t.isLt

/-- Row `r` of the block of 512 rows that point `t` computes. -/
def row (t : Fin cfg0.N) (r : Fin 512) : Fin 65536 := ⟨512 * t.val + r.val, by have := lt_points t; omega⟩

/-- Where point `t` reads argument 0. -/
theorem at0 : ∀ t : Fin cfg0.N, win0_0.index t 0 = t.val ∧ win0_0.index t 1 = 0 := by decide +kernel

/-- The block of argument 0 that point `t` reads. -/
theorem blk0 (c : Dev nD) (t : Fin cfg0.N) (r : Fin 512) (l : Fin 1024) :
    (iblk m c 0 t : Vec Ideal S512x1024 .f32) (ix2 r l) = (m ((c.tc : Thread nD τ).loc main_arg0) : Vec Ideal S65536x1024 .f32) (ix2 (row t r) l) := by
  have hi := at0 t
  unfold iblk
  rw [View.read_apply]
  show V m c main_arg0 _ = m (c.tc.loc main_arg0) _
  unfold V
  congr 1
  funext a
  apply Fin.ext
  match a with
  | ⟨0, _⟩ => show win0_0.index t 0 * 512 + 1 * r.val = 512 * t.val + r.val; rw [hi.1]; omega
  | ⟨1, _⟩ => show win0_0.index t 1 * 1024 + 1 * l.val = l.val; rw [hi.2]; omega

/-- Where point `t` reads argument 1. -/
theorem at1 : ∀ t : Fin cfg0.N, win0_1.index t 0 = t.val ∧ win0_1.index t 1 = 0 := by decide +kernel

/-- The block of argument 1 that point `t` reads. -/
theorem blk1 (c : Dev nD) (t : Fin cfg0.N) (r : Fin 512) (l : Fin 1024) :
    (iblk m c 1 t : Vec Ideal S512x1024 .bf16) (ix2 r l) = (m ((c.tc : Thread nD τ).loc main_arg1) : Vec Ideal S65536x1024 .bf16) (ix2 (row t r) l) := by
  have hi := at1 t
  unfold iblk
  rw [View.read_apply]
  show V m c main_arg1 _ = m (c.tc.loc main_arg1) _
  unfold V
  congr 1
  funext a
  apply Fin.ext
  match a with
  | ⟨0, _⟩ => show win0_1.index t 0 * 512 + 1 * r.val = 512 * t.val + r.val; rw [hi.1]; omega
  | ⟨1, _⟩ => show win0_1.index t 1 * 1024 + 1 * l.val = l.val; rw [hi.2]; omega

/-- Where point `t` reads argument 2. -/
theorem at2 : ∀ t : Fin cfg0.N, win0_2.index t 0 = 0 ∧ win0_2.index t 1 = 0 := by decide +kernel

/-- The block of argument 2 that point `t` reads. -/
theorem blk2 (c : Dev nD) (t : Fin cfg0.N) (r : Fin 1024) (l : Fin 1024) :
    (iblk m c 2 t : Vec Ideal S1024x1024 .bf16) (ix2 r l) = (m ((c.tc : Thread nD τ).loc main_arg2) : Vec Ideal S1024x1024 .bf16) (ix2 (r) l) := by
  have hi := at2 t
  unfold iblk
  rw [View.read_apply]
  show V m c main_arg2 _ = m (c.tc.loc main_arg2) _
  unfold V
  congr 1
  funext a
  apply Fin.ext
  match a with
  | ⟨0, _⟩ => show win0_2.index t 0 * 1024 + 1 * r.val = r.val; rw [hi.1]; omega
  | ⟨1, _⟩ => show win0_2.index t 1 * 1024 + 1 * l.val = l.val; rw [hi.2]; omega

/-- Where point `t` reads argument 3. -/
theorem at3 : ∀ t : Fin cfg0.N, win0_3.index t 0 = 0 ∧ win0_3.index t 1 = 0 := by decide +kernel

/-- The block of argument 3 that point `t` reads. -/
theorem blk3 (c : Dev nD) (t : Fin cfg0.N) (r : Fin 1) (l : Fin 1024) :
    (iblk m c 3 t : Vec Ideal S1x1024 .f32) (ix2 r l) = (m ((c.tc : Thread nD τ).loc main_arg3) : Vec Ideal S1x1024 .f32) (ix2 (r) l) := by
  have hi := at3 t
  unfold iblk
  rw [View.read_apply]
  show V m c main_arg3 _ = m (c.tc.loc main_arg3) _
  unfold V
  congr 1
  funext a
  apply Fin.ext
  match a with
  | ⟨0, _⟩ => show win0_3.index t 0 * 1 + 1 * r.val = r.val; rw [hi.1]; omega
  | ⟨1, _⟩ => show win0_3.index t 1 * 1024 + 1 * l.val = l.val; rw [hi.2]; omega

/-- Where point `t` reads argument 4. -/
theorem at4 : ∀ t : Fin cfg0.N, win0_4.index t 0 = 0 ∧ win0_4.index t 1 = 0 := by decide +kernel

/-- The block of argument 4 that point `t` reads. -/
theorem blk4 (c : Dev nD) (t : Fin cfg0.N) (r : Fin 1) (l : Fin 1024) :
    (iblk m c 4 t : Vec Ideal S1x1024 .f32) (ix2 r l) = (m ((c.tc : Thread nD τ).loc main_arg4) : Vec Ideal S1x1024 .f32) (ix2 (r) l) := by
  have hi := at4 t
  unfold iblk
  rw [View.read_apply]
  show V m c main_arg4 _ = m (c.tc.loc main_arg4) _
  unfold V
  congr 1
  funext a
  apply Fin.ext
  match a with
  | ⟨0, _⟩ => show win0_4.index t 0 * 1 + 1 * r.val = r.val; rw [hi.1]; omega
  | ⟨1, _⟩ => show win0_4.index t 1 * 1024 + 1 * l.val = l.val; rw [hi.2]; omega

/-- Where point `t` reads argument 5. -/
theorem at5 : ∀ t : Fin cfg0.N, win0_5.index t 0 = 0 ∧ win0_5.index t 1 = 0 := by decide +kernel

/-- The block of argument 5 that point `t` reads. -/
theorem blk5 (c : Dev nD) (t : Fin cfg0.N) (r : Fin 1024) (l : Fin 4096) :
    (iblk m c 5 t : Vec Ideal S1024x4096 .bf16) (ix2 r l) = (m ((c.tc : Thread nD τ).loc main_arg5) : Vec Ideal S1024x4096 .bf16) (ix2 (r) l) := by
  have hi := at5 t
  unfold iblk
  rw [View.read_apply]
  show V m c main_arg5 _ = m (c.tc.loc main_arg5) _
  unfold V
  congr 1
  funext a
  apply Fin.ext
  match a with
  | ⟨0, _⟩ => show win0_5.index t 0 * 1024 + 1 * r.val = r.val; rw [hi.1]; omega
  | ⟨1, _⟩ => show win0_5.index t 1 * 4096 + 1 * l.val = l.val; rw [hi.2]; omega

/-- Where point `t` reads argument 6. -/
theorem at6 : ∀ t : Fin cfg0.N, win0_6.index t 0 = 0 ∧ win0_6.index t 1 = 0 := by decide +kernel

/-- The block of argument 6 that point `t` reads. -/
theorem blk6 (c : Dev nD) (t : Fin cfg0.N) (r : Fin 4096) (l : Fin 1024) :
    (iblk m c 6 t : Vec Ideal S4096x1024 .bf16) (ix2 r l) = (m ((c.tc : Thread nD τ).loc main_arg6) : Vec Ideal S4096x1024 .bf16) (ix2 (r) l) := by
  have hi := at6 t
  unfold iblk
  rw [View.read_apply]
  show V m c main_arg6 _ = m (c.tc.loc main_arg6) _
  unfold V
  congr 1
  funext a
  apply Fin.ext
  match a with
  | ⟨0, _⟩ => show win0_6.index t 0 * 4096 + 1 * r.val = r.val; rw [hi.1]; omega
  | ⟨1, _⟩ => show win0_6.index t 1 * 1024 + 1 * l.val = l.val; rw [hi.2]; omega

/-- Where point `t` reads argument 7. -/
theorem at7 : ∀ t : Fin cfg0.N, win0_7.index t 0 = 0 ∧ win0_7.index t 1 = 0 := by decide +kernel

/-- The block of argument 7 that point `t` reads. -/
theorem blk7 (c : Dev nD) (t : Fin cfg0.N) (r : Fin 1) (l : Fin 1024) :
    (iblk m c 7 t : Vec Ideal S1x1024 .f32) (ix2 r l) = (m ((c.tc : Thread nD τ).loc main_arg7) : Vec Ideal S1x1024 .f32) (ix2 (r) l) := by
  have hi := at7 t
  unfold iblk
  rw [View.read_apply]
  show V m c main_arg7 _ = m (c.tc.loc main_arg7) _
  unfold V
  congr 1
  funext a
  apply Fin.ext
  match a with
  | ⟨0, _⟩ => show win0_7.index t 0 * 1 + 1 * r.val = r.val; rw [hi.1]; omega
  | ⟨1, _⟩ => show win0_7.index t 1 * 1024 + 1 * l.val = l.val; rw [hi.2]; omega

/-- Where point `t` writes, and that it does. -/
theorem at8 : ∀ t : Fin cfg0.N, win0_8.index t 0 = t.val ∧ win0_8.index t 1 = 0 := by decide +kernel
/-- Every point writes its block back. -/
theorem flush8 : ∀ t : Fin cfg0.N, (cfg0.win 8).flush t = true := (by decide +kernel : ∀ t : Fin cfg0.N, win0_8.flush t = true)

/-- The reference's array, from the kernel's arguments. -/
abbrev want (c : Dev nD) : Vec Ideal S65536x1024 .f32 := Cert.TailReferenceIdeal.Read.val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

/-- The block that point `t` computes is the reference's rows. -/
theorem block_eq (c : Dev nD) (t : Fin cfg0.N) (r : Fin 512) (l : Fin 1024) :
    out0_8 (iblk m c 0 t) (iblk m c 1 t) (iblk m c 2 t) (iblk m c 3 t) (iblk m c 4 t) (iblk m c 5 t) (iblk m c 6 t) (iblk m c 7 t) (ix2 r l)
      = want m c (ix2 (row t r) l) := by
  refine (out_apply _ _ _ _ _ _ _ _ r l).trans (Eq.trans ?_ (RI.out_at _ _ _ _ _ _ _ _ (row t r) l).symm)
  simp only [blk0 m c t, blk1 m c t, blk2 m c t, blk3 m c t, blk4 m c t, blk5 m c t, blk6 m c t, blk7 m c t]

/-- What point `t` writes back is its block of the reference's array. -/
theorem flushed_eq (c : Dev nD) (t : Fin cfg0.N) :
    (dats m 0 c).flushed 8 t = ((cfg0.win 8).blk t).view.read (Elt Ideal) (want m c) := by
  rw [flushed8]
  have hi := at8 t
  funext y
  have hy : y = ix2 (n0 := 512) (n1 := 1024) (y 0) (y 1) := by
    funext a
    match a with
    | ⟨0, _⟩ => rfl
    | ⟨1, _⟩ => rfl
  rw [View.read_apply]
  refine ((congrArg (out0_8 _ _ _ _ _ _ _ _) hy).trans (block_eq m c t (y 0) (y 1))).trans (congrArg (want m c) ?_)
  funext a
  apply Fin.ext
  match a with
  | ⟨0, _⟩ => show 512 * t.val + (y 0).val = win0_8.index t 0 * 512 + 1 * (y 0).val; rw [hi.1]; omega
  | ⟨1, _⟩ => show (y 1).val = win0_8.index t 1 * 1024 + 1 * (y 1).val; rw [hi.2]; omega

/-- An index lies in a point's block just where each coordinate lies in the block's range. -/
theorem mem_block (t : Fin cfg0.N) (i : S65536x1024.Idx) :
    i ∈ ((cfg0.win 8).blk t).view.set
      ↔ ∀ a : Fin 2, win0_8.index t a * S512x1024.size a ≤ (i a).val ∧ (i a).val < win0_8.index t a * S512x1024.size a + S512x1024.size a := by
  show i ∈ ((View.whole (Pipeline.arrRef spec0 8)).slice (win0_8.rect t)).set ↔ _
  rw [View.set_slice_whole, Rect.mem_set_unit]
  exact Iff.rfl

/-- Every index lies in the block of the point of its row. -/
theorem cover (i : S65536x1024.Idx) : ∃ t : Fin cfg0.N, (cfg0.win 8).flush t = true ∧ i ∈ ((cfg0.win 8).blk t).view.set := by
  have h0 : (i 0).val < 65536 := (i 0).isLt
  have h1 : (i 1).val < 1024 := (i 1).isLt
  refine ⟨⟨(i 0).val / 512, lt_of_lt_of_eq (by omega) N_0.symm⟩, flush8 _, ?_⟩
  have hi := at8 ⟨(i 0).val / 512, lt_of_lt_of_eq (by omega) N_0.symm⟩
  rw [mem_block]
  intro a
  match a with
  | ⟨0, _⟩ => show win0_8.index _ 0 * 512 ≤ (i 0).val ∧ (i 0).val < win0_8.index _ 0 * 512 + 512; rw [hi.1]; dsimp only; omega
  | ⟨1, _⟩ => show win0_8.index _ 1 * 1024 ≤ (i 1).val ∧ (i 1).val < win0_8.index _ 1 * 1024 + 1024; rw [hi.2]; omega

/-- The array after the run is the reference's. -/
theorem final_eq (c : Dev nD) : (dats m 0 c).arrAt 8 cfg0.N = want m c :=
  (dats m 0 c).arrAt_eq_of_cover 8 _ (fun t _ => flushed_eq m c t) cover

end Cert.Proof.Tail.PI

namespace Cert.Proof.Tail

open Idealize.ShloMosaic Idealize.ShloMosaic.TcCoe Idealize.ShloMosaic.Tactic
open Idealize.SL Idealize.SL.Sem

/-- The tail runs to its end, leaving its arguments. -/
theorem frame_p : Cert.quiescent_Tail := fun m ρ _ => Cert.Tail.Gen.frame m ρ
/-- So does its form over the reals. -/
theorem frame_pi : Cert.quiescent_TailIdeal := fun m ρ _ => Cert.TailIdeal.Gen.frame m ρ
/-- So does its reference over the reals. -/
theorem frame_ri : Cert.quiescent_TailReferenceIdeal := fun m ρ _ =>
  (θ_run Cert.TailReferenceIdeal.defs _ _).mono (fun r h => ⟨fun c => (h c).2, Idealize.ShloMosaic.sem_eq_zero_of_no_sems (by decide) r.2⟩)
    (Cert.TailReferenceIdeal.Value.run (F := Ideal) m ρ)
/-- The tail's form over the reals is the tail itself. -/
theorem preserves : Cert.preserves_Tail_TailIdeal := trivial

/-- Over the extended reals the tail computes what its reference does. -/
theorem algebraic : Cert.algebraic_TailIdeal_TailReferenceIdeal := by
  intro m ρ m' ρ' hpre hagree
  refine ⟨_, Cert.TailIdeal.Value.run_blocks (F := Ideal) m ρ, ?_⟩
  refine (θ_run Cert.TailReferenceIdeal.defs _ _).mono (fun _ h c => ⟨(h c).1.trans ?_, (h c).2⟩)
    (Cert.TailReferenceIdeal.Value.run (F := Ideal) m' ρ')
  obtain ⟨e0, e1, e2, e3, e4, e5, e6, e7⟩ := hagree c
  rw [Cert.TailReferenceIdeal.Read.val_main_v46_eq, e0, e1, e2, e3, e4, e5, e6, e7]
  exact (PI.final_eq m c).symm

end Cert.Proof.Tail

end
-- ==== Proof.ProjSpec.lean ====
/- What the projections compute for one position: the input row, normalised by its root mean square, times the columns of the
   input weights; the latent row is normalised once more. -/
module

public import Idealize.ShloMosaic.PureOps.Ideal

@[expose] public section

noncomputable section

namespace Cert.Proof.Proj

open Idealize.ShloMosaic

/-- The root mean square norm of a row at a place, with the row's length as an extended real and that place's gain. -/
def norm {n : ℕ} (len : EReal) (v : Fin n → EReal) (g : EReal) (c : Fin n) : EReal :=
  v c * Ideal.rsqrt (Ideal.div (∑ d : Fin n, v d * v d) len + Ideal.ofBits .f32 0x358637BD#32) * g

/-- The normalised input row. -/
def hid (x g : Fin 1024 → EReal) (k : Fin 1024) : EReal := norm (Ideal.ofBits .f32 0x44800000#32) x (g k) k

/-- The normalised input row times a column of weights. -/
def col (x g w : Fin 1024 → EReal) : EReal := ∑ k : Fin 1024, hid x g k * w k

/-- The normalised latent row. -/
def lat (x g : Fin 1024 → EReal) (w : Fin 1024 → Fin 256 → EReal) (g' : Fin 256 → EReal) (c : Fin 256) : EReal :=
  norm (Ideal.ofBits .f32 0x43800000#32) (fun d => col x g fun k => w k d) (g' c) c

/-- Row `R` of all the rows is in batch `R / 2048`. -/
def bat (R : Fin 65536) : Fin 32 := ⟨R.val / 2048, by omega⟩
/-- Row `R` of all the rows is at position `R % 2048` of its batch. -/
def pos (R : Fin 65536) : Fin 2048 := ⟨R.val % 2048, by omega⟩
/-- Place `c` of a stretch of `n` columns that starts at column `o`. -/
def place {n : ℕ} (o : ℕ) (h : o + n ≤ 2208) (c : Fin n) : Fin 2208 := ⟨o + c.val, by omega⟩
/-- Lane `j` of head `h` among the 512 lanes of four heads. -/
def lane (h : Fin 4) (j : Fin 128) : Fin 512 := ⟨h.val * 128 + j.val, by omega⟩

end Cert.Proof.Proj

end
-- ==== Proof.ProjKer.lean ====
/- What the projections' kernel computes of one block of 512 rows, row by row. -/
module

public import proofs.«01_k».proof.Proof.ProjSpec
public import proofs.«01_k».proof.Proof.Step
public import proofs.«01_k».proof.Proof.Gen.ProjIdeal.Value
public import Idealize.ShloMosaic.Lib.Pipeline.ValueKit.Tiles
public import Idealize.ShloMosaic.Lib.Pointwise.Contract

@[expose] public section

set_option maxHeartbeats 400000

noncomputable section

namespace Cert.Proof.Proj.PI

open Idealize.ShloMosaic hiding ix1 ix2 ix3
open Idealize.ShloMosaic.TcCoe Idealize.ShloMosaic.ValueIdx
open Cert.ProjIdeal Cert.ProjIdeal.Gen Cert.ProjIdeal.Value
open Cert.Proof.PI (col_apply)

/-- A lane put beside a row. -/
theorem lift_lane (r : Fin 512) (j : Fin 1024) : reduces_S512x1024_S512.lift (ix1 r) j = ix2 r j := by
  funext a
  match a with
  | ⟨0, _⟩ => rfl
  | ⟨1, _⟩ => rfl

/-- A lane of a latent put beside a row. -/
theorem lift_lat (r : Fin 512) (j : Fin 256) : reduces_S512x256_S512.lift (ix1 r) j = ix2 r j := by
  funext a
  match a with
  | ⟨0, _⟩ => rfl
  | ⟨1, _⟩ => rfl

/-- The normalised rows of a block. -/
theorem hid_apply (x : Vec Ideal S512x1024 .f32) (g : Vec Ideal S1x1024 .f32) (r : Fin 512) (c : Fin 1024) :
    k0_pay1 x g (ix2 r c) = hid (fun k => x (ix2 r k)) (fun k => g (ix2 0 k)) c := by
  have hs : shapeCast S512x1 (multiReduction (F := Ideal) .add [1] S512 (mulf (φ := .f32) x x) 0x00000000#32 reduces_S512x1024_S512 (.inl rfl) rfl)
      shapeCasts_S512_S512x1 (ix2 r 0) = ∑ d : Fin 1024, x (ix2 r d) * x (ix2 r d) := by
    rw [shapeCast_a_a1_apply]
    refine (Ideal.multiReduction_add_single _ _ _ _ _ _).trans ?_
    exact Finset.sum_congr rfl fun j _ => congrArg (mulf (F := Ideal) (φ := .f32) x x) (lift_lane r j)
  unfold k0_pay1
  rw [shapeCast_self, shapeCast_self]
  show x (ix2 r c) * broadcastTo S512x1024 _ broadcasts_S512x1_S512x1024 (ix2 r c) * broadcastTo S512x1024 g broadcasts_S1x1024_S512x1024 (ix2 r c) = _
  rw [col_apply, broadcastTo_1b_ab_apply]
  show x (ix2 r c) * Ideal.rsqrt (Ideal.div (shapeCast S512x1 _ shapeCasts_S512_S512x1 (ix2 r 0)) (Ideal.ofBits .f32 0x44800000#32)
    + Ideal.ofBits .f32 0x358637BD#32) * _ = _
  rw [hs]
  rfl

/-- The product of a block of rows with some columns of weights. -/
theorem prod_apply {N : ℕ} (a : FVec Ideal S512x1024 .bf16) (b : FVec Ideal ⟨2, ![1024, N]⟩ .bf16) (r : Fin 512) (c : Fin N) :
    matmul (F := Ideal) (φ₁ := .bf16) (φ₂ := .bf16) (DotDims.plain 512 1024 N) none a b (constant ⟨2, ![512, N]⟩ .f32 0x00000000#32) (ix2 r c)
      = ∑ k : Fin 1024, a (ix2 r k) * b (ix2 k c) := by
  show FloatOps.matmul (φ₂ := .bf16) (DotDims.plain 512 1024 N) none a b (constant ⟨2, ![512, N]⟩ .f32 0x00000000#32) (ix2 r c) = _
  rw [Ideal.matmul_plain_apply, show constant (F := Ideal) ⟨2, ![512, N]⟩ .f32 0x00000000#32 (ix2 r c) = (0 : EReal) from Ideal.ofBits_zero_f32, zero_add]

/-- The product of some rows of weights with a block of rows turned round. -/
theorem turned_apply (a b : FVec Ideal S512x1024 .bf16) (c r : Fin 512) :
    matmul (F := Ideal) (φ₁ := .bf16) (φ₂ := .bf16) dot_S512x1024_S512x1024_S512x512_1_1_0_0_n_n none a b (constant S512x512 .f32 0x00000000#32) (ix2 c r)
      = ∑ k : Fin 1024, a (ix2 c k) * b (ix2 r k) := by
  refine (Ideal.matmul_apply₁_of dot_S512x1024_S512x1024_S512x512_1_1_0_0_n_n (a := 1) rfl rfl a b _ (ix2 c r) (fun k => ix2 c k) (fun k => ix2 r k)
    (fun k => ?_) (fun k => ?_)).trans ?_
  · funext x
    match x with
    | ⟨0, _⟩ => rfl
    | ⟨1, _⟩ => rfl
  · funext x
    match x with
    | ⟨0, _⟩ => rfl
    | ⟨1, _⟩ => rfl
  · rw [show constant (F := Ideal) S512x512 .f32 0x00000000#32 (ix2 c r) = (0 : EReal) from Ideal.ofBits_zero_f32, zero_add]
    rfl

variable (x0 : Vec Ideal S512x1024 .f32) (x1 : Vec Ideal S512x512 .f32) (x2 : Vec Ideal S1x1024 .f32) (x3 : Vec Ideal S1024x1920 .bf16)
  (x4 : Vec Ideal S512x1024 .bf16) (x5 : Vec Ideal S1x384 .f32) (x6 x7 : Vec Ideal S384x1024 .bf16) (x8 : Vec Ideal S1x256 .f32)
  (x9 : Vec Ideal S256x1024 .bf16) (x10 : Vec Ideal S256x512 .bf16)

/-- The origin of a plane. -/
theorem org2 : ∀ a : Fin 2, (![0, 0] : Fin 2 → Nat) a = 0 := by decide

/-- The block of scaled queries. -/
theorem q_apply (r c : Fin 512) :
    out0_11 x0 x1 x2 x3 x4 x5 x6 x7 x8 x9 x10 (ix2 r c)
      = col (fun k => x0 (ix2 r k)) (fun k => x2 (ix2 0 k)) (fun k => x3 (ix2 k ⟨0 + c.val, by omega⟩)) * Ideal.ofBits .f32 0x3E38AA3B#32 := by
  unfold out0_11
  rw [View.canon_cons_unit_lit _ _ _ org2, View.ld_unit_lit _ x0 org2, View.ld_unit_lit _ x2 org2]
  unfold k0_pay2
  rw [shapeCast_self]
  refine congrArg (· * Ideal.ofBits .f32 0x3E38AA3B#32) ((prod_apply (N := 512) _ _ r c).trans (Finset.sum_congr rfl fun k _ => ?_))
  refine congrArg₂ (· * ·) (hid_apply x0 x2 r k) (View.ld_unit_apply_of x3 _ _ _ (ix2 k c) _ fun a => match a with
    | ⟨0, _⟩ => by show k.val = 0 + k.val; omega
    | ⟨1, _⟩ => rfl)

/-- The block of keys. -/
theorem k_apply (c r : Fin 512) :
    out0_12 x0 x1 x2 x3 x4 x5 x6 x7 x8 x9 x10 (ix3 0 c r)
      = col (fun k => x0 (ix2 r k)) (fun k => x2 (ix2 0 k)) (fun k => x4 (ix2 c k)) := by
  unfold out0_12
  rw [canon12_eq, View.ld_unit_lit _ x0 org2, View.ld_unit_lit _ x2 org2, View.ld_unit_lit _ x4 org2]
  have e : ix12_0 (ix3 0 c r) = ix2 c r := funext fun a => match a with
    | ⟨0, _⟩ => rfl
    | ⟨1, _⟩ => rfl
  show k0_pay3 x0 x2 x4 (ix12_0 (ix3 0 c r)) = _
  rw [e]
  unfold k0_pay3
  rw [shapeCast_self]
  exact (turned_apply _ _ c r).trans (Finset.sum_congr rfl fun k _ => (mul_comm _ _).trans (congrArg (· * _) (hid_apply x0 x2 r k)))

/-- The block of values. -/
theorem v_apply (r : Fin 512) (h : Fin 4) (j : Fin 128) :
    out0_14 x0 x1 x2 x3 x4 x5 x6 x7 x8 x9 x10 (ix3 r h j)
      = col (fun k => x0 (ix2 r k)) (fun k => x2 (ix2 0 k)) (fun k => x3 (ix2 k ⟨512 + (lane h j).val, by omega⟩)) := by
  unfold out0_14 k0_pay41
  rw [canon14_eq, View.ld_unit_lit _ x0 org2, View.ld_unit_lit _ x2 org2]
  have e : ix14_0 (ix3 r h j) = ix2 r (lane h j) := funext fun a => match a with
    | ⟨0, _⟩ => rfl
    | ⟨1, _⟩ => rfl
  show k0_pay6 (k0_pay1 x0 x2) (View.ld x3 r0_6) (ix14_0 (ix3 r h j)) = _
  rw [e]
  unfold k0_pay6
  rw [shapeCast_self]
  refine (prod_apply (N := 512) _ _ r (lane h j)).trans (Finset.sum_congr rfl fun k _ => ?_)
  refine congrArg₂ (· * ·) (hid_apply x0 x2 r k) (View.ld_unit_apply_of x3 _ _ _ (ix2 k (lane h j)) _ fun a => match a with
    | ⟨0, _⟩ => by show k.val = 0 + k.val; omega
    | ⟨1, _⟩ => rfl)

/-- The norm of a block of latents. -/
theorem pay28_apply (y : FVec Ideal S512x1024 .bf16) (w : Vec Ideal S1024x256 .bf16) (g : Vec Ideal S1x256 .f32) (r : Fin 512) (c : Fin 256) :
    k0_pay28 y w g (ix2 r c)
      = norm (Ideal.ofBits .f32 0x43800000#32) (fun d => ∑ k : Fin 1024, y (ix2 r k) * w (ix2 k d)) (g (ix2 0 c)) c := by
  unfold k0_pay28
  rw [shapeCast_self, shapeCast_self]
  have hp : ∀ d : Fin 256, matmul (F := Ideal) (φ₁ := .bf16) (φ₂ := .bf16) dot_S512x1024_S1024x256_S512x256_1_0_0_1_n_n none y w (constant S512x256 .f32 0x00000000#32) (ix2 r d)
      = ∑ k : Fin 1024, y (ix2 r k) * w (ix2 k d) := fun d => prod_apply (N := 256) y w r d
  generalize matmul (F := Ideal) (φ₁ := .bf16) (φ₂ := .bf16) dot_S512x1024_S1024x256_S512x256_1_0_0_1_n_n none y w (constant S512x256 .f32 0x00000000#32) = p at *
  have hs : shapeCast S512x1 (multiReduction (F := Ideal) .add [1] S512 (mulf p p) 0x00000000#32 reduces_S512x256_S512 (.inl rfl) rfl)
      shapeCasts_S512_S512x1 (ix2 r 0) = ∑ d : Fin 256, p (ix2 r d) * p (ix2 r d) := by
    rw [shapeCast_a_a1_apply]
    refine (Ideal.multiReduction_add_single _ _ _ _ _ _).trans ?_
    exact Finset.sum_congr rfl fun j _ => congrArg (mulf p p) (lift_lat r j)
  show p (ix2 r c) * broadcastTo S512x256 _ broadcasts_S512x1_S512x256 (ix2 r c) * broadcastTo S512x256 g broadcasts_S1x256_S512x256 (ix2 r c) = _
  rw [col_apply, broadcastTo_1b_ab_apply]
  show p (ix2 r c) * Ideal.rsqrt (Ideal.div (shapeCast S512x1 _ shapeCasts_S512_S512x1 (ix2 r 0)) (Ideal.ofBits .f32 0x43800000#32)
    + Ideal.ofBits .f32 0x358637BD#32) * _ = _
  rw [hs, ← funext hp]
  rfl

/-- The block of normalised latents. -/
theorem l_apply (r : Fin 512) (c : Fin 256) :
    out0_17 x0 x1 x2 x3 x4 x5 x6 x7 x8 x9 x10 (ix2 r c)
      = lat (fun k => x0 (ix2 r k)) (fun k => x2 (ix2 0 k)) (fun k d => x3 (ix2 k ⟨1408 + d.val, by omega⟩)) (fun d => x8 (ix2 0 d)) c := by
  unfold out0_17 k0_pay41
  rw [View.canon_cons_unit_lit _ _ _ org2, View.ld_unit_lit _ x0 org2, View.ld_unit_lit _ x2 org2, View.ld_unit_lit _ x8 org2]
  refine (pay28_apply _ _ _ r c).trans ?_
  refine congrArg (fun v => norm (Ideal.ofBits .f32 0x43800000#32) v (x8 (ix2 0 c)) c) (funext fun d => Finset.sum_congr rfl fun k _ => ?_)
  refine congrArg₂ (· * ·) (hid_apply x0 x2 r k) (View.ld_unit_apply_of x3 _ _ _ (ix2 k d) _ fun a => match a with
    | ⟨0, _⟩ => by show k.val = 0 + k.val; omega
    | ⟨1, _⟩ => rfl)

end Cert.Proof.Proj.PI

end
-- ==== Proof.ProjHost.lean ====
/- The arrays that the host prepares for the projections' kernel, entry by entry from the arguments. -/
module

public import proofs.«01_k».proof.Proof.ProjSpec
public import proofs.«01_k».proof.Proof.Gen.ProjIdeal.Value
public import Idealize.ShloMosaic.Lib.StableHlo.ReadAt

@[expose] public section

set_option maxHeartbeats 400000

noncomputable section

namespace Cert.Proof.Proj.PI

open Idealize.ShloMosaic Idealize.ShloMosaic.TcCoe Idealize.ShloMosaic.Tactic
open Cert.ProjIdeal Cert.ProjIdeal.Gen Cert.ProjIdeal.Value
open Idealize.SL Idealize.SL.Sem

variable (m : (ℓ : Loc nD τ sig) → Buf (Elt Ideal) ℓ)

/-- The input. -/
abbrev argX (c : Dev nD) : Vec Ideal S32x2048x1024 .f32 := m ((c.tc : Thread nD τ).loc main_arg0)
/-- The input's gain. -/
abbrev argG (c : Dev nD) : Vec Ideal S1024 .f32 := m ((c.tc : Thread nD τ).loc main_arg1)
/-- The input weights. -/
abbrev argW (c : Dev nD) : Vec Ideal S1024x2208 .f32 := m ((c.tc : Thread nD τ).loc main_arg2)
/-- The latent's gain. -/
abbrev argL (c : Dev nD) : Vec Ideal S256 .f32 := m ((c.tc : Thread nD τ).loc main_arg5)

/-- The rows. -/
theorem host_x (c : Dev nD) (R : Fin 65536) (k : Fin 1024) :
    (V m c main_v36 : Vec Ideal S65536x1024 .f32) (ValueIdx.ix2 R k) = argX m c (ValueIdx.ix3 (bat R) (pos R) k) := by
  unfold V
  after_reads_at
  rfl

/-- The input's gain, as a row. -/
theorem host_g (c : Dev nD) (i : Fin 1) (k : Fin 1024) :
    (V m c main_v33 : Vec Ideal S1x1024 .f32) (ValueIdx.ix2 i k) = argG m c (ValueIdx.ix1 k) := by
  unfold V
  after_reads_at
  rfl

/-- The latent's gain, as a row. -/
theorem host_l (c : Dev nD) (i : Fin 1) (k : Fin 256) :
    (V m c main_v35 : Vec Ideal S1x256 .f32) (ValueIdx.ix2 i k) = argL m c (ValueIdx.ix1 k) := by
  unfold V
  after_reads_at
  rfl

/-- The keys' weights, transposed. -/
theorem host_k (c : Dev nD) (i : Fin 512) (k : Fin 1024) :
    (V m c main_v15 : Vec Ideal S512x1024 .bf16) (ValueIdx.ix2 i k) = argW m c (ValueIdx.ix2 k (place 512 (by decide) i)) := by
  unfold V
  after_reads_at
  rfl

/-- The queries' weights. -/
theorem host_wq (c : Dev nD) (k : Fin 1024) (j : Fin 512) :
    (V m c main_v13 : Vec Ideal S1024x1920 .bf16) (ValueIdx.ix2 k ⟨0 + j.val, by omega⟩) = argW m c (ValueIdx.ix2 k (place 0 (by decide) j)) := by
  unfold V
  after_reads_at
  after_reads_at
  refine congrArg (argW m c) (funext fun a => Fin.ext ?_)
  match a with
  | ⟨0, _⟩ => rfl
  | ⟨1, _⟩ => first | rfl | exact (Nat.zero_add _).symm

/-- The values' weights. -/
theorem host_wv (c : Dev nD) (k : Fin 1024) (j : Fin 512) :
    (V m c main_v13 : Vec Ideal S1024x1920 .bf16) (ValueIdx.ix2 k ⟨512 + j.val, by omega⟩) = argW m c (ValueIdx.ix2 k (place 1024 (by decide) j)) := by
  unfold V
  after_reads_at
  after_reads_at
  refine congrArg (argW m c) (funext fun a => Fin.ext ?_)
  match a with
  | ⟨0, _⟩ => rfl
  | ⟨1, _⟩ => first | rfl | exact (Nat.zero_add _).symm

/-- The latents' weights. -/
theorem host_wl (c : Dev nD) (k : Fin 1024) (j : Fin 256) :
    (V m c main_v13 : Vec Ideal S1024x1920 .bf16) (ValueIdx.ix2 k ⟨1408 + j.val, by omega⟩) = argW m c (ValueIdx.ix2 k (place 1920 (by decide) j)) := by
  have h0 : ¬ 1408 + j.val < 512 := by omega
  have h1 : ¬ 1408 + j.val - 512 < 512 := by omega
  have h2 : ¬ 1408 + j.val - 512 - 512 < 384 := by omega
  have h3 : 1408 + j.val - 512 - 512 - 384 < 256 := by omega
  unfold V
  after_reads_at
  after_reads_at
  rw [dif_neg h0, dif_neg h1, dif_neg h2, dif_pos h3]
  have h4 : 1408 + j.val - 512 - 512 - 384 = j.val := by omega
  simp only [h4]
  rfl

end Cert.Proof.Proj.PI

end
-- ==== Proof.ProjRef.lean ====
/- The reference's projections, entry by entry. -/
module

public import proofs.«01_k».proof.Proof.ProjSpec
public import proofs.«01_k».proof.Proof.Gen.ProjReferenceIdeal.Read

@[expose] public section

set_option maxHeartbeats 400000

noncomputable section

namespace Cert.Proof.Proj.RI

open Idealize.ShloMosaic Idealize.ShloMosaic.ValueIdx
open Cert.ProjReferenceIdeal Cert.ProjReferenceIdeal.Gen Cert.ProjReferenceIdeal.Read

variable (x0 : S32x2048x1024.Idx → EReal) (x1 : S1024.Idx → EReal) (x2 : S1024x2208.Idx → EReal) (x5 : S256.Idx → EReal)

/-- A sum that starts at the zero constant. -/
theorem zero_sum (x : EReal) : Ideal.ofBits .f32 0x00000000#32 + x = x := by rw [Ideal.ofBits_zero_f32, zero_add]

/-- The normalised input. -/
theorem hid_at (b : Fin 32) (p : Fin 2048) (k : Fin 1024) :
    val_main_v12 (F := Ideal) x0 x1 (ix3 b p k) = hid (fun k => x0 (ix3 b p k)) (fun k => x1 (ix1 k)) k := by
  have hs : val_main_v1 (F := Ideal) x0 (ix2 b p) = ∑ d : Fin 1024, x0 (ix3 b p d) * x0 (ix3 b p d) := by
    rw [val_main_v1_apply]
    refine (zero_sum _).trans (Finset.sum_congr rfl fun d _ => ?_)
    have e : idx_main_v1 (ix2 b p) d = ix3 b p d := funext fun a => match a with
      | ⟨0, _⟩ => rfl
      | ⟨1, _⟩ => rfl
      | ⟨2, _⟩ => rfl
    rw [e, val_main_v0_apply]
    rfl
  have hr : idx_main_v2 (idx_main_v8 (ix3 b p k)) = ix2 b p := funext fun a => match a with
    | ⟨0, _⟩ => rfl
    | ⟨1, _⟩ => rfl
  have hg : idx_main_v10 (idx_main_v11 (ix3 b p k)) = ix1 k := funext fun a => match a with
    | ⟨0, _⟩ => rfl
  rw [val_main_v12_apply, val_main_v9_apply, val_main_v11_apply, val_main_v10_apply, hg, val_main_v8_apply, val_main_v7_apply,
    val_main_v6_apply, val_main_v4_apply, val_main_v2_apply, hr, hs, val_main_v3_apply, val_main_cst_0_apply, val_main_v5_apply, val_main_cst_1_apply]
  rfl

/-- The product with the input weights. -/
theorem col_at (b : Fin 32) (p : Fin 2048) (c : Fin 2208) :
    val_main_v13 (F := Ideal) x0 x1 x2 (ix3 b p c) = col (fun k => x0 (ix3 b p k)) (fun k => x1 (ix1 k)) (fun k => x2 (ix2 k c)) := by
  rw [val_main_v13_apply]
  refine Finset.sum_congr rfl fun k _ => ?_
  have e1 : lidx_main_v13 (ix3 b p c) k = ix3 b p k := funext fun a => match a with
    | ⟨0, _⟩ => rfl
    | ⟨1, _⟩ => rfl
    | ⟨2, _⟩ => rfl
  have e2 : ridx_main_v13 (ix3 b p c) k = ix2 k c := funext fun a => match a with
    | ⟨0, _⟩ => rfl
    | ⟨1, _⟩ => rfl
  rw [e1, e2, hid_at]

/-- The scaled queries. -/
theorem q_at (R : Fin 65536) (c : Fin 512) :
    val_main_v23 (F := Ideal) x0 x1 x2 (ix2 R c)
      = col (fun k => x0 (ix3 (bat R) (pos R) k)) (fun k => x1 (ix1 k)) (fun k => x2 (ix2 k (place 0 (by decide) c))) * Ideal.ofBits .f32 0x3E38AA3B#32 := by
  have e : idx_main_v14 (idx_main_v23 (ix2 R c)) = ix3 (bat R) (pos R) (place 0 (by decide) c) := funext fun a => Fin.ext (match a with
    | ⟨0, _⟩ => by show (R.val * 512 + c.val) / 1048576 = R.val / 2048; omega
    | ⟨1, _⟩ => by show (R.val * 512 + c.val) / 512 % 2048 = R.val % 2048; omega
    | ⟨2, _⟩ => by show (R.val * 512 + c.val) % 512 = 0 + c.val; omega)
  rw [val_main_v23_apply, val_main_v22_apply, val_main_v21_apply, val_main_v14_apply, e, col_at, val_main_v20_apply, val_main_cst_2_apply]
  rfl

/-- The keys. -/
theorem k_at (b : Fin 32) (c : Fin 512) (p : Fin 2048) :
    val_main_v24 (F := Ideal) x0 x1 x2 (ix3 b c p)
      = col (fun k => x0 (ix3 b p k)) (fun k => x1 (ix1 k)) (fun k => x2 (ix2 k (place 512 (by decide) c))) := by
  have e : idx_main_v15 (idx_main_v24 (ix3 b c p)) = ix3 b p (place 512 (by decide) c) := funext fun a => match a with
    | ⟨0, _⟩ => rfl
    | ⟨1, _⟩ => rfl
    | ⟨2, _⟩ => rfl
  rw [val_main_v24_apply, val_main_v15_apply, e, col_at]

/-- The values. -/
theorem v_at (R : Fin 65536) (h : Fin 4) (j : Fin 128) :
    val_main_v25 (F := Ideal) x0 x1 x2 (ix3 R h j)
      = col (fun k => x0 (ix3 (bat R) (pos R) k)) (fun k => x1 (ix1 k)) (fun k => x2 (ix2 k (place 1024 (by decide) (lane h j)))) := by
  have e : idx_main_v16 (idx_main_v25 (ix3 R h j)) = ix3 (bat R) (pos R) (place 1024 (by decide) (lane h j)) := funext fun a => Fin.ext (match a with
    | ⟨0, _⟩ => by show ((R.val * 4 + h.val) * 128 + j.val) / 1048576 = R.val / 2048; omega
    | ⟨1, _⟩ => by show ((R.val * 4 + h.val) * 128 + j.val) / 512 % 2048 = R.val % 2048; omega
    | ⟨2, _⟩ => by show 1024 + ((R.val * 4 + h.val) * 128 + j.val) % 512 = 1024 + (h.val * 128 + j.val); omega)
  rw [val_main_v25_apply, val_main_v16_apply, e, col_at]

/-- The latents before their norm. -/
theorem raw_at (b : Fin 32) (p : Fin 2048) (c : Fin 256) :
    val_main_v18 (F := Ideal) x0 x1 x2 (ix3 b p c)
      = col (fun k => x0 (ix3 b p k)) (fun k => x1 (ix1 k)) (fun k => x2 (ix2 k (place 1920 (by decide) c))) := by
  have e : idx_main_v18 (ix3 b p c) = ix3 b p (place 1920 (by decide) c) := funext fun a => match a with
    | ⟨0, _⟩ => rfl
    | ⟨1, _⟩ => rfl
    | ⟨2, _⟩ => rfl
  rw [val_main_v18_apply, e, col_at]

/-- The normalised latents. -/
theorem lat_at (R : Fin 65536) (c : Fin 256) :
    val_main_v39 (F := Ideal) x0 x1 x2 x5 (ix2 R c)
      = lat (fun k => x0 (ix3 (bat R) (pos R) k)) (fun k => x1 (ix1 k)) (fun k d => x2 (ix2 k (place 1920 (by decide) d))) (fun d => x5 (ix1 d)) c := by
  have e : idx_main_v39 (ix2 R c) = ix3 (bat R) (pos R) c := funext fun a => Fin.ext (match a with
    | ⟨0, _⟩ => by show (R.val * 256 + c.val) / 524288 = R.val / 2048; omega
    | ⟨1, _⟩ => by show (R.val * 256 + c.val) / 256 % 2048 = R.val % 2048; omega
    | ⟨2, _⟩ => by show (R.val * 256 + c.val) % 256 = c.val; omega)
  generalize bat R = b at *
  generalize pos R = p at *
  have hs : val_main_v27 (F := Ideal) x0 x1 x2 (ix2 b p)
      = ∑ d : Fin 256, col (fun k => x0 (ix3 b p k)) (fun k => x1 (ix1 k)) (fun k => x2 (ix2 k (place 1920 (by decide) d)))
          * col (fun k => x0 (ix3 b p k)) (fun k => x1 (ix1 k)) (fun k => x2 (ix2 k (place 1920 (by decide) d))) := by
    rw [val_main_v27_apply]
    refine (zero_sum _).trans (Finset.sum_congr rfl fun d _ => ?_)
    have e : idx_main_v27 (ix2 b p) d = ix3 b p d := funext fun a => match a with
      | ⟨0, _⟩ => rfl
      | ⟨1, _⟩ => rfl
      | ⟨2, _⟩ => rfl
    rw [e, val_main_v26_apply, raw_at]
    rfl
  have hr : idx_main_v28 (idx_main_v34 (ix3 b p c)) = ix2 b p := funext fun a => match a with
    | ⟨0, _⟩ => rfl
    | ⟨1, _⟩ => rfl
  have hg : idx_main_v36 (idx_main_v37 (ix3 b p c)) = ix1 c := funext fun a => match a with
    | ⟨0, _⟩ => rfl
  rw [val_main_v39_apply, e, val_main_v38_apply, val_main_v35_apply, raw_at, val_main_v37_apply, val_main_v36_apply, hg, val_main_v34_apply,
    val_main_v33_apply, val_main_v32_apply, val_main_v30_apply, val_main_v28_apply, hr, hs, val_main_v29_apply, val_main_cst_4_apply,
    val_main_v31_apply, val_main_cst_5_apply]
  rfl

end Cert.Proof.Proj.RI

end
-- ==== Proof.ProjValue.lean ====
/- The projections' arrays after the kernel's run are the reference's, and the equality of the two runs. -/
module

public import proofs.«01_k».proof.Proof.ProjKer
public import proofs.«01_k».proof.Proof.ProjHost
public import proofs.«01_k».proof.Proof.ProjRef
public import proofs.«01_k».proof.Defs
public import proofs.«01_k».proof.Proof.Gen.Proj.Frame
public import proofs.«01_k».proof.Proof.Gen.ProjReferenceIdeal.Run

@[expose] public section

set_option maxHeartbeats 400000

noncomputable section

namespace Cert.Proof.Proj.PI

open Idealize.ShloMosaic hiding ix1 ix2 ix3
open Idealize.ShloMosaic.TcCoe Idealize.ShloMosaic.Tactic Idealize.ShloMosaic.ValueIdx
open Cert.ProjIdeal Cert.ProjIdeal.Gen Cert.ProjIdeal.Value
open Idealize.SL Idealize.SL.Sem

variable (m : (ℓ : Loc nD τ sig) → Buf (Elt Ideal) ℓ)

/-- There are 128 grid points. -/
theorem lt_points (t : Fin cfg0.N) : t.val < 128 := t.isLt

/-- Row `r` of the block of 512 rows that point `t` computes. -/
def row (t : Fin cfg0.N) (r : Fin 512) : Fin 65536 := ⟨512 * t.val + r.val, by have := lt_points t; omega⟩

/-- Where point `t` reads the rows. -/
theorem at0 : ∀ t : Fin cfg0.N, win0_0.index t 0 = t.val ∧ win0_0.index t 1 = 0 := by decide +kernel

/-- The block of rows that point `t` reads. -/
theorem blk0 (c : Dev nD) (t : Fin cfg0.N) (r : Fin 512) (k : Fin 1024) :
    (iblk m c 0 t : Vec Ideal S512x1024 .f32) (ix2 r k) = argX m c (ix3 (bat (row t r)) (pos (row t r)) k) := by
  have hi := at0 t
  refine Eq.trans ?_ (host_x m c (row t r) k)
  unfold iblk
  rw [View.read_apply]
  show (V m c main_v36 : Vec Ideal S65536x1024 .f32) _ = _
  refine congrArg (V m c main_v36 : Vec Ideal S65536x1024 .f32) (funext fun a => Fin.ext ?_)
  match a with
  | ⟨0, _⟩ => show win0_0.index t 0 * 512 + 1 * r.val = 512 * t.val + r.val; rw [hi.1]; omega
  | ⟨1, _⟩ => show win0_0.index t 1 * 1024 + 1 * k.val = k.val; rw [hi.2]; omega

/-- Where point `t` reads the input's gain. -/
theorem at2 : ∀ t : Fin cfg0.N, win0_2.index t 0 = 0 ∧ win0_2.index t 1 = 0 := by decide +kernel

/-- The input's gain, as point `t` reads it. -/
theorem blk2 (c : Dev nD) (t : Fin cfg0.N) (k : Fin 1024) :
    (iblk m c 2 t : Vec Ideal S1x1024 .f32) (ix2 0 k) = argG m c (ix1 k) := by
  have hi := at2 t
  refine Eq.trans ?_ (host_g m c 0 k)
  unfold iblk
  rw [View.read_apply]
  refine congrArg (V m c main_v33 : Vec Ideal S1x1024 .f32) (funext fun a => Fin.ext ?_)
  match a with
  | ⟨0, _⟩ => show win0_2.index t 0 * 1 + 1 * 0 = 0; rw [hi.1]
  | ⟨1, _⟩ => show win0_2.index t 1 * 1024 + 1 * k.val = k.val; rw [hi.2]; omega

/-- Where point `t` reads the joined weights. -/
theorem at3 : ∀ t : Fin cfg0.N, win0_3.index t 0 = 0 ∧ win0_3.index t 1 = 0 := by decide +kernel

/-- The joined weights, as point `t` reads them. -/
theorem blk3 (c : Dev nD) (t : Fin cfg0.N) (k : Fin 1024) (j : Fin 1920) :
    (iblk m c 3 t : Vec Ideal S1024x1920 .bf16) (ix2 k j) = (V m c main_v13 : Vec Ideal S1024x1920 .bf16) (ix2 k j) := by
  have hi := at3 t
  unfold iblk
  rw [View.read_apply]
  refine congrArg (V m c main_v13 : Vec Ideal S1024x1920 .bf16) (funext fun a => Fin.ext ?_)
  match a with
  | ⟨0, _⟩ => show win0_3.index t 0 * 1024 + 1 * k.val = k.val; rw [hi.1]; omega
  | ⟨1, _⟩ => show win0_3.index t 1 * 1920 + 1 * j.val = j.val; rw [hi.2]; omega

/-- Where point `t` reads the keys' weights. -/
theorem at4 : ∀ t : Fin cfg0.N, win0_4.index t 0 = 0 ∧ win0_4.index t 1 = 0 := by decide +kernel

/-- The keys' weights, as point `t` reads them. -/
theorem blk4 (c : Dev nD) (t : Fin cfg0.N) (i : Fin 512) (k : Fin 1024) :
    (iblk m c 4 t : Vec Ideal S512x1024 .bf16) (ix2 i k) = argW m c (ix2 k (place 512 (by decide) i)) := by
  have hi := at4 t
  refine Eq.trans ?_ (host_k m c i k)
  unfold iblk
  rw [View.read_apply]
  refine congrArg (V m c main_v15 : Vec Ideal S512x1024 .bf16) (funext fun a => Fin.ext ?_)
  match a with
  | ⟨0, _⟩ => show win0_4.index t 0 * 512 + 1 * i.val = i.val; rw [hi.1]; omega
  | ⟨1, _⟩ => show win0_4.index t 1 * 1024 + 1 * k.val = k.val; rw [hi.2]; omega

/-- Where point `t` reads the latent's gain. -/
theorem at8 : ∀ t : Fin cfg0.N, win0_8.index t 0 = 0 ∧ win0_8.index t 1 = 0 := by decide +kernel

/-- The latent's gain, as point `t` reads it. -/
theorem blk8 (c : Dev nD) (t : Fin cfg0.N) (k : Fin 256) :
    (iblk m c 8 t : Vec Ideal S1x256 .f32) (ix2 0 k) = argL m c (ix1 k) := by
  have hi := at8 t
  refine Eq.trans ?_ (host_l m c 0 k)
  unfold iblk
  rw [View.read_apply]
  refine congrArg (V m c main_v35 : Vec Ideal S1x256 .f32) (funext fun a => Fin.ext ?_)
  match a with
  | ⟨0, _⟩ => show win0_8.index t 0 * 1 + 1 * 0 = 0; rw [hi.1]
  | ⟨1, _⟩ => show win0_8.index t 1 * 256 + 1 * k.val = k.val; rw [hi.2]; omega

/-- Where point `t` writes the queries. -/
theorem at11 : ∀ t : Fin cfg0.N, win0_11.index t 0 = t.val ∧ win0_11.index t 1 = 0 := by decide +kernel
/-- Every point writes its queries back. -/
theorem flush11 : ∀ t : Fin cfg0.N, (cfg0.win 11).flush t = true := (by decide +kernel : ∀ t : Fin cfg0.N, win0_11.flush t = true)
/-- Where point `t` writes the keys. -/
theorem at12 : ∀ t : Fin cfg0.N, win0_12.index t 0 = t.val / 4 ∧ win0_12.index t 1 = 0 ∧ win0_12.index t 2 = t.val % 4 := by decide +kernel
/-- Every point writes its keys back. -/
theorem flush12 : ∀ t : Fin cfg0.N, (cfg0.win 12).flush t = true := (by decide +kernel : ∀ t : Fin cfg0.N, win0_12.flush t = true)
/-- Where point `t` writes the values. -/
theorem at14 : ∀ t : Fin cfg0.N, win0_14.index t 0 = t.val ∧ win0_14.index t 1 = 0 ∧ win0_14.index t 2 = 0 := by decide +kernel
/-- Every point writes its values back. -/
theorem flush14 : ∀ t : Fin cfg0.N, (cfg0.win 14).flush t = true := (by decide +kernel : ∀ t : Fin cfg0.N, win0_14.flush t = true)
/-- Where point `t` writes the latents. -/
theorem at17 : ∀ t : Fin cfg0.N, win0_17.index t 0 = t.val ∧ win0_17.index t 1 = 0 := by decide +kernel
/-- Every point writes its latents back. -/
theorem flush17 : ∀ t : Fin cfg0.N, (cfg0.win 17).flush t = true := (by decide +kernel : ∀ t : Fin cfg0.N, win0_17.flush t = true)

/-- The reference's queries, from the kernel's arguments. -/
abbrev wantQ (c : Dev nD) : Vec Ideal S65536x512 .bf16 := Cert.ProjReferenceIdeal.Read.val_main_v23 (F := Ideal) (argX m c) (argG m c) (argW m c)
/-- The reference's keys. -/
abbrev wantK (c : Dev nD) : Vec Ideal S32x512x2048 .f32 := Cert.ProjReferenceIdeal.Read.val_main_v24 (F := Ideal) (argX m c) (argG m c) (argW m c)
/-- The reference's values. -/
abbrev wantV (c : Dev nD) : Vec Ideal S65536x4x128 .f32 := Cert.ProjReferenceIdeal.Read.val_main_v25 (F := Ideal) (argX m c) (argG m c) (argW m c)
/-- The reference's latents. -/
abbrev wantL (c : Dev nD) : Vec Ideal S65536x256 .f32 := Cert.ProjReferenceIdeal.Read.val_main_v39 (F := Ideal) (argX m c) (argG m c) (argW m c) (argL m c)

/-- The block of queries that point `t` computes is the reference's. -/
theorem blockQ (c : Dev nD) (t : Fin cfg0.N) (r l : Fin 512) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r l)
      = wantQ m c (ix2 (row t r) l) := by
  refine (q_apply _ _ _ _ _ _ _ _ _ _ _ r l).trans (Eq.trans ?_ (RI.q_at _ _ _ (row t r) l).symm)
  simp only [blk0 m c t, blk2 m c t, blk3 m c t, host_wq m c]

/-- What point `t` writes of the queries is its block of the reference's. -/
theorem flushedQ (c : Dev nD) (t : Fin cfg0.N) :
    (dats m 0 c).flushed 11 t = ((cfg0.win 11).blk t).view.read (Elt Ideal) (wantQ m c) := by
  rw [flushed11]
  have hi := at11 t
  funext y
  have hy : y = ix2 (n0 := 512) (n1 := 512) (y 0) (y 1) := by
    funext a
    match a with
    | ⟨0, _⟩ => rfl
    | ⟨1, _⟩ => rfl
  rw [View.read_apply]
  refine ((congrArg (out0_11 _ _ _ _ _ _ _ _ _ _ _) hy).trans (blockQ m c t (y 0) (y 1))).trans (congrArg (wantQ m c) ?_)
  funext a
  apply Fin.ext
  match a with
  | ⟨0, _⟩ => show 512 * t.val + (y 0).val = win0_11.index t 0 * 512 + 1 * (y 0).val; rw [hi.1]; omega
  | ⟨1, _⟩ => show (y 1).val = win0_11.index t 1 * 512 + 1 * (y 1).val; rw [hi.2]; omega

/-- The block of keys that point `t` computes is the reference's. -/
theorem blockK (c : Dev nD) (t : Fin cfg0.N) (l r : Fin 512) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 l r)
      = wantK m c (ix3 (bat (row t r)) l (pos (row t r))) := by
  refine (k_apply _ _ _ _ _ _ _ _ _ _ _ l r).trans (Eq.trans ?_ (RI.k_at _ _ _ _ l _).symm)
  simp only [blk0 m c t, blk2 m c t, blk4 m c t]

/-- What point `t` writes of the keys is its block of the reference's. -/
theorem flushedK (c : Dev nD) (t : Fin cfg0.N) :
    (dats m 0 c).flushed 12 t = ((cfg0.win 12).blk t).view.read (Elt Ideal) (wantK m c) := by
  rw [flushed12]
  have hi := at12 t
  funext y
  have hy : y = ix3 (n0 := 1) (n1 := 512) (n2 := 512) 0 (y 1) (y 2) := by
    funext a
    match a with
    | ⟨0, _⟩ => exact Subsingleton.elim (α := Fin 1) _ _
    | ⟨1, _⟩ => rfl
    | ⟨2, _⟩ => rfl
  rw [View.read_apply]
  refine ((congrArg (out0_12 _ _ _ _ _ _ _ _ _ _ _) hy).trans (blockK m c t (y 1) (y 2))).trans (congrArg (wantK m c) ?_)
  have h2 : (y 2).val < 512 := (y 2).isLt
  have h0 : (y 0).val < 1 := (y 0).isLt
  funext a
  apply Fin.ext
  match a with
  | ⟨0, _⟩ => show (512 * t.val + (y 2).val) / 2048 = win0_12.index t 0 * 1 + 1 * (y 0).val; rw [hi.1]; omega
  | ⟨1, _⟩ => show (y 1).val = win0_12.index t 1 * 512 + 1 * (y 1).val; rw [hi.2.1]; omega
  | ⟨2, _⟩ => show (512 * t.val + (y 2).val) % 2048 = win0_12.index t 2 * 512 + 1 * (y 2).val; rw [hi.2.2]; omega

/-- The block of values that point `t` computes is the reference's. -/
theorem blockV (c : Dev nD) (t : Fin cfg0.N) (r : Fin 512) (h : Fin 4) (j : Fin 128) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 r h j)
      = wantV m c (ix3 (row t r) h j) := by
  refine (v_apply _ _ _ _ _ _ _ _ _ _ _ r h j).trans (Eq.trans ?_ (RI.v_at _ _ _ (row t r) h j).symm)
  simp only [blk0 m c t, blk2 m c t, blk3 m c t, host_wv m c]

/-- What point `t` writes of the values is its block of the reference's. -/
theorem flushedV (c : Dev nD) (t : Fin cfg0.N) :
    (dats m 0 c).flushed 14 t = ((cfg0.win 14).blk t).view.read (Elt Ideal) (wantV m c) := by
  rw [flushed14]
  have hi := at14 t
  funext y
  have hy : y = ix3 (n0 := 512) (n1 := 4) (n2 := 128) (y 0) (y 1) (y 2) := by
    funext a
    match a with
    | ⟨0, _⟩ => rfl
    | ⟨1, _⟩ => rfl
    | ⟨2, _⟩ => rfl
  rw [View.read_apply]
  refine ((congrArg (out0_14 _ _ _ _ _ _ _ _ _ _ _) hy).trans (blockV m c t (y 0) (y 1) (y 2))).trans (congrArg (wantV m c) ?_)
  funext a
  apply Fin.ext
  match a with
  | ⟨0, _⟩ => show 512 * t.val + (y 0).val = win0_14.index t 0 * 512 + 1 * (y 0).val; rw [hi.1]; omega
  | ⟨1, _⟩ => show (y 1).val = win0_14.index t 1 * 4 + 1 * (y 1).val; rw [hi.2.1]; omega
  | ⟨2, _⟩ => show (y 2).val = win0_14.index t 2 * 128 + 1 * (y 2).val; rw [hi.2.2]; omega

/-- The block of latents that point `t` computes is the reference's. -/
theorem blockL (c : Dev nD) (t : Fin cfg0.N) (r : Fin 512) (l : Fin 256) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r l)
      = wantL m c (ix2 (row t r) l) := by
  refine (l_apply _ _ _ _ _ _ _ _ _ _ _ r l).trans (Eq.trans ?_ (RI.lat_at _ _ _ _ (row t r) l).symm)
  simp only [blk0 m c t, blk2 m c t, blk3 m c t, blk8 m c t, host_wl m c]

/-- What point `t` writes of the latents is its block of the reference's. -/
theorem flushedL (c : Dev nD) (t : Fin cfg0.N) :
    (dats m 0 c).flushed 17 t = ((cfg0.win 17).blk t).view.read (Elt Ideal) (wantL m c) := by
  rw [flushed17]
  have hi := at17 t
  funext y
  have hy : y = ix2 (n0 := 512) (n1 := 256) (y 0) (y 1) := by
    funext a
    match a with
    | ⟨0, _⟩ => rfl
    | ⟨1, _⟩ => rfl
  rw [View.read_apply]
  refine ((congrArg (out0_17 _ _ _ _ _ _ _ _ _ _ _) hy).trans (blockL m c t (y 0) (y 1))).trans (congrArg (wantL m c) ?_)
  funext a
  apply Fin.ext
  match a with
  | ⟨0, _⟩ => show 512 * t.val + (y 0).val = win0_17.index t 0 * 512 + 1 * (y 0).val; rw [hi.1]; omega
  | ⟨1, _⟩ => show (y 1).val = win0_17.index t 1 * 256 + 1 * (y 1).val; rw [hi.2]; omega

/-- Every index of the queries lies in the block of the point of its row. -/
theorem coverQ (i : S65536x512.Idx) : ∃ t : Fin cfg0.N, (cfg0.win 11).flush t = true ∧ i ∈ ((cfg0.win 11).blk t).view.set := by
  have h0 : (i 0).val < 65536 := (i 0).isLt
  have h1 : (i 1).val < 512 := (i 1).isLt
  obtain ⟨t, ht⟩ : ∃ t : Fin cfg0.N, t.val = (i 0).val / 512 := ⟨⟨(i 0).val / 512, lt_of_lt_of_eq (by omega) N_0.symm⟩, rfl⟩
  refine ⟨t, flush11 t, ?_⟩
  have hi := at11 t
  show i ∈ ((View.whole (Pipeline.arrRef spec0 11)).slice (win0_11.rect t)).set
  rw [View.set_slice_whole, Rect.mem_set_unit]
  intro a
  match a with
  | ⟨0, _⟩ => show win0_11.index t 0 * 512 ≤ (i 0).val ∧ (i 0).val < win0_11.index t 0 * 512 + 512; rw [hi.1]; omega
  | ⟨1, _⟩ => show win0_11.index t 1 * 512 ≤ (i 1).val ∧ (i 1).val < win0_11.index t 1 * 512 + 512; rw [hi.2]; omega

/-- Every index of the keys lies in the block of the point of its batch and position. -/
theorem coverK (i : S32x512x2048.Idx) : ∃ t : Fin cfg0.N, (cfg0.win 12).flush t = true ∧ i ∈ ((cfg0.win 12).blk t).view.set := by
  have h0 : (i 0).val < 32 := (i 0).isLt
  have h1 : (i 1).val < 512 := (i 1).isLt
  have h2 : (i 2).val < 2048 := (i 2).isLt
  obtain ⟨t, ht⟩ : ∃ t : Fin cfg0.N, t.val = 4 * (i 0).val + (i 2).val / 512 := ⟨⟨4 * (i 0).val + (i 2).val / 512, lt_of_lt_of_eq (by omega) N_0.symm⟩, rfl⟩
  refine ⟨t, flush12 t, ?_⟩
  have hi := at12 t
  show i ∈ ((View.whole (Pipeline.arrRef spec0 12)).slice (win0_12.rect t)).set
  rw [View.set_slice_whole, Rect.mem_set_unit]
  intro a
  match a with
  | ⟨0, _⟩ => show win0_12.index t 0 * 1 ≤ (i 0).val ∧ (i 0).val < win0_12.index t 0 * 1 + 1; rw [hi.1]; omega
  | ⟨1, _⟩ => show win0_12.index t 1 * 512 ≤ (i 1).val ∧ (i 1).val < win0_12.index t 1 * 512 + 512; rw [hi.2.1]; omega
  | ⟨2, _⟩ => show win0_12.index t 2 * 512 ≤ (i 2).val ∧ (i 2).val < win0_12.index t 2 * 512 + 512; rw [hi.2.2]; omega

/-- Every index of the values lies in the block of the point of its row. -/
theorem coverV (i : S65536x4x128.Idx) : ∃ t : Fin cfg0.N, (cfg0.win 14).flush t = true ∧ i ∈ ((cfg0.win 14).blk t).view.set := by
  have h0 : (i 0).val < 65536 := (i 0).isLt
  have h1 : (i 1).val < 4 := (i 1).isLt
  have h2 : (i 2).val < 128 := (i 2).isLt
  obtain ⟨t, ht⟩ : ∃ t : Fin cfg0.N, t.val = (i 0).val / 512 := ⟨⟨(i 0).val / 512, lt_of_lt_of_eq (by omega) N_0.symm⟩, rfl⟩
  refine ⟨t, flush14 t, ?_⟩
  have hi := at14 t
  show i ∈ ((View.whole (Pipeline.arrRef spec0 14)).slice (win0_14.rect t)).set
  rw [View.set_slice_whole, Rect.mem_set_unit]
  intro a
  match a with
  | ⟨0, _⟩ => show win0_14.index t 0 * 512 ≤ (i 0).val ∧ (i 0).val < win0_14.index t 0 * 512 + 512; rw [hi.1]; omega
  | ⟨1, _⟩ => show win0_14.index t 1 * 4 ≤ (i 1).val ∧ (i 1).val < win0_14.index t 1 * 4 + 4; rw [hi.2.1]; omega
  | ⟨2, _⟩ => show win0_14.index t 2 * 128 ≤ (i 2).val ∧ (i 2).val < win0_14.index t 2 * 128 + 128; rw [hi.2.2]; omega

/-- Every index of the latents lies in the block of the point of its row. -/
theorem coverL (i : S65536x256.Idx) : ∃ t : Fin cfg0.N, (cfg0.win 17).flush t = true ∧ i ∈ ((cfg0.win 17).blk t).view.set := by
  have h0 : (i 0).val < 65536 := (i 0).isLt
  have h1 : (i 1).val < 256 := (i 1).isLt
  obtain ⟨t, ht⟩ : ∃ t : Fin cfg0.N, t.val = (i 0).val / 512 := ⟨⟨(i 0).val / 512, lt_of_lt_of_eq (by omega) N_0.symm⟩, rfl⟩
  refine ⟨t, flush17 t, ?_⟩
  have hi := at17 t
  show i ∈ ((View.whole (Pipeline.arrRef spec0 17)).slice (win0_17.rect t)).set
  rw [View.set_slice_whole, Rect.mem_set_unit]
  intro a
  match a with
  | ⟨0, _⟩ => show win0_17.index t 0 * 512 ≤ (i 0).val ∧ (i 0).val < win0_17.index t 0 * 512 + 512; rw [hi.1]; omega
  | ⟨1, _⟩ => show win0_17.index t 1 * 256 ≤ (i 1).val ∧ (i 1).val < win0_17.index t 1 * 256 + 256; rw [hi.2]; omega

/-- The queries after the run are the reference's. -/
theorem finalQ (c : Dev nD) : (dats m 0 c).arrAt 11 cfg0.N = wantQ m c :=
  (dats m 0 c).arrAt_eq_of_cover 11 _ (fun t _ => flushedQ m c t) coverQ
/-- The keys after the run are the reference's. -/
theorem finalK (c : Dev nD) : (dats m 0 c).arrAt 12 cfg0.N = wantK m c :=
  (dats m 0 c).arrAt_eq_of_cover 12 _ (fun t _ => flushedK m c t) coverK
/-- The values after the run are the reference's. -/
theorem finalV (c : Dev nD) : (dats m 0 c).arrAt 14 cfg0.N = wantV m c :=
  (dats m 0 c).arrAt_eq_of_cover 14 _ (fun t _ => flushedV m c t) coverV
/-- The latents after the run are the reference's. -/
theorem finalL (c : Dev nD) : (dats m 0 c).arrAt 17 cfg0.N = wantL m c :=
  (dats m 0 c).arrAt_eq_of_cover 17 _ (fun t _ => flushedL m c t) coverL

end Cert.Proof.Proj.PI

namespace Cert.Proof.Proj

open Idealize.ShloMosaic Idealize.ShloMosaic.TcCoe Idealize.ShloMosaic.Tactic
open Idealize.SL Idealize.SL.Sem

/-- The projections run to their end, leaving their arguments. -/
theorem frame_p : Cert.quiescent_Proj := fun m ρ _ => Cert.Proj.Gen.frame m ρ
/-- So does their form over the reals. -/
theorem frame_pi : Cert.quiescent_ProjIdeal := fun m ρ _ => Cert.ProjIdeal.Gen.frame m ρ
/-- So does their reference over the reals. -/
theorem frame_ri : Cert.quiescent_ProjReferenceIdeal := fun m ρ _ =>
  (θ_run Cert.ProjReferenceIdeal.defs _ _).mono (fun r h => ⟨fun c => (h c).2.2.2.2, Idealize.ShloMosaic.sem_eq_zero_of_no_sems (by decide) r.2⟩)
    (Cert.ProjReferenceIdeal.Value.run (F := Ideal) m ρ)
/-- The projections' form over the reals is the projections themselves. -/
theorem preserves : Cert.preserves_Proj_ProjIdeal := trivial

/-- Over the extended reals the projections compute what their reference does. -/
theorem algebraic : Cert.algebraic_ProjIdeal_ProjReferenceIdeal := by
  intro m ρ m' ρ' hpre hagree
  refine ⟨fun c => PI.wantQ m c, fun c => PI.wantK m c, fun c => PI.wantV m c, fun c => PI.wantL m c, ?_, ?_⟩
  · refine (θ_run Cert.ProjIdeal.defs _ _).mono (fun _ h c => ?_) (Cert.ProjIdeal.Value.run_blocks (F := Ideal) m ρ)
    obtain ⟨hq, hk, _, hv, _, _, hl, _, _, _, ha⟩ := h c
    exact ⟨hq.trans (PI.finalQ m c), hk.trans (PI.finalK m c), hv.trans (PI.finalV m c), hl.trans (PI.finalL m c), ha⟩
  · refine (θ_run Cert.ProjReferenceIdeal.defs _ _).mono (fun _ h c => ?_) (Cert.ProjReferenceIdeal.Value.run (F := Ideal) m' ρ')
    obtain ⟨hq, hk, hv, hl, ha⟩ := h c
    obtain ⟨e0, e1, e2, e3, e4, e5, e6, e7⟩ := hagree c
    refine ⟨hq.trans ?_, hk.trans ?_, hv.trans ?_, hl.trans ?_, ha⟩
    · rw [Cert.ProjReferenceIdeal.Read.val_main_v23_eq, e0, e1, e2]
    · rw [Cert.ProjReferenceIdeal.Read.val_main_v24_eq, e0, e1, e2]
    · rw [Cert.ProjReferenceIdeal.Read.val_main_v25_eq, e0, e1, e2]
    · rw [Cert.ProjReferenceIdeal.Read.val_main_v39_eq, e0, e1, e2, e5]

end Cert.Proof.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailReferenceIdeal
public import proofs.«01_k».proof.Proof.Gen.TailIdeal.Value
public import proofs.«01_k».proof.Proof.Gen.TailReferenceIdeal.Run
public import proofs.«01_k».proof.Proof.Gen.TailReferenceIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjReferenceIdeal
public import proofs.«01_k».proof.Proof.Gen.ProjIdeal.Value
public import proofs.«01_k».proof.Proof.Gen.ProjReferenceIdeal.Run
public import proofs.«01_k».proof.Proof.Gen.ProjReferenceIdeal.Read
public import proofs.«01_k».proof.Proof.Claims
public import proofs.«01_k».proof.Proof.Value
public import proofs.«01_k».proof.Proof.TailValue
public import proofs.«01_k».proof.Proof.ProjValue
public import Idealize.ShloMosaic.Adequacy
public import Idealize.ShloMosaic.Init

@[expose] public section

noncomputable section

namespace Cert.Proof

open Idealize.ShloMosaic Idealize.SL.Sem Cert.Kernel

/-- Every claim of the kernel. -/
theorem claim : Cert.Claim := ⟨Cert.Kernel.Gen.facts, Cert.KernelIdeal.Gen.facts, Cert.ReferenceIdeal.Gen.facts,
  Cert.Tail.Gen.facts, Cert.TailIdeal.Gen.facts, Cert.TailReferenceIdeal.Gen.facts,
  Cert.Proj.Gen.facts, Cert.ProjIdeal.Gen.facts, Cert.ProjReferenceIdeal.Gen.facts, preFacts,
  frame_p, frame_pi, frame_pi_pre, frame_ri, frame_ri_pre, Tail.frame_p, Tail.frame_pi, Tail.frame_ri,
  Proj.frame_p, Proj.frame_pi, Proj.frame_ri,
  preserves, algebraic, Tail.preserves, Tail.algebraic,
  Proj.preserves, Proj.algebraic⟩

end Cert.Proof

end
